-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v3_0)) (v2 : (c : Dev Cert.Kernel3Ideal.nD) → Buf (Elt Ideal) ((c.tc : Thread Cert.Kernel3Ideal.nD Cert.Kernel3Ideal.τ).loc Cert.Kernel3Ideal.main_v3_1)) (v3 : (c : Dev Cert.Kernel3Ideal.nD) → Buf (Elt Ideal) ((c.tc : Thread Cert.Kernel3Ideal.nD Cert.Kernel3Ideal.τ).loc Cert.Kernel3Ideal.main_v6)) (v4 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v3_0) = v1 c
          ∧ r.2.mem ((c.tc : Thread Cert.Kernel3Ideal.nD Cert.Kernel3Ideal.τ).loc Cert.Kernel3Ideal.main_v3_1) = v2 c
          ∧ r.2.mem ((c.tc : Thread Cert.Kernel3Ideal.nD Cert.Kernel3Ideal.τ).loc Cert.Kernel3Ideal.main_v6) = v3 c
          ∧ r.2.mem ((c.tc : Thread Cert.Kernel3Ideal.nD Cert.Kernel3Ideal.τ).loc Cert.Kernel3Ideal.main_v8) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v10)) (v3 : (c : Dev Cert.Kernel4Ideal.nD) → Buf (Elt Ideal) ((c.tc : Thread Cert.Kernel4Ideal.nD Cert.Kernel4Ideal.τ).loc Cert.Kernel4Ideal.main_v12)) (v4 : (c : Dev Cert.Kernel4Ideal.nD) → Buf (Elt Ideal) ((c.tc : Thread Cert.Kernel4Ideal.nD Cert.Kernel4Ideal.τ).loc Cert.Kernel4Ideal.main_v14)) (v5 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v10) = v2 c
          ∧ r.2.mem ((c.tc : Thread Cert.Kernel4Ideal.nD Cert.Kernel4Ideal.τ).loc Cert.Kernel4Ideal.main_v12) = v3 c
          ∧ r.2.mem ((c.tc : Thread Cert.Kernel4Ideal.nD Cert.Kernel4Ideal.τ).loc Cert.Kernel4Ideal.main_v14) = v4 c
          ∧ r.2.mem ((c.tc : Thread Cert.Kernel4Ideal.nD Cert.Kernel4Ideal.τ).loc Cert.Kernel4Ideal.main_v16) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v60) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v7)) (v3 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v7) = v2 c
          ∧ r.2.mem ((c.tc : Thread Cert.Kernel5Ideal.nD Cert.Kernel5Ideal.τ).loc Cert.Kernel5Ideal.main_v9) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v67) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v9_2)) (v1 : (c : Dev Cert.Kernel6Ideal.nD) → Buf (Elt Ideal) ((c.tc : Thread Cert.Kernel6Ideal.nD Cert.Kernel6Ideal.τ).loc Cert.Kernel6Ideal.main_v9_3)) (v2 : (c : Dev Cert.Kernel6Ideal.nD) → Buf (Elt Ideal) ((c.tc : Thread Cert.Kernel6Ideal.nD Cert.Kernel6Ideal.τ).loc Cert.Kernel6Ideal.main_v9_4)) (v3 : (c : Dev Cert.Kernel6Ideal.nD) → Buf (Elt Ideal) ((c.tc : Thread Cert.Kernel6Ideal.nD Cert.Kernel6Ideal.τ).loc Cert.Kernel6Ideal.main_v9_5)) (v4 : (c : Dev Cert.Kernel6Ideal.nD) → Buf (Elt Ideal) ((c.tc : Thread Cert.Kernel6Ideal.nD Cert.Kernel6Ideal.τ).loc Cert.Kernel6Ideal.main_v12_0)) (v5 : (c : Dev Cert.Kernel6Ideal.nD) → Buf (Elt Ideal) ((c.tc : Thread Cert.Kernel6Ideal.nD Cert.Kernel6Ideal.τ).loc Cert.Kernel6Ideal.main_v12_1)) (v6 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_2) = v0 c
          ∧ r.2.mem ((c.tc : Thread Cert.Kernel6Ideal.nD Cert.Kernel6Ideal.τ).loc Cert.Kernel6Ideal.main_v9_3) = v1 c
          ∧ r.2.mem ((c.tc : Thread Cert.Kernel6Ideal.nD Cert.Kernel6Ideal.τ).loc Cert.Kernel6Ideal.main_v9_4) = v2 c
          ∧ r.2.mem ((c.tc : Thread Cert.Kernel6Ideal.nD Cert.Kernel6Ideal.τ).loc Cert.Kernel6Ideal.main_v9_5) = v3 c
          ∧ r.2.mem ((c.tc : Thread Cert.Kernel6Ideal.nD Cert.Kernel6Ideal.τ).loc Cert.Kernel6Ideal.main_v12_0) = v4 c
          ∧ r.2.mem ((c.tc : Thread Cert.Kernel6Ideal.nD Cert.Kernel6Ideal.τ).loc Cert.Kernel6Ideal.main_v12_1) = v5 c
          ∧ r.2.mem ((c.tc : Thread Cert.Kernel6Ideal.nD Cert.Kernel6Ideal.τ).loc Cert.Kernel6Ideal.main_v12_2) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v75) = v0 c
          ∧ r.2.mem ((c.tc : Thread Cert.Reference6Ideal.nD Cert.Reference6Ideal.τ).loc Cert.Reference6Ideal.main_v76) = v1 c
          ∧ r.2.mem ((c.tc : Thread Cert.Reference6Ideal.nD Cert.Reference6Ideal.τ).loc Cert.Reference6Ideal.main_v44) = v2 c
          ∧ r.2.mem ((c.tc : Thread Cert.Reference6Ideal.nD Cert.Reference6Ideal.τ).loc Cert.Reference6Ideal.main_v77) = v3 c
          ∧ r.2.mem ((c.tc : Thread Cert.Reference6Ideal.nD Cert.Reference6Ideal.τ).loc Cert.Reference6Ideal.main_v78) = v4 c
          ∧ r.2.mem ((c.tc : Thread Cert.Reference6Ideal.nD Cert.Reference6Ideal.τ).loc Cert.Reference6Ideal.main_v79) = v5 c
          ∧ r.2.mem ((c.tc : Thread Cert.Reference6Ideal.nD Cert.Reference6Ideal.τ).loc Cert.Reference6Ideal.main_v80) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v10)) (v2 : (c : Dev Cert.Kernel7Ideal.nD) → Buf (Elt Ideal) ((c.tc : Thread Cert.Kernel7Ideal.nD Cert.Kernel7Ideal.τ).loc Cert.Kernel7Ideal.main_v12)) (v3 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v10) = v1 c
          ∧ r.2.mem ((c.tc : Thread Cert.Kernel7Ideal.nD Cert.Kernel7Ideal.τ).loc Cert.Kernel7Ideal.main_v12) = v2 c
          ∧ r.2.mem ((c.tc : Thread Cert.Kernel7Ideal.nD Cert.Kernel7Ideal.τ).loc Cert.Kernel7Ideal.main_v14) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_v35) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v3) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v163) = v0 c
          ∧ r.2.mem ((c.tc : Thread Cert.Reference9Ideal.nD Cert.Reference9Ideal.τ).loc Cert.Reference9Ideal.main_v61) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts) (hPre_finite4 : Cert.Pre_finite4.Facts) (hPre_finite5 : Cert.Pre_finite5.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x1024 : Shape := ⟨2, ![4096, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S4096x1024 .f32) (main_arg1 : FVec F S1x1024x5632 .f32) (main_arg2 : FVec F S1x2816x1024 .f32) (main_arg3 : FVec F S4096x1024 .f32) : IVec S4096x1024 1 × IVec S1x1024x5632 1 × IVec S1x2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024x5632 .f32 := Host.absf main_arg1
  let main_cst_0 : FVec F S_ .f32 := constant S_ .f32 0x7F800000#32
  let main_v4 : FVec F S1x1024x5632 .f32 := broadcastInDim S1x1024x5632 ![] bcast_S_S1x1024x5632 main_cst_0
  let main_v5 : IVec S1x1024x5632 1 := cmpf .olt main_v3 main_v4
  let main_v6 : FVec F S1x2816x1024 .f32 := Host.absf main_arg2
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite3.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S1x2816x1024 : S_.BroadcastsInDim S1x2816x1024 (![] : Fin 0 → Fin S1x2816x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x2816 .f32) (main_arg2 : FVec F S1x2816x1024 .f32) (main_arg3 : FVec F S1x1024 .f32) (main_arg4 : FVec F S1x1024 .f32) (main_arg5 : FVec F S4096x1024 .f32) : IVec S4096x1024 1 × IVec S4096x2816 1 × IVec S1x2816x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1x2816x1024 .f32 := Host.absf main_arg2
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite4.lean ====
abbrev S4096x1024 : Shape := ⟨2, ![4096, 1024]⟩
abbrev S1x1024 : Shape := ⟨2, ![1, 1024]⟩
abbrev S1x1024x5632 : Shape := ⟨3, ![1, 1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S4096x5632 : S_.BroadcastsInDim S4096x5632 (![] : Fin 0 → Fin S4096x5632.rank)

variable [Facts]

def fn_part1 {F : FTy → Type} [FloatOps F] (main_arg6 : FVec F S4096x1024 .f32) (main_arg7 : FVec F S4096x5632 .f32) (main_v2 : IVec S4096x1024 1) (main_v5 : IVec S4096x1024 1) (main_v8 : IVec S1x1024 1) (main_v11 : IVec S1x1024 1) (main_v14 : IVec S1x1024 1) (main_v17 : IVec S1x1024x5632 1) : IVec S4096x1024 1 × IVec S4096x1024 1 × IVec S1x1024 1 × IVec S1x1024 1 × IVec S1x1024 1 × IVec S1x1024x5632 1 × IVec S4096x1024 1 × IVec S4096x5632 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x5632 .f32 := Host.absf main_arg7
  let main_cst_6 : FVec F S_ .f32 := constant S_ .f32 0x7F800000#32
  let main_v22 : FVec F S4096x5632 .f32 := broadcastInDim S4096x5632 ![] bcast_S_S4096x5632 main_cst_6
  let main_v23 : IVec S4096x5632 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1x1024 .f32) (main_arg5 : FVec F S1x1024x5632 .f32) (main_arg6 : FVec F S4096x1024 .f32) (main_arg7 : FVec F S4096x5632 .f32) : IVec S4096x1024 1 × IVec S4096x1024 1 × IVec S1x1024 1 × IVec S1x1024 1 × IVec S1x1024 1 × IVec S1x1024x5632 1 × IVec S4096x1024 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024x5632 .f32 := Host.absf main_arg5
  let main_cst_4 : FVec F S_ .f32 := constant S_ .f32 0x7F800000#32
  let main_v16 : FVec F S1x1024x5632 .f32 := broadcastInDim S1x1024x5632 ![] bcast_S_S1x1024x5632 main_cst_4
  let main_v17 : IVec S1x1024x5632 1 := cmpf .olt main_v15 main_v16
  fn_part1 (F := F) main_arg6 main_arg7 main_v2 main_v5 main_v8 main_v11 main_v14 main_v17
-- ==== Pre_finite5.lean ====
abbrev S4096x512 : Shape := ⟨2, ![4096, 512]⟩
abbrev S1x512 : Shape := ⟨2, ![1, 512]⟩
abbrev S1x512x1024 : Shape := ⟨3, ![1, 512, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S1x512x1024 : S_.BroadcastsInDim S1x512x1024 (![] : Fin 0 → Fin S1x512x1024.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S1x512 .f32) (main_arg2 : FVec F S1x512 .f32) (main_arg3 : FVec F S1x512x1024 .f32) (main_arg4 : FVec F S4096x1024 .f32) : IVec S4096x512 1 × IVec S1x512 1 × IVec S1x512 1 × IVec S1x512x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512x1024 .f32 := Host.absf main_arg3
  let main_cst_2 : FVec F S_ .f32 := constant S_ .f32 0x7F800000#32
  let main_v10 : FVec F S1x512x1024 .f32 := broadcastInDim S1x512x1024 ![] bcast_S_S1x512x1024 main_cst_2
  let main_v11 : IVec S1x512x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite7.lean ====
abbrev S4096x1024 : Shape := ⟨2, ![4096, 1024]⟩
abbrev S1x1024 : Shape := ⟨2, ![1, 1024]⟩
abbrev S1x1024x3584 : Shape := ⟨3, ![1, 1024, 3584]⟩
abbrev S4096x512 : Shape := ⟨2, ![4096, 512]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x3584 : S_.BroadcastsInDim S1x1024x3584 (![] : Fin 0 → Fin S1x1024x3584.rank)
  bcast_S_S4096x512 : S_.BroadcastsInDim S4096x512 (![] : Fin 0 → Fin S4096x512.rank)
  bcast_S_S4096x2048 : S_.BroadcastsInDim S4096x2048 (![] : Fin 0 → Fin S4096x2048.rank)

variable [Facts]

def fn_part1 {F : FTy → Type} [FloatOps F] (main_arg6 : FVec F S4096x512 .f32) (main_arg7 : FVec F S4096x2048 .f32) (main_v2 : IVec S4096x1024 1) (main_v5 : IVec S1x1024 1) (main_v8 : IVec S1x1024 1) (main_v11 : IVec S1x1024x3584 1) (main_v14 : IVec S4096x1024 1) (main_v17 : IVec S4096x1024 1) : IVec S4096x1024 1 × IVec S1x1024 1 × IVec S1x1024 1 × IVec S1x1024x3584 1 × IVec S4096x1024 1 × IVec S4096x1024 1 × IVec S4096x512 1 × IVec S4096x2048 1 :=
  let main_v18 : FVec F S4096x512 .f32 := Host.absf main_arg6
  let main_cst_5 : FVec F S_ .f32 := constant S_ .f32 0x7F800000#32
  let main_v19 : FVec F S4096x512 .f32 := broadcastInDim S4096x512 ![] bcast_S_S4096x512 main_cst_5
  let main_v20 : IVec S4096x512 1 := cmpf .olt main_v18 main_v19
  let main_v21 : FVec F S4096x2048 .f32 := Host.absf main_arg7
  let main_cst_6 : FVec F S_ .f32 := constant S_ .f32 0x7F800000#32
  let main_v22 : FVec F S4096x2048 .f32 := broadcastInDim S4096x2048 ![] bcast_S_S4096x2048 main_cst_6
  let main_v23 : IVec S4096x2048 1 := cmpf .olt main_v21 main_v22
  (main_v2, main_v5, main_v8, main_v11, main_v14, main_v17, main_v20, main_v23)

def fn {F : FTy → Type} [FloatOps F] (main_arg0 : FVec F S4096x1024 .f32) (main_arg1 : FVec F S1x1024 .f32) (main_arg2 : FVec F S1x1024 .f32) (main_arg3 : FVec F S1x1024x3584 .f32) (main_arg4 : FVec F S4096x1024 .f32) (main_arg5 : FVec F S4096x1024 .f32) (main_arg6 : FVec F S4096x512 .f32) (main_arg7 : FVec F S4096x2048 .f32) : IVec S4096x1024 1 × IVec S1x1024 1 × IVec S1x1024 1 × IVec S1x1024x3584 1 × IVec S4096x1024 1 × IVec S4096x1024 1 × IVec S4096x512 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x3584 .f32 := Host.absf main_arg3
  let main_cst_2 : FVec F S_ .f32 := constant S_ .f32 0x7F800000#32
  let main_v10 : FVec F S1x1024x3584 .f32 := broadcastInDim S1x1024x3584 ![] bcast_S_S1x1024x3584 main_cst_2
  let main_v11 : IVec S1x1024x3584 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Kernel.lean ====
abbrev S4096x1024 : Shape := ⟨2, ![4096, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1024x1408 : Shape := ⟨2, ![1024, 1408]⟩
abbrev S512x1408 : Shape := ⟨2, ![512, 1408]⟩
abbrev S2816x1024 : Shape := ⟨2, ![2816, 1024]⟩
abbrev S_ : Shape := ⟨0, ![]⟩
abbrev S8x128 : Shape := ⟨2, ![8, 128]⟩
abbrev S1408x1024 : Shape := ⟨2, ![1408, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024x5632, .f32⟩
  | .hbm, ⟨2, _⟩ => ⟨S1x2816x1024, .f32⟩
  | .hbm, ⟨3, _⟩ => ⟨S4096x1024, .f32⟩
  | .hbm, ⟨4, _⟩ => ⟨S4096x1024, .bf16⟩
  | .hbm, ⟨5, _⟩ => ⟨S1024x5632, .f32⟩
  | .hbm, ⟨6, _⟩ => ⟨S1024x5632, .bf16⟩
  | .hbm, ⟨7, _⟩ => ⟨S4096x5632, .bf16⟩
  | .hbm, ⟨8, _⟩ => ⟨S4096x2816, .bf16⟩
  | .hbm, ⟨9, _⟩ => ⟨S4096x1024, .bf16⟩
  | .hbm, ⟨10, _⟩ => ⟨S2816x1024, .f32⟩
  | .hbm, ⟨11, _⟩ => ⟨S2816x1024, .bf16⟩
  | .hbm, ⟨12, _⟩ => ⟨S_, .f32⟩
  | .hbm, ⟨13, _⟩ => ⟨S8x128, .f32⟩
  | .hbm, ⟨14, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1024x5632, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .bf16⟩
  | .local _ .vmem, ⟨8, _⟩ => ⟨S512x1024, .bf16⟩
  | .local _ .vmem, ⟨9, _⟩ => ⟨S2816x1024, .bf16⟩
  | .local _ .vmem, ⟨10, _⟩ => ⟨S512x5632, .bf16⟩
  | .local _ .vmem, ⟨11, _⟩ => ⟨S512x5632, .bf16⟩
  | .local _ .vmem, ⟨12, _⟩ => ⟨S512x5632, .bf16⟩
  | .local _ .vmem, ⟨13, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x1024 : Shape := ⟨2, ![4096, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S2816x1024 : Shape := ⟨2, ![2816, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x5632, .f32⟩
  | .hbm, ⟨2, _⟩ => ⟨S1x2816x1024, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S2816x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x5632, .f32⟩
  | .hbm, ⟨32, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S2816x1024 : Shape := ⟨2, ![2816, 1024]⟩
abbrev S8x128 : Shape := ⟨2, ![8, 128]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 22
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .bf16⟩
  | .hbm, ⟨7, _⟩ => ⟨S2816x1024, .f32⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S8x128, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S_, .f32⟩
  | .hbm, ⟨20, _⟩ => ⟨S1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | .local _ .vmem, ⟨14, _⟩ => ⟨S8x1024, .f32⟩
  | .local _ .vmem, ⟨15, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x1024 : Shape := ⟨2, ![4096, 1024]⟩
abbrev S4096x2816 : Shape := ⟨2, ![4096, 2816]⟩
abbrev S1x2816x1024 : Shape := ⟨3, ![1, 2816, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1x1024x5632 : Shape := ⟨3, ![1, 1024, 5632]⟩
abbrev S4096x5632 : Shape := ⟨2, ![4096, 5632]⟩
abbrev S1024x5632 : Shape := ⟨2, ![1024, 5632]⟩
abbrev S_ : Shape := ⟨0, ![]⟩
abbrev S8x128 : Shape := ⟨2, ![8, 128]⟩
abbrev S8x1024 : Shape := ⟨2, ![8, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S4096x1024, .f32⟩
  | .hbm, ⟨7, _⟩ => ⟨S4096x5632, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x5632, .bf16⟩
  | .hbm, ⟨12, _⟩ => ⟨S1024x5632, .f32⟩
  | .hbm, ⟨13, _⟩ => ⟨S1024x5632, .bf16⟩
  | .hbm, ⟨14, _⟩ => ⟨S4096x1024, .bf16⟩
  | .hbm, ⟨15, _⟩ => ⟨S_, .f32⟩
  | .hbm, ⟨16, _⟩ => ⟨S8x128, .f32⟩
  | .hbm, ⟨17, _⟩ => ⟨S4096x1024, .f32⟩
  | .hbm, ⟨18, _⟩ => ⟨S4096x1024, .bf16⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S1024, .f32⟩
  | .hbm, ⟨34, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S4096x1024 : Shape := ⟨2, ![4096, 1024]⟩
abbrev S1x1024 : Shape := ⟨2, ![1, 1024]⟩
abbrev S1x1024x5632 : Shape := ⟨3, ![1, 1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x5632, .f32⟩
  | .hbm, ⟨6, _⟩ => ⟨S4096x1024, .f32⟩
  | .hbm, ⟨7, _⟩ => ⟨S4096x5632, .f32⟩
  | .hbm, ⟨8, _⟩ => ⟨S_, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x5632, .f32⟩
  | .hbm, ⟨40, _⟩ => ⟨S4096x5632, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel5.lean ====
abbrev S4096x512 : Shape := ⟨2, ![4096, 512]⟩
abbrev S1x512 : Shape := ⟨2, ![1, 512]⟩
abbrev S1x512x1024 : Shape := ⟨3, ![1, 512, 1024]⟩
abbrev S4096x1024 : Shape := ⟨2, ![4096, 1024]⟩
abbrev S512x1024 : Shape := ⟨2, ![512, 1024]⟩
abbrev S8x512 : Shape := ⟨2, ![8, 512]⟩
abbrev S512x512 : Shape := ⟨2, ![512, 512]⟩
abbrev S512 : Shape := ⟨1, ![512]⟩
abbrev S512x1 : Shape := ⟨2, ![512, 1]⟩
abbrev S64x8x512 : Shape := ⟨3, ![64, 8, 512]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S1x512x1024, .f32⟩
  | .hbm, ⟨4, _⟩ => ⟨S4096x1024, .f32⟩
  | .hbm, ⟨5, _⟩ => ⟨S4096x1024, .bf16⟩
  | .hbm, ⟨6, _⟩ => ⟨S512x1024, .f32⟩
  | .hbm, ⟨7, _⟩ => ⟨S512x1024, .bf16⟩
  | .hbm, ⟨8, _⟩ => ⟨S4096x512, .f32⟩
  | .hbm, ⟨9, _⟩ => ⟨S8x512, .f32⟩
  | .hbm, ⟨10, _⟩ => ⟨S8x512, .f32⟩
  | .hbm, ⟨11, _⟩ => ⟨S8x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S_, .f32⟩
  | .hbm, ⟨16, _⟩ => ⟨S512, .f32⟩
  | .hbm, ⟨17, _⟩ => ⟨S1x512, .f32⟩
  | .hbm, ⟨18, _⟩ => ⟨S_, .f32⟩
  | .hbm, ⟨19, _⟩ => ⟨S512, .f32⟩
  | .hbm, ⟨20, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x512 : Shape := ⟨2, ![4096, 512]⟩
abbrev S1x512 : Shape := ⟨2, ![1, 512]⟩
abbrev S1x512x1024 : Shape := ⟨3, ![1, 512, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩

abbrev nBuf : Space → Nat
  | .hbm => 106
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S1x512x1024, .f32⟩
  | .hbm, ⟨4, _⟩ => ⟨S4096x1024, .f32⟩
  | .hbm, ⟨5, _⟩ => ⟨S_, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S512x1024, .f32⟩
  | .hbm, ⟨57, _⟩ => ⟨S4096x1024, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S4096x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x512, .f32⟩
  | .hbm, ⟨77, _⟩ => ⟨S4096x512, .f32⟩
  | .hbm, ⟨78, _⟩ => ⟨S4096x1, .f32⟩
  | .hbm, ⟨79, _⟩ => ⟨S4096x512, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x512, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x512, .f32⟩
  | .hbm, ⟨102, _⟩ => ⟨S4096x512, .f32⟩
  | .hbm, ⟨103, _⟩ => ⟨S_, .f32⟩
  | .hbm, ⟨104, _⟩ => ⟨S512, .f32⟩
  | .hbm, ⟨105, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v30_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v30_1 : Ref sig .tc := ⟨.hbm, 54, rfl⟩
abbrev main_v30_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_16 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== Kernel6.lean ====
abbrev S4096x512 : Shape := ⟨2, ![4096, 512]⟩
abbrev S4096x3584 : Shape := ⟨2, ![4096, 3584]⟩
abbrev S4096x1024 : Shape := ⟨2, ![4096, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S1024x1024 : Shape := ⟨2, ![1024, 1024]⟩
abbrev S512x1024 : Shape := ⟨2, ![512, 1024]⟩
abbrev S512x2048 : Shape := ⟨2, ![512, 2048]⟩
abbrev S4096x2048 : Shape := ⟨2, ![4096, 2048]⟩
abbrev S512x512 : Shape := ⟨2, ![512, 512]⟩
abbrev S512 : Shape := ⟨1, ![512]⟩
abbrev S512x1 : Shape := ⟨2, ![512, 1]⟩
abbrev S_ : Shape := ⟨0, ![]⟩
abbrev S8x128 : Shape := ⟨2, ![8, 128]⟩

abbrev nBuf : Space → Nat
  | .hbm => 33
  | .vmem => 56
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3584, .f32⟩
  | .hbm, ⟨3, _⟩ => ⟨S4096x1024, .f32⟩
  | .hbm, ⟨4, _⟩ => ⟨S1x512x1024, .f32⟩
  | .hbm, ⟨5, _⟩ => ⟨S1x512x2048, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x3584, .bf16⟩
  | .hbm, ⟨13, _⟩ => ⟨S1024x1024, .f32⟩
  | .hbm, ⟨14, _⟩ => ⟨S1024x1024, .bf16⟩
  | .hbm, ⟨15, _⟩ => ⟨S4096x512, .bf16⟩
  | .hbm, ⟨16, _⟩ => ⟨S4096x512, .bf16⟩
  | .hbm, ⟨17, _⟩ => ⟨S512x1024, .f32⟩
  | .hbm, ⟨18, _⟩ => ⟨S512x1024, .bf16⟩
  | .hbm, ⟨19, _⟩ => ⟨S512x2048, .f32⟩
  | .hbm, ⟨20, _⟩ => ⟨S512x2048, .bf16⟩
  | .hbm, ⟨21, _⟩ => ⟨S4096x1024, .bf16⟩
  | .hbm, ⟨22, _⟩ => ⟨S4096x2048, .bf16⟩
  | .hbm, ⟨23, _⟩ => ⟨S4096x1024, .bf16⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S_, .f32⟩
  | .hbm, ⟨29, _⟩ => ⟨S8x128, .f32⟩
  | .hbm, ⟨30, _⟩ => ⟨S4096x1024, .bf16⟩
  | .hbm, ⟨31, _⟩ => ⟨S4096x2048, .bf16⟩
  | .hbm, ⟨32, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x2048, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S512x2048, .bf16⟩
  | .local _ .vmem, ⟨24, _⟩ => ⟨S512x2048, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | .local _ .vmem, ⟨36, _⟩ => ⟨S512x512, .bf16⟩
  | .local _ .vmem, ⟨37, _⟩ => ⟨S512x512, .bf16⟩
  | .local _ .vmem, ⟨38, _⟩ => ⟨S512x512, .bf16⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .bf16⟩
  | .local _ .vmem, ⟨43, _⟩ => ⟨S512x512, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x2048, .bf16⟩
  | .local _ .vmem, ⟨53, _⟩ => ⟨S512x2048, .bf16⟩
  | .local _ .vmem, ⟨54, _⟩ => ⟨S512x2048, .bf16⟩
  | .local _ .vmem, ⟨55, _⟩ => ⟨S512x2048, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg3_1 : Ref sig .tc := ⟨.vmem, 39, rfl⟩
abbrev cc1_stg4_0 : Ref sig .tc := ⟨.vmem, 40, rfl⟩
abbrev cc1_stg4_1 : Ref sig .tc := ⟨.vmem, 41, rfl⟩
abbrev cc1_stg5_0 : Ref sig .tc := ⟨.vmem, 42, rfl⟩
abbrev cc1_stg5_1 : Ref sig .tc := ⟨.vmem, 43, rfl⟩
abbrev cc1_stg6_0 : Ref sig .tc := ⟨.vmem, 44, rfl⟩
abbrev cc1_stg6_1 : Ref sig .tc := ⟨.vmem, 45, rfl⟩
abbrev cc1_stg7_0 : Ref sig .tc := ⟨.vmem, 46, rfl⟩
abbrev cc1_stg7_1 : Ref sig .tc := ⟨.vmem, 47, rfl⟩
abbrev cc1_stg8_0 : Ref sig .tc := ⟨.vmem, 48, rfl⟩
abbrev cc1_stg8_1 : Ref sig .tc := ⟨.vmem, 49, rfl⟩
abbrev cc1_stg9_0 : Ref sig .tc := ⟨.vmem, 50, rfl⟩
abbrev cc1_stg9_1 : Ref sig .tc := ⟨.vmem, 51, rfl⟩
abbrev cc1_stg10_0 : Ref sig .tc := ⟨.vmem, 52, rfl⟩
abbrev cc1_stg10_1 : Ref sig .tc := ⟨.vmem, 53, rfl⟩
abbrev cc1_stg11_0 : Ref sig .tc := ⟨.vmem, 54, rfl⟩
abbrev cc1_stg11_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc1_sem0_0 : DmaSem sig := 33
abbrev cc1_sem0_1 : DmaSem sig := 34
abbrev cc1_sem1_0 : DmaSem sig := 35
abbrev cc1_sem2_0 : DmaSem sig := 36
abbrev cc1_sem2_1 : DmaSem sig := 37
abbrev cc1_sem3_0 : DmaSem sig := 38
abbrev cc1_sem3_1 : DmaSem sig := 39
abbrev cc1_sem4_0 : DmaSem sig := 40
abbrev cc1_sem4_1 : DmaSem sig := 41
abbrev cc1_sem5_0 : DmaSem sig := 42
abbrev cc1_sem5_1 : DmaSem sig := 43
abbrev cc1_sem6_0 : DmaSem sig := 44
abbrev cc1_sem6_1 : DmaSem sig := 45
abbrev cc1_sem7_0 : DmaSem sig := 46
abbrev cc1_sem7_1 : DmaSem sig := 47
abbrev cc1_sem8_0 : DmaSem sig := 48
abbrev cc1_sem8_1 : DmaSem sig := 49
abbrev cc1_sem9_0 : DmaSem sig := 50
abbrev cc1_sem9_1 : DmaSem sig := 51
abbrev cc1_sem10_0 : DmaSem sig := 52
abbrev cc1_sem10_1 : DmaSem sig := 53
abbrev cc1_sem11_0 : DmaSem sig := 54
abbrev cc1_sem11_1 : DmaSem sig := 55

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_3 (i : grid1.Coords) : Fin 2 → Nat :=
  let arg0 : BitVec 32 := BitVec.ofNat 32 (i 0).val
  let c4_i32 : BitVec 32 := 4#32
  let c0_i32 : BitVec 32 := 0#32
  ![arg0.toNat, c4_i32.toNat]

def cc1_transform_4 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_5 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== Reference6Ideal.lean ====
abbrev S4096x512 : Shape := ⟨2, ![4096, 512]⟩
abbrev S4096x3584 : Shape := ⟨2, ![4096, 3584]⟩
abbrev S4096x1024 : Shape := ⟨2, ![4096, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S512x1024 : Shape := ⟨2, ![512, 1024]⟩
abbrev S4096x2048 : Shape := ⟨2, ![4096, 2048]⟩
abbrev S512x2048 : Shape := ⟨2, ![512, 2048]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩

abbrev nBuf : Space → Nat
  | .hbm => 106
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3584, .f32⟩
  | .hbm, ⟨3, _⟩ => ⟨S4096x1024, .f32⟩
  | .hbm, ⟨4, _⟩ => ⟨S1x512x1024, .f32⟩
  | .hbm, ⟨5, _⟩ => ⟨S1x512x2048, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S512x1024, .f32⟩
  | .hbm, ⟨13, _⟩ => ⟨S4096x1024, .f32⟩
  | .hbm, ⟨14, _⟩ => ⟨S4096x2048, .f32⟩
  | .hbm, ⟨15, _⟩ => ⟨S512x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1024x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x2048, .f32⟩
  | .hbm, ⟨99, _⟩ => ⟨S4096x2048, .f32⟩
  | .hbm, ⟨100, _⟩ => ⟨S4096x1024, .bf16⟩
  | .hbm, ⟨101, _⟩ => ⟨S4096x1024, .bf16⟩
  | .hbm, ⟨102, _⟩ => ⟨S4096x1024, .bf16⟩
  | .hbm, ⟨103, _⟩ => ⟨S4096x1024, .bf16⟩
  | .hbm, ⟨104, _⟩ => ⟨S4096x2048, .bf16⟩
  | .hbm, ⟨105, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1x1024x3584 : Shape := ⟨3, ![1, 1024, 3584]⟩
abbrev S4096x512 : Shape := ⟨2, ![4096, 512]⟩
abbrev S4096x2048 : Shape := ⟨2, ![4096, 2048]⟩
abbrev S_ : Shape := ⟨0, ![]⟩
abbrev S8x128 : Shape := ⟨2, ![8, 128]⟩
abbrev S1024x3584 : Shape := ⟨2, ![1024, 3584]⟩
abbrev S8x1024 : Shape := ⟨2, ![8, 1024]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1024x2048 : Shape := ⟨2, ![1024, 2048]⟩
abbrev S64x8x1024 : Shape := ⟨3, ![64, 8, 1024]⟩
abbrev S1024 : Shape := ⟨1, ![1024]⟩

abbrev nBuf : Space → Nat
  | .hbm => 34
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024x3584, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x2048, .f32⟩
  | .hbm, ⟨8, _⟩ => ⟨S_, .f32⟩
  | .hbm, ⟨9, _⟩ => ⟨S8x128, .f32⟩
  | .hbm, ⟨10, _⟩ => ⟨S4096x1024, .bf16⟩
  | .hbm, ⟨11, _⟩ => ⟨S4096x512, .bf16⟩
  | .hbm, ⟨12, _⟩ => ⟨S4096x2048, .bf16⟩
  | .hbm, ⟨13, _⟩ => ⟨S1024x3584, .f32⟩
  | .hbm, ⟨14, _⟩ => ⟨S1024x3584, .bf16⟩
  | .hbm, ⟨15, _⟩ => ⟨S_, .f32⟩
  | .hbm, ⟨16, _⟩ => ⟨S1x1024, .f32⟩
  | .hbm, ⟨17, _⟩ => ⟨S_, .bf16⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S_, .f32⟩
  | .hbm, ⟨32, _⟩ => ⟨S1024, .f32⟩
  | .hbm, ⟨33, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S1024x3584, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference7Ideal.lean ====
abbrev S4096x1024 : Shape := ⟨2, ![4096, 1024]⟩
abbrev S1x1024 : Shape := ⟨2, ![1, 1024]⟩
abbrev S1x1024x3584 : Shape := ⟨3, ![1, 1024, 3584]⟩
abbrev S4096x512 : Shape := ⟨2, ![4096, 512]⟩
abbrev S4096x2048 : Shape := ⟨2, ![4096, 2048]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S1024x3584 : Shape := ⟨2, ![1024, 3584]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024x3584, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x2048, .f32⟩
  | .hbm, ⟨8, _⟩ => ⟨S4096x3584, .f32⟩
  | .hbm, ⟨9, _⟩ => ⟨S_, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x3584, .f32⟩
  | .hbm, ⟨38, _⟩ => ⟨S4096x3584, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel8.lean ====
abbrev S8x1024 : Shape := ⟨2, ![8, 1024]⟩
abbrev S8x1536 : Shape := ⟨2, ![8, 1536]⟩
abbrev S_ : Shape := ⟨0, ![]⟩
abbrev S8x128 : Shape := ⟨2, ![8, 128]⟩
abbrev S1024x1536 : Shape := ⟨2, ![1024, 1536]⟩
abbrev S8x512 : Shape := ⟨2, ![8, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S8x128, .f32⟩
  | .hbm, ⟨4, _⟩ => ⟨S1024x1536, .f32⟩
  | .local _ .vmem, ⟨0, _⟩ => ⟨S8x1024, .f32⟩
  | .local _ .vmem, ⟨1, _⟩ => ⟨S8x512, .f32⟩
  | .local _ .vmem, ⟨2, _⟩ => ⟨S8x512, .f32⟩
  | .local _ .vmem, ⟨3, _⟩ => ⟨S1024x512, .f32⟩
  | .local _ .vmem, ⟨4, _⟩ => ⟨S1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8x1024 : Shape := ⟨2, ![8, 1024]⟩
abbrev S8x1536 : Shape := ⟨2, ![8, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S_, .f32⟩
  | .hbm, ⟨3, _⟩ => ⟨S1024x1536, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1536, .f32⟩
  | .hbm, ⟨14, _⟩ => ⟨S1536x1024, .f32⟩
  | .hbm, ⟨15, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S4096x512 : Shape := ⟨2, ![4096, 512]⟩
abbrev S4096x3584 : Shape := ⟨2, ![4096, 3584]⟩
abbrev S31x512 : Shape := ⟨2, ![31, 512]⟩
abbrev S4096x1024 : Shape := ⟨2, ![4096, 1024]⟩
abbrev S248x512 : Shape := ⟨2, ![248, 512]⟩
abbrev S128x512 : Shape := ⟨2, ![128, 512]⟩
abbrev S32x512 : Shape := ⟨2, ![32, 512]⟩
abbrev S128x1024 : Shape := ⟨2, ![128, 1024]⟩
abbrev S160x512 : Shape := ⟨2, ![160, 512]⟩
abbrev S8x160x512 : Shape := ⟨3, ![8, 160, 512]⟩
abbrev S152x512 : Shape := ⟨2, ![152, 512]⟩
abbrev S1x152x512 : Shape := ⟨3, ![1, 152, 512]⟩
abbrev S1x512 : Shape := ⟨2, ![1, 512]⟩
abbrev S1x32x512 : Shape := ⟨3, ![1, 32, 512]⟩
abbrev S8x512 : Shape := ⟨2, ![8, 512]⟩
abbrev S4x8x512 : Shape := ⟨3, ![4, 8, 512]⟩
abbrev S31x8x512 : Shape := ⟨3, ![31, 8, 512]⟩
abbrev S_ : Shape := ⟨0, ![]⟩

abbrev nBuf : Space → Nat
  | .hbm => 9
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x3584, .f32⟩
  | .hbm, ⟨2, _⟩ => ⟨S31x512, .f32⟩
  | .hbm, ⟨3, _⟩ => ⟨S4096x3584, .bf16⟩
  | .hbm, ⟨4, _⟩ => ⟨S4096x1024, .bf16⟩
  | .hbm, ⟨5, _⟩ => ⟨S248x512, .f32⟩
  | .hbm, ⟨6, _⟩ => ⟨S31x8x512, .f32⟩
  | .hbm, ⟨7, _⟩ => ⟨S_, .f32⟩
  | .hbm, ⟨8, _⟩ => ⟨S31x512, .f32⟩
  | .local _ .vmem, ⟨0, _⟩ => ⟨S128x512, .f32⟩
  | .local _ .vmem, ⟨1, _⟩ => ⟨S128x512, .f32⟩
  | .local _ .vmem, ⟨2, _⟩ => ⟨S32x512, .f32⟩
  | .local _ .vmem, ⟨3, _⟩ => ⟨S32x512, .f32⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S32x512, .bf16⟩
  | .local _ .vmem, ⟨9, _⟩ => ⟨S32x512, .bf16⟩
  | .local _ .vmem, ⟨10, _⟩ => ⟨S32x512, .bf16⟩
  | .local _ .vmem, ⟨11, _⟩ => ⟨S32x512, .bf16⟩
  | .local _ .vmem, ⟨12, _⟩ => ⟨S31x512, .f32⟩
  | .local _ .vmem, ⟨13, _⟩ => ⟨S128x1024, .bf16⟩
  | .local _ .vmem, ⟨14, _⟩ => ⟨S128x1024, .bf16⟩
  | .local _ .vmem, ⟨15, _⟩ => ⟨S248x512, .f32⟩
  | .local _ .vmem, ⟨16, _⟩ => ⟨S160x512, .f32⟩
  | .local _ .vmem, ⟨17, _⟩ => ⟨S160x512, .f32⟩
  | .local _ .vmem, ⟨18, _⟩ => ⟨S8x160x512, .f32⟩
  | .local _ .vmem, ⟨19, _⟩ => ⟨S8x160x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S248x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4096x512 : Shape := ⟨2, ![4096, 512]⟩
abbrev S4096x3584 : Shape := ⟨2, ![4096, 3584]⟩
abbrev S31x512 : Shape := ⟨2, ![31, 512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S65536x512 : Shape := ⟨2, ![65536, 512]⟩
abbrev S61440x512 : Shape := ⟨2, ![61440, 512]⟩
abbrev S126976x512 : Shape := ⟨2, ![126976, 512]⟩
abbrev S31x4096x512 : Shape := ⟨3, ![31, 4096, 512]⟩
abbrev S31x1x512 : Shape := ⟨3, ![31, 1, 512]⟩

abbrev nBuf : Space → Nat
  | .hbm => 207
  | .vmem => 0
  | .smem => 0
  | _ => 0

abbrev hbmTy0_0 (i : Nat) : BufTy := match i % 128 with
  | 0 => ⟨S4096x512, .f32⟩
  | 1 => ⟨S4096x3584, .f32⟩
  | 2 => ⟨S31x512, .f32⟩
  | 3 => ⟨S4096x1024, .f32⟩
  | 4 => ⟨S4096x512, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S_, .f32⟩
  | 20 => ⟨S30x512, .f32⟩
  | 21 => ⟨S4126x512, .f32⟩
  | 22 => ⟨S_, .f32⟩
  | 23 => ⟨S30x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S65536x512, .f32⟩
  | 56 => ⟨S61440x512, .f32⟩
  | 57 => ⟨S126976x512, .f32⟩
  | 58 => ⟨S31x4096x512, .f32⟩
  | 59 => ⟨S31x1x512, .f32⟩
  | 60 => ⟨S31x4096x512, .f32⟩
  | 61 => ⟨S31x4096x512, .f32⟩
  | 62 => ⟨S_, .f32⟩
  | 63 => ⟨S4096x512, .f32⟩
  | 64 => ⟨S31x4096x512, .f32⟩
  | 65 => ⟨S31x4096x512, .f32⟩
  | 66 => ⟨S31x4096x512, .f32⟩
  | 67 => ⟨S31x4096x512, .f32⟩
  | 68 => ⟨S_, .f32⟩
  | 69 => ⟨S31x512, .f32⟩
  | 70 => ⟨S31x1x512, .f32⟩
  | 71 => ⟨S_, .f32⟩
  | 72 => ⟨S31x512, .f32⟩
  | 73 => ⟨S126976x512, .f32⟩
  | 74 => ⟨S4096x512, .f32⟩
  | 75 => ⟨S4096x512, .f32⟩
  | 76 => ⟨S4096x512, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S4126x512, .f32⟩
  | 107 => ⟨S_, .f32⟩
  | 108 => ⟨S4126x512, .f32⟩
  | 109 => ⟨S4126x512, .f32⟩
  | 110 => ⟨S_, .f32⟩
  | 111 => ⟨S4126x512, .f32⟩
  | 112 => ⟨S4126x512, .f32⟩
  | 113 => ⟨S_, .f32⟩
  | 114 => ⟨S4126x512, .f32⟩
  | 115 => ⟨S4126x512, .f32⟩
  | 116 => ⟨S_, .f32⟩
  | 117 => ⟨S4126x512, .f32⟩
  | 118 => ⟨S4126x512, .f32⟩
  | 119 => ⟨S_, .f32⟩
  | 120 => ⟨S4126x512, .f32⟩
  | 121 => ⟨S4126x512, .f32⟩
  | 122 => ⟨S_, .f32⟩
  | 123 => ⟨S4126x512, .f32⟩
  | 124 => ⟨S4126x512, .f32⟩
  | 125 => ⟨S_, .f32⟩
  | 126 => ⟨S4126x512, .f32⟩
  | 127 => ⟨S4126x512, .f32⟩
  | _ => ⟨S4096x512, .f32⟩

abbrev hbmTy0_1 (i : Nat) : BufTy := match i % 128 with
  | 0 => ⟨S_, .f32⟩
  | 1 => ⟨S4126x512, .f32⟩
  | 2 => ⟨S4126x512, .f32⟩
  | 3 => ⟨S_, .f32⟩
  | 4 => ⟨S4126x512, .f32⟩
  | 5 => ⟨S4126x512, .f32⟩
  | 6 => ⟨S_, .f32⟩
  | 7 => ⟨S4126x512, .f32⟩
  | 8 => ⟨S4126x512, .f32⟩
  | 9 => ⟨S_, .f32⟩
  | 10 => ⟨S4126x512, .f32⟩
  | 11 => ⟨S4126x512, .f32⟩
  | 12 => ⟨S_, .f32⟩
  | 13 => ⟨S4126x512, .f32⟩
  | 14 => ⟨S4126x512, .f32⟩
  | 15 => ⟨S_, .f32⟩
  | 16 => ⟨S4126x512, .f32⟩
  | 17 => ⟨S4126x512, .f32⟩
  | 18 => ⟨S_, .f32⟩
  | 19 => ⟨S4126x512, .f32⟩
  | 20 => ⟨S4126x512, .f32⟩
  | 21 => ⟨S_, .f32⟩
  | 22 => ⟨S4126x512, .f32⟩
  | 23 => ⟨S4126x512, .f32⟩
  | 24 => ⟨S_, .f32⟩
  | 25 => ⟨S4126x512, .f32⟩
  | 26 => ⟨S4126x512, .f32⟩
  | 27 => ⟨S_, .f32⟩
  | 28 => ⟨S4126x512, .f32⟩
  | 29 => ⟨S4126x512, .f32⟩
  | 30 => ⟨S_, .f32⟩
  | 31 => ⟨S4126x512, .f32⟩
  | 32 => ⟨S4126x512, .f32⟩
  | 33 => ⟨S_, .f32⟩
  | 34 => ⟨S4126x512, .f32⟩
  | 35 => ⟨S4126x512, .f32⟩
  | 36 => ⟨S_, .f32⟩
  | 37 => ⟨S4126x512, .f32⟩
  | 38 => ⟨S4126x512, .f32⟩
  | 39 => ⟨S_, .f32⟩
  | 40 => ⟨S4126x512, .f32⟩
  | 41 => ⟨S4126x512, .f32⟩
  | 42 => ⟨S_, .f32⟩
  | 43 => ⟨S4126x512, .f32⟩
  | 44 => ⟨S4126x512, .f32⟩
  | 45 => ⟨S_, .f32⟩
  | 46 => ⟨S4126x512, .f32⟩
  | 47 => ⟨S4126x512, .f32⟩
  | 48 => ⟨S_, .f32⟩
  | 49 => ⟨S4126x512, .f32⟩
  | 50 => ⟨S4126x512, .f32⟩
  | 51 => ⟨S_, .f32⟩
  | 52 => ⟨S4126x512, .f32⟩
  | 53 => ⟨S4126x512, .f32⟩
  | 54 => ⟨S_, .f32⟩
  | 55 => ⟨S4126x512, .f32⟩
  | 56 => ⟨S4126x512, .f32⟩
  | 57 => ⟨S_, .f32⟩
  | 58 => ⟨S4126x512, .f32⟩
  | 59 => ⟨S4126x512, .f32⟩
  | 60 => ⟨S_, .f32⟩
  | 61 => ⟨S4126x512, .f32⟩
  | 62 => ⟨S4126x512, .f32⟩
  | 63 => ⟨S_, .f32⟩
  | 64 => ⟨S4126x512, .f32⟩
  | 65 => ⟨S4126x512, .f32⟩
  | 66 => ⟨S_, .f32⟩
  | 67 => ⟨S4126x512, .f32⟩
  | 68 => ⟨S4126x512, .f32⟩
  | 69 => ⟨S30x512, .f32⟩
  | 70 => ⟨S4096x512, .f32⟩
  | 71 => ⟨S4096x512, .f32⟩
  | 72 => ⟨S4096x512, .f32⟩
  | 73 => ⟨S4096x512, .f32⟩
  | 74 => ⟨S4096x1024, .f32⟩
  | 75 => ⟨S_, .f32⟩
  | 76 => ⟨S4096x3584, .f32⟩
  | 77 => ⟨S4096x1024, .f32⟩
  | 78 => ⟨S4096x1024, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_cst_8 : Ref sig .tc := ⟨.hbm, 107, rfl⟩
abbrev main_v95 : Ref sig .tc := ⟨.hbm, 108, rfl⟩
abbrev main_v96 : Ref sig .tc := ⟨.hbm, 109, rfl⟩
abbrev main_cst_9 : Ref sig .tc := ⟨.hbm, 110, rfl⟩
abbrev main_v97 : Ref sig .tc := ⟨.hbm, 111, rfl⟩
abbrev main_v98 : Ref sig .tc := ⟨.hbm, 112, rfl⟩
abbrev main_cst_10 : Ref sig .tc := ⟨.hbm, 113, rfl⟩
abbrev main_v99 : Ref sig .tc := ⟨.hbm, 114, rfl⟩
abbrev main_v100 : Ref sig .tc := ⟨.hbm, 115, rfl⟩
abbrev main_cst_11 : Ref sig .tc := ⟨.hbm, 116, rfl⟩
abbrev main_v101 : Ref sig .tc := ⟨.hbm, 117, rfl⟩
abbrev main_v102 : Ref sig .tc := ⟨.hbm, 118, rfl⟩
abbrev main_cst_12 : Ref sig .tc := ⟨.hbm, 119, rfl⟩
abbrev main_v103 : Ref sig .tc := ⟨.hbm, 120, rfl⟩
abbrev main_v104 : Ref sig .tc := ⟨.hbm, 121, rfl⟩
abbrev main_cst_13 : Ref sig .tc := ⟨.hbm, 122, rfl⟩
abbrev main_v105 : Ref sig .tc := ⟨.hbm, 123, rfl⟩
abbrev main_v106 : Ref sig .tc := ⟨.hbm, 124, rfl⟩
abbrev main_cst_14 : Ref sig .tc := ⟨.hbm, 125, rfl⟩
abbrev main_v107 : Ref sig .tc := ⟨.hbm, 126, rfl⟩
abbrev main_v108 : Ref sig .tc := ⟨.hbm, 127, rfl⟩
abbrev main_cst_15 : Ref sig .tc := ⟨.hbm, 128, rfl⟩
abbrev main_v109 : Ref sig .tc := ⟨.hbm, 129, rfl⟩
abbrev main_v110 : Ref sig .tc := ⟨.hbm, 130, rfl⟩
abbrev main_cst_16 : Ref sig .tc := ⟨.hbm, 131, rfl⟩
abbrev main_v111 : Ref sig .tc := ⟨.hbm, 132, rfl⟩
abbrev main_v112 : Ref sig .tc := ⟨.hbm, 133, rfl⟩
abbrev main_cst_17 : Ref sig .tc := ⟨.hbm, 134, rfl⟩
abbrev main_v113 : Ref sig .tc := ⟨.hbm, 135, rfl⟩
abbrev main_v114 : Ref sig .tc := ⟨.hbm, 136, rfl⟩
abbrev main_cst_18 : Ref sig .tc := ⟨.hbm, 137, rfl⟩
abbrev main_v115 : Ref sig .tc := ⟨.hbm, 138, rfl⟩
abbrev main_v116 : Ref sig .tc := ⟨.hbm, 139, rfl⟩
abbrev main_cst_19 : Ref sig .tc := ⟨.hbm, 140, rfl⟩
abbrev main_v117 : Ref sig .tc := ⟨.hbm, 141, rfl⟩
abbrev main_v118 : Ref sig .tc := ⟨.hbm, 142, rfl⟩
abbrev main_cst_20 : Ref sig .tc := ⟨.hbm, 143, rfl⟩
abbrev main_v119 : Ref sig .tc := ⟨.hbm, 144, rfl⟩
abbrev main_v120 : Ref sig .tc := ⟨.hbm, 145, rfl⟩
abbrev main_cst_21 : Ref sig .tc := ⟨.hbm, 146, rfl⟩
abbrev main_v121 : Ref sig .tc := ⟨.hbm, 147, rfl⟩
abbrev main_v122 : Ref sig .tc := ⟨.hbm, 148, rfl⟩
abbrev main_cst_22 : Ref sig .tc := ⟨.hbm, 149, rfl⟩
abbrev main_v123 : Ref sig .tc := ⟨.hbm, 150, rfl⟩
abbrev main_v124 : Ref sig .tc := ⟨.hbm, 151, rfl⟩
abbrev main_cst_23 : Ref sig .tc := ⟨.hbm, 152, rfl⟩
abbrev main_v125 : Ref sig .tc := ⟨.hbm, 153, rfl⟩
abbrev main_v126 : Ref sig .tc := ⟨.hbm, 154, rfl⟩
abbrev main_cst_24 : Ref sig .tc := ⟨.hbm, 155, rfl⟩
abbrev main_v127 : Ref sig .tc := ⟨.hbm, 156, rfl⟩
abbrev main_v128 : Ref sig .tc := ⟨.hbm, 157, rfl⟩
abbrev main_cst_25 : Ref sig .tc := ⟨.hbm, 158, rfl⟩
abbrev main_v129 : Ref sig .tc := ⟨.hbm, 159, rfl⟩
abbrev main_v130 : Ref sig .tc := ⟨.hbm, 160, rfl⟩
abbrev main_cst_26 : Ref sig .tc := ⟨.hbm, 161, rfl⟩
abbrev main_v131 : Ref sig .tc := ⟨.hbm, 162, rfl⟩
abbrev main_v132 : Ref sig .tc := ⟨.hbm, 163, rfl⟩
abbrev main_cst_27 : Ref sig .tc := ⟨.hbm, 164, rfl⟩
abbrev main_v133 : Ref sig .tc := ⟨.hbm, 165, rfl⟩
abbrev main_v134 : Ref sig .tc := ⟨.hbm, 166, rfl⟩
abbrev main_cst_28 : Ref sig .tc := ⟨.hbm, 167, rfl⟩
abbrev main_v135 : Ref sig .tc := ⟨.hbm, 168, rfl⟩
abbrev main_v136 : Ref sig .tc := ⟨.hbm, 169, rfl⟩
abbrev main_cst_29 : Ref sig .tc := ⟨.hbm, 170, rfl⟩
abbrev main_v137 : Ref sig .tc := ⟨.hbm, 171, rfl⟩
abbrev main_v138 : Ref sig .tc := ⟨.hbm, 172, rfl⟩
abbrev main_cst_30 : Ref sig .tc := ⟨.hbm, 173, rfl⟩
abbrev main_v139 : Ref sig .tc := ⟨.hbm, 174, rfl⟩
abbrev main_v140 : Ref sig .tc := ⟨.hbm, 175, rfl⟩
abbrev main_cst_31 : Ref sig .tc := ⟨.hbm, 176, rfl⟩
abbrev main_v141 : Ref sig .tc := ⟨.hbm, 177, rfl⟩
abbrev main_v142 : Ref sig .tc := ⟨.hbm, 178, rfl⟩
abbrev main_cst_32 : Ref sig .tc := ⟨.hbm, 179, rfl⟩
abbrev main_v143 : Ref sig .tc := ⟨.hbm, 180, rfl⟩
abbrev main_v144 : Ref sig .tc := ⟨.hbm, 181, rfl⟩
abbrev main_cst_33 : Ref sig .tc := ⟨.hbm, 182, rfl⟩
abbrev main_v145 : Ref sig .tc := ⟨.hbm, 183, rfl⟩
abbrev main_v146 : Ref sig .tc := ⟨.hbm, 184, rfl⟩
abbrev main_cst_34 : Ref sig .tc := ⟨.hbm, 185, rfl⟩
abbrev main_v147 : Ref sig .tc := ⟨.hbm, 186, rfl⟩
abbrev main_v148 : Ref sig .tc := ⟨.hbm, 187, rfl⟩
abbrev main_cst_35 : Ref sig .tc := ⟨.hbm, 188, rfl⟩
abbrev main_v149 : Ref sig .tc := ⟨.hbm, 189, rfl⟩
abbrev main_v150 : Ref sig .tc := ⟨.hbm, 190, rfl⟩
abbrev main_cst_36 : Ref sig .tc := ⟨.hbm, 191, rfl⟩
abbrev main_v151 : Ref sig .tc := ⟨.hbm, 192, rfl⟩
abbrev main_v152 : Ref sig .tc := ⟨.hbm, 193, rfl⟩
abbrev main_cst_37 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_38 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩

abbrev nD : Nat := 1
abbrev τ : Topo := Topo.v7x

variable {F : FTy → Type} [FloatOps F]
-- ==== Proof.FfnRun.lean ====
/- The run of the SwiGLU backward program: launched from any memory, it leaves its result array at the contents the
   fold over its two regions gives it, every argument as launched, and every semaphore counter at zero. The launch
   set-up is that of the generated frame; only what is read off the last state differs. -/
module

public import proofs.«01_k».proof.Proof.Gen.KernelIdeal.Frame

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves: the result as the fold over the program gives it, the four arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Ffn

end
-- ==== Proof.FfnRegions.lean ====
/- What the two regions of the SwiGLU backward program compute, over the extended reals. The first leaves the
   pre-activation `f = h · w`, the second the gradient `df` in terms of the cotangent, the down projection and `f`. -/
module

public import proofs.«01_k».proof.Proof.Gen.KernelIdeal.Frame
public import Idealize.ShloMosaic.Lib.Pipeline.ValueKit

@[expose] public section

set_option maxRecDepth 16384

noncomputable section

namespace Cert.Ffn

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The pre-activation: row `i` of the input against column `j` of the up projection. -/
def pre (h : FVec Ideal S4096x1024 .bf16) (w : FVec Ideal S1024x5632 .bf16) : FVec Ideal S4096x5632 .bf16 :=
  fun i => ∑ k : Fin 1024, h (ix2 (i 0) k) * w (ix2 k (i 1))

/-- The windows of the first region walk the rows; the weights are one block. -/
theorem idx0 : ∀ t : Fin cfg0.N, win0_0.index t = ![t.val, 0] ∧ win0_1.index t = ![0, 0] ∧ win0_2.index t = ![t.val, 0] :=
  (by decide +kernel : ∀ t : Fin grid0.N, _)

/-- A block of the first region holds its rows of the pre-activation. -/
theorem point0 (c : Dev nD) (t : Fin cfg0.N) (y : S512x5632.Idx) :
    out0_2 (F := Ideal) (iblk0 V c 0 t) (iblk0 V c 1 t) y
      = pre (V c main_v0) (V c main_v2) (((cfg0.win 2).blk t).view.emb y) := by
  unfold out0_2
  canon_tiles x h
  all_goals
    open_payloads
    pointwise [pre]
    blk_point [iblk0, idx0 t]

/-- The first region leaves the pre-activation in its first result. -/
theorem final0 (c : Dev nD) : (dat0 V c).arrAt 2 cfg0.N = pre (V c main_v0) (V c main_v2) := by
  refine (dat0 V c).arrAt_eq_of_covers 2 _ (by decide +kernel) fun t _ y => ?_
  blk_simp
  rw [after0_2]
  exact point0 V c t y

/-- The cotangent of the activation: row `i` of the cotangent against row `j` of the down projection. -/
def dact (d : FVec Ideal S4096x1024 .bf16) (w : FVec Ideal S2816x1024 .bf16) (i : Fin 4096) (j : Fin 2816) : EReal :=
  ∑ k : Fin 1024, d (ix2 i k) * w (ix2 j k)

/-- The gradient of the gate half, from the activation's cotangent `a`, the gate `g` and the up value `u`. -/
def gateGrad (a g u : EReal) : EReal :=
  a * u * (Ideal.logistic g * (1 + g * (1 - Ideal.logistic g)))

/-- The gradient of the up half. -/
def upGrad (a g : EReal) : EReal := a * g * Ideal.logistic g

/-- The gradient with respect to the pre-activation: the gate half left of column 2816, the up half from there on. -/
def df (d : FVec Ideal S4096x1024 .bf16) (w : FVec Ideal S2816x1024 .bf16) (f : FVec Ideal S4096x5632 .bf16) :
    FVec Ideal S4096x5632 .bf16 := fun i =>
  if h : (i 1 : ℕ) < 2816 then
    gateGrad (dact d w (i 0) ⟨i 1, h⟩) (f (ix2 (i 0) ⟨i 1, by omega⟩)) (f (ix2 (i 0) ⟨2816 + i 1, by omega⟩))
  else upGrad (dact d w (i 0) ⟨i 1 - 2816, by have := (i 1).isLt; simp at this; omega⟩)
    (f (ix2 (i 0) ⟨i 1 - 2816, by have := (i 1).isLt; simp at this; omega⟩))

/-- `df` at an index of the gate half, the column given as `j`. -/
theorem df_gate (d : FVec Ideal S4096x1024 .bf16) (w : FVec Ideal S2816x1024 .bf16) (f : FVec Ideal S4096x5632 .bf16)
    (i : S4096x5632.Idx) (j : Fin 2816) (hj : (i 1 : ℕ) = j) :
    df d w f i = gateGrad (dact d w (i 0) j) (f (ix2 (i 0) ⟨j, by omega⟩)) (f (ix2 (i 0) ⟨2816 + j, by omega⟩)) := by
  have h : (i 1 : ℕ) < 2816 := by omega
  unfold df; rw [dif_pos h]; congr 2 <;> simp [hj]

/-- `df` at an index of the up half, the column given as `2816 + j`. -/
theorem df_up (d : FVec Ideal S4096x1024 .bf16) (w : FVec Ideal S2816x1024 .bf16) (f : FVec Ideal S4096x5632 .bf16)
    (i : S4096x5632.Idx) (j : Fin 2816) (hj : (i 1 : ℕ) = 2816 + j) :
    df d w f i = upGrad (dact d w (i 0) j) (f (ix2 (i 0) ⟨j, by omega⟩)) := by
  have h : ¬ (i 1 : ℕ) < 2816 := by omega
  unfold df; rw [dif_neg h]; congr 2 <;> simp [hj]

/-- The windows of the second region walk the rows; the weights are one block. -/
theorem idx1 : ∀ t : Fin cfg1.N, win1_0.index t = ![t.val, 0] ∧ win1_1.index t = ![0, 0] ∧ win1_2.index t = ![t.val, 0]
    ∧ win1_3.index t = ![t.val, 0] :=
  (by decide +kernel : ∀ t : Fin grid1.N, _)

/-- The cotangents, down projection and pre-activation the second region reads. -/
abbrev G1 (c : Dev nD) : FVec Ideal S4096x5632 .bf16 := df (V c main_v4) (V c main_v6) (V c main_v3_0)

/-- A block of the second region holds its rows of the gradient. -/
theorem point1 (c : Dev nD) (t : Fin cfg1.N) (y : S512x5632.Idx) :
    outsAt1 (F := Ideal) V c t y = G1 V c (((cfg1.win 3).blk t).view.emb y) := by
  unfold outsAt1; frame_out
  canon_tiles x h
  all_goals open_payloads
  case piece0 =>
    refine Eq.trans ?_ (df_up _ _ _ _ ⟨1408 + x 1, by omega⟩ ?_).symm
    · pointwise [upGrad, dact]
      blk_point [iblk1, idx1 t]
    · blk_simp [idx1 t]; dsimp only; omega
  case piece1 =>
    refine Eq.trans ?_ (df_gate _ _ _ _ ⟨1408 + x 1, by omega⟩ ?_).symm
    · pointwise [gateGrad, dact]
      blk_point [iblk1, idx1 t]
    · blk_simp [idx1 t]; omega
  case piece2 =>
    refine Eq.trans ?_ (df_up _ _ _ _ ⟨x 1, by omega⟩ ?_).symm
    · pointwise [upGrad, dact]
      blk_point [iblk1, idx1 t]
    · blk_simp [idx1 t]; omega
  case piece3 =>
    refine Eq.trans ?_ (df_gate _ _ _ _ ⟨x 1, by omega⟩ ?_).symm
    · pointwise [gateGrad, dact]
      blk_point [iblk1, idx1 t]
    · blk_simp [idx1 t]; omega

/-- The second region leaves the gradient in its result. -/
theorem final1 (c : Dev nD) : (dat1 V c).arrAt 3 cfg1.N = G1 V c := by
  refine (dat1 V c).arrAt_eq_of_covers 3 _ (by decide +kernel) fun t _ y => ?_
  blk_simp
  rw [after1_3]
  exact point1 V c t y

end Cert.Ffn

end
-- ==== Proof.Reals.lean ====
/- Extended reals that are real: closed under the arithmetic the programs do, and what an argument array that passes
   `|a| < inf` holds. -/
module

public import Idealize.ShloMosaic.Lib.Pipeline.ValueKit

@[expose] public section

noncomputable section

namespace Cert.Reals

open Idealize.ShloMosaic

/-- The extended real `x` is a real number. -/
def IsReal (x : EReal) : Prop := ∃ r : ℝ, x = r

theorem IsReal.coe (r : ℝ) : IsReal (r : EReal) := ⟨r, rfl⟩
theorem IsReal.zero : IsReal 0 := ⟨0, rfl⟩
theorem IsReal.one : IsReal 1 := ⟨1, rfl⟩

/-- Sums, differences, products and negations of reals are real. -/
theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.neg {x : EReal} (hx : IsReal x) : IsReal (-x) := by
  obtain ⟨a, rfl⟩ := hx; exact ⟨-a, by push_cast; rfl⟩

/-- A finite sum of reals is real. -/
theorem IsReal.sum {ι : Type*} (s : Finset ι) {f : ι → EReal} (h : ∀ i ∈ s, IsReal (f i)) : IsReal (∑ i ∈ s, f i) :=
  Finset.sum_induction f IsReal (fun _ _ => IsReal.add) IsReal.zero h

/-- The logistic function takes only real values on the reals. -/
theorem IsReal.logistic {x : EReal} (hx : IsReal x) : IsReal (Ideal.logistic x) := by
  obtain ⟨a, rfl⟩ := hx; exact ⟨_, Ideal.logistic_coe a⟩

/-- An entry whose absolute value compares below infinity is real. -/
theorem isReal_of_abs_lt {x : EReal}
    (h : BitVec.ofBool (decide (FloatOps.absf (F := Ideal) (φ := .f32) x < Ideal.ofBits .f32 0x7F800000#32)) = 1#1) :
    IsReal x := by
  have h' : max x (-x) < Ideal.ofBits .f32 0x7F800000#32 := by
    by_contra hn
    exact absurd h (by rw [show (decide (FloatOps.absf (F := Ideal) (φ := .f32) x < Ideal.ofBits .f32 0x7F800000#32))
      = false from decide_eq_false hn]; decide)
  induction x using EReal.rec with
  | coe r => exact ⟨r, rfl⟩
  | bot => simp [Ideal.ofBits, Ideal.ieee] at h'
  | top => simp [Ideal.ofBits, Ideal.ieee] at h'

end Cert.Reals

end
-- ==== Proof.FfnAlgebra.lean ====
/- The gradient the SwiGLU backward program computes is the reference's, at finite arguments. -/
module

public import proofs.«01_k».proof.Proof.FfnRun
public import proofs.«01_k».proof.Proof.FfnRegions
public import proofs.«01_k».proof.Proof.Gen.ReferenceIdeal.Read
public import proofs.«01_k».proof.Proof.Gen.Pre_finite
public import proofs.«01_k».proof.Proof.Reals
public import Idealize.ShloMosaic.Lib.StableHlo.ReadAt
public import proofs.«01_k».proof.Defs

@[expose] public section

set_option maxRecDepth 16384

noncomputable section

namespace Cert.Ffn

open Idealize.ShloMosaic Idealize.ShloMosaic.TcCoe Idealize.SL.Sem

/-- The pre-activation entry `(i, j)` from the arguments. -/
def preAt (h : FVec Ideal Cert.KernelIdeal.S4096x1024 .f32) (w : FVec Ideal Cert.KernelIdeal.S1x1024x5632 .f32)
    (i : Fin 4096) (j : Fin 5632) : EReal := ∑ k : Fin 1024, h (ix2 i k) * w (ix3 0 k j)

/-- The activation's cotangent entry `(i, j)` from the arguments. -/
def dactAt (d : FVec Ideal Cert.KernelIdeal.S4096x1024 .f32) (w : FVec Ideal Cert.KernelIdeal.S1x2816x1024 .f32)
    (i : Fin 4096) (j : Fin 2816) : EReal := ∑ k : Fin 1024, d (ix2 i k) * w (ix3 0 j k)

section Kernel
open Cert.KernelIdeal Cert.KernelIdeal.Gen
variable (m : (ℓ : Loc nD τ sig) → Buf (Elt Ideal) ℓ) (ρ : Dev nD → PrngReg)

/-- The program's result is the second region's. -/
theorem result_eq (c : Dev nD) : W4 m ρ c (Proc.devRef .tc main_v8) = G1 (V3 m ρ) c :=
  ((W4_arr m ρ c 3).trans rfl).trans (final1 (V3 m ρ) c)

/-- The second region finds the pre-activation as the first left it. -/
theorem f_eq (c : Dev nD) : V3 m ρ c main_v3_0 = pre (V1 m ρ c main_v0) (V1 m ρ c main_v2) :=
  ((W3_of m ρ c main_v3_0 (by decide)).trans (W2_arr m ρ c 2)).trans (final0 (V1 m ρ) c)

/-- The host lines before the first region hand it the input and the up projection. -/
theorem v0_at (c : Dev nD) (i : S4096x1024.Idx) : (V1 m ρ c main_v0 : FVec Ideal S4096x1024 .bf16) i
    = (m ((c : Thread nD τ).loc main_arg0) : FVec Ideal S4096x1024 .f32) i := by
  unfold_abbrev_sides
  after_reads_at
theorem v2_at (c : Dev nD) (i : S1024x5632.Idx) : (V1 m ρ c main_v2 : FVec Ideal S1024x5632 .bf16) i
    = (m ((c : Thread nD τ).loc main_arg1) : FVec Ideal S1x1024x5632 .f32) (ix3 0 (i 0) (i 1)) := by
  unfold_abbrev_sides
  after_reads_at

/-- The pre-activation as the second region finds it. -/
theorem f_at (c : Dev nD) (i : S4096x5632.Idx) : (V3 m ρ c main_v3_0 : FVec Ideal S4096x5632 .bf16) i
    = preAt (m ((c : Thread nD τ).loc main_arg0)) (m ((c : Thread nD τ).loc main_arg1)) (i 0) (i 1) := by
  rw [f_eq]; unfold pre preAt
  refine Fin.sum_fin_congr fun k => ?_
  rw [v0_at, v2_at]; rfl

/-- The host lines before the second region hand it the cotangent and the down projection. -/
theorem v4_at (c : Dev nD) (i : S4096x1024.Idx) : (V3 m ρ c main_v4 : FVec Ideal S4096x1024 .bf16) i
    = (m ((c : Thread nD τ).loc main_arg3) : FVec Ideal S4096x1024 .f32) i := by
  rw [← W2_args m ρ c main_arg3 (by decide)]
  unfold_abbrev_sides
  after_reads_at
theorem v6_at (c : Dev nD) (i : S2816x1024.Idx) : (V3 m ρ c main_v6 : FVec Ideal S2816x1024 .bf16) i
    = (m ((c : Thread nD τ).loc main_arg2) : FVec Ideal S1x2816x1024 .f32) (ix3 0 (i 0) (i 1)) := by
  rw [← W2_args m ρ c main_arg2 (by decide)]
  unfold_abbrev_sides
  after_reads_at

/-- The activation's cotangent as the second region computes it. -/
theorem dact_at (c : Dev nD) (i : Fin 4096) (j : Fin 2816) : dact (V3 m ρ c main_v4) (V3 m ρ c main_v6) i j
    = dactAt (m ((c : Thread nD τ).loc main_arg3)) (m ((c : Thread nD τ).loc main_arg2)) i j := by
  unfold dact dactAt
  refine Finset.sum_congr rfl fun k _ => ?_
  rw [v4_at, v6_at]; rfl
end Kernel

section Reference
open Cert.ReferenceIdeal Cert.ReferenceIdeal.Gen Cert.ReferenceIdeal.Read

/-- The reference's gate gradient, by the product rule: `a u σ + g (a u) (σ (1 - σ))`. -/
def gateRef (a g u : EReal) : EReal :=
  a * u * Ideal.logistic g + g * (a * u) * (Ideal.logistic g * (1 - Ideal.logistic g))

/-- The reference's result at an index of the gate half. -/
theorem ref_gate (x0 x1 x2 x3) (i : S4096x5632.Idx) (j : Fin 2816) (hj : (i 1 : ℕ) = j) :
    val_main_v13 (F := Ideal) x0 x1 x2 x3 i
      = gateRef (dactAt x3 x2 (i 0) j) (preAt x0 x1 (i 0) ⟨j, by omega⟩) (preAt x0 x1 (i 0) ⟨2816 + j, by omega⟩) := by
  have h : (i 1 : ℕ) < 2816 := by omega
  obtain rfl : j = ⟨i 1, h⟩ := Fin.ext hj.symm
  pointwise [val_main_v13, val_main_v12, val_main_v11, val_main_v10, val_main_v9, val_main_v8, val_main_v6, val_main_v5,
    val_main_v4_0, val_main_v4_1, val_main_v4_2, val_main_call1_v0, val_main_call1_v1, val_main_call1_v2, val_main_v3,
    val_main_v2, val_main_v1, val_main_v0, val_main_call0_v0, val_main_call0_v1, val_main_call0_v2, val_main_call0_v3,
    val_main_call0_v4, val_main_call0_v6, val_main_call0_v7, val_main_call0_cst, val_main_call0_cst_0, val_main_call0_cst_1]
  rw [dif_pos h]; rfl

/-- The reference's result at an index of the up half. -/
theorem ref_up (x0 x1 x2 x3) (i : S4096x5632.Idx) (j : Fin 2816) (hj : (i 1 : ℕ) = 2816 + j) :
    val_main_v13 (F := Ideal) x0 x1 x2 x3 i
      = preAt x0 x1 (i 0) ⟨j, by omega⟩ * Ideal.logistic (preAt x0 x1 (i 0) ⟨j, by omega⟩) * dactAt x3 x2 (i 0) j := by
  have h : ¬ (i 1 : ℕ) < 2816 := by omega
  obtain ⟨j, hjl⟩ := j
  obtain rfl : j = (i 1 : ℕ) - 2816 := by dsimp only at hj; omega
  pointwise [val_main_v13, val_main_v12, val_main_v11, val_main_v10, val_main_v9, val_main_v8, val_main_v6, val_main_v5,
    val_main_v4_0, val_main_v4_1, val_main_v4_2, val_main_call1_v0, val_main_call1_v1, val_main_call1_v2, val_main_v3,
    val_main_v2, val_main_v1, val_main_v0, val_main_call0_v0, val_main_call0_v1, val_main_call0_v2, val_main_call0_v3,
    val_main_call0_v4, val_main_call0_v6, val_main_call0_v7, val_main_call0_cst, val_main_call0_cst_0, val_main_call0_cst_1]
  rw [dif_neg h]; rfl
end Reference

open Cert.Reals

/-- The kernel's closed form of the gate gradient and the product rule agree on the reals. -/
theorem gateGrad_eq {a g u : EReal} (ha : IsReal a) (hg : IsReal g) (hu : IsReal u) : gateGrad a g u = gateRef a g u := by
  obtain ⟨s, hs⟩ := hg.logistic
  obtain ⟨a, rfl⟩ := ha; obtain ⟨g, rfl⟩ := hg; obtain ⟨u, rfl⟩ := hu
  unfold gateGrad gateRef
  rw [hs]
  norm_cast
  ring

/-- What the precondition says of the arguments: every entry is real. -/
theorem isReal_args [Cert.Pre_finite.Facts] {x0 x1 x2 x3}
    (h0 : (Cert.Pre_finite.fn (F := Ideal) x0 x1 x2 x3).1 = fun _ => 1#1)
    (h1 : (Cert.Pre_finite.fn (F := Ideal) x0 x1 x2 x3).2.1 = fun _ => 1#1)
    (h2 : (Cert.Pre_finite.fn (F := Ideal) x0 x1 x2 x3).2.2.1 = fun _ => 1#1)
    (h3 : (Cert.Pre_finite.fn (F := Ideal) x0 x1 x2 x3).2.2.2 = fun _ => 1#1) :
    (∀ i, IsReal (x0 i)) ∧ (∀ i, IsReal (x1 i)) ∧ (∀ i, IsReal (x2 i)) ∧ (∀ i, IsReal (x3 i)) := by
  unfold Cert.Pre_finite.fn at h0 h1 h2 h3
  refine ⟨fun i => ?_, fun i => ?_, fun i => ?_, fun i => ?_⟩
  · have := congrFun h0 i; pointwise at this; exact isReal_of_abs_lt this
  · have := congrFun h1 i; pointwise at this; exact isReal_of_abs_lt this
  · have := congrFun h2 i; pointwise at this; exact isReal_of_abs_lt this
  · have := congrFun h3 i; pointwise at this; exact isReal_of_abs_lt this

/-- The program's result is the reference's value of the arguments, where these are finite. -/
theorem value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h0 : ∀ i, IsReal ((m ((c : Thread Cert.KernelIdeal.nD Cert.KernelIdeal.τ).loc Cert.KernelIdeal.main_arg0) : FVec Ideal Cert.KernelIdeal.S4096x1024 .f32) i))
    (h1 : ∀ i, IsReal ((m ((c : Thread Cert.KernelIdeal.nD Cert.KernelIdeal.τ).loc Cert.KernelIdeal.main_arg1) : FVec Ideal Cert.KernelIdeal.S1x1024x5632 .f32) i))
    (h2 : ∀ i, IsReal ((m ((c : Thread Cert.KernelIdeal.nD Cert.KernelIdeal.τ).loc Cert.KernelIdeal.main_arg2) : FVec Ideal Cert.KernelIdeal.S1x2816x1024 .f32) i))
    (h3 : ∀ i, IsReal ((m ((c : Thread Cert.KernelIdeal.nD Cert.KernelIdeal.τ).loc Cert.KernelIdeal.main_arg3) : FVec Ideal Cert.KernelIdeal.S4096x1024 .f32) i)) :
    Cert.KernelIdeal.Gen.W4 m ρ c (Proc.devRef .tc Cert.KernelIdeal.main_v8)
      = Cert.ReferenceIdeal.Read.val_main_v13 (F := Ideal)
          (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) := by
  have hpre : ∀ i j, IsReal (preAt (m ((c : Thread Cert.KernelIdeal.nD Cert.KernelIdeal.τ).loc Cert.KernelIdeal.main_arg0))
      (m ((c : Thread Cert.KernelIdeal.nD Cert.KernelIdeal.τ).loc Cert.KernelIdeal.main_arg1)) i j) := fun i j =>
    IsReal.sum _ fun k _ => (h0 _).mul (h1 _)
  have hdact : ∀ i j, IsReal (dactAt (m ((c : Thread Cert.KernelIdeal.nD Cert.KernelIdeal.τ).loc Cert.KernelIdeal.main_arg3))
      (m ((c : Thread Cert.KernelIdeal.nD Cert.KernelIdeal.τ).loc Cert.KernelIdeal.main_arg2)) i j) := fun i j =>
    IsReal.sum _ fun k _ => (h3 _).mul (h2 _)
  rw [result_eq]
  refine funext fun i => ?_
  by_cases h : (i 1 : ℕ) < 2816
  · refine (df_gate _ _ _ i ⟨i 1, h⟩ rfl).trans (Eq.trans ?_ (ref_gate _ _ _ _ i ⟨i 1, h⟩ rfl).symm)
    exact (congr (congrArg₂ gateGrad (dact_at m ρ c _ _) (f_at m ρ c _)) (f_at m ρ c _)).trans
      (gateGrad_eq (hdact _ _) (hpre _ _) (hpre _ _))
  · have hlt : (i 1 : ℕ) < 5632 := (i 1).isLt
    have hj : (i 1 : ℕ) = 2816 + ((⟨i 1 - 2816, by omega⟩ : Fin 2816) : ℕ) := by dsimp only; omega
    refine (df_up _ _ _ i ⟨i 1 - 2816, by omega⟩ hj).trans (Eq.trans ?_ (ref_up _ _ _ _ i ⟨i 1 - 2816, by omega⟩ hj).symm)
    exact (congrArg₂ upGrad (dact_at m ρ c _ _) (f_at m ρ c _)).trans ((mul_assoc _ _ _).trans (mul_comm _ _))

end Cert.Ffn

end
-- ==== Proof.FfnClaim.lean ====
/- The claims of the SwiGLU backward: the two runs joined to the value. -/
module

public import proofs.«01_k».proof.Proof.FfnAlgebra
public import proofs.«01_k».proof.Proof.Gen.ReferenceIdeal.Run
public import proofs.«01_k».proof.Proof.Gen.Pre_finite
public import proofs.«01_k».proof.Defs
public import Idealize.ShloMosaic.Adequacy

@[expose] public section

noncomputable section

namespace Cert.Ffn

open Idealize.ShloMosaic Idealize.SL.Sem Cert.Kernel

/-- The SwiGLU reference runs, changes no argument, and has no semaphore to leave raised. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- SwiGLU backward: the program and the reference compute one gradient at finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hag =>
  ⟨fun c => Cert.ReferenceIdeal.Read.val_main_v13 (F := Ideal)
      (m (c.tc.loc Cert.KernelIdeal.main_arg0)) (m (c.tc.loc Cert.KernelIdeal.main_arg1))
      (m (c.tc.loc Cert.KernelIdeal.main_arg2)) (m (c.tc.loc Cert.KernelIdeal.main_arg3)),
    (θ_run Cert.KernelIdeal.defs _ _).mono (fun _ h c => by
      obtain ⟨h0, h1, h2, h3⟩ := Cert.Ffn.isReal_args (hpre c).1 (hpre c).2.1 (hpre c).2.2.1 (hpre c).2.2.2
      exact ⟨(h c).1.trans (Cert.Ffn.value m ρ c h0 h1 h2 h3), (h c).2⟩) (Cert.Ffn.run m ρ),
    (θ_run Cert.ReferenceIdeal.defs _ _).mono (fun _ h c => by
      obtain ⟨e0, e1, e2, e3⟩ := hag c
      refine ⟨(h c).1.trans ?_, (h c).2⟩
      rw [e0, e1, e2, e3]
      exact Cert.ReferenceIdeal.Read.val_main_v13_eq _ _ _ _) (Cert.ReferenceIdeal.Value.run m' ρ')⟩

end Cert.Ffn

end
-- ==== Proof.FinalPay.lean ====
/- What the output-projection kernel's body computes from its blocks, row by row. -/
module

public import proofs.«01_k».proof.Proof.Gen.Kernel3Ideal.Skeleton
public import Idealize.ShloMosaic.Lib.Pipeline.ValueKit

@[expose] public section

set_option maxRecDepth 16384

noncomputable section

namespace Cert.Final

open Idealize.ShloMosaic Idealize.ShloMosaic.TcCoe Idealize.SL.Sem
open Cert.Kernel3Ideal Cert.Kernel3Ideal.Gen

/-- The reciprocal root mean square of a row, as both programs take it. -/
def rms (u : Fin 1024 → EReal) : EReal :=
  Ideal.rsqrt (Ideal.div (∑ k, u k * u k) (Ideal.ofBits .f32 0x44800000#32) + Ideal.ofBits .f32 0x358637BD#32)
/-- The normalised row. -/
def nrm (u : Fin 1024 → EReal) (j : Fin 1024) : EReal := u j * rms u
/-- The prediction error of a row. -/
def err (u f t : Fin 1024 → EReal) (j : Fin 1024) : EReal := nrm u j * f j - t j
/-- The cotangent of the normalised row's scaled output. -/
def dy (u f t : Fin 1024 → EReal) (j : Fin 1024) : EReal := err u f t j * Ideal.ofBits .f32 0x3A800000#32
/-- The cotangent of the normalised row. -/
def dn (u f t : Fin 1024 → EReal) (j : Fin 1024) : EReal := dy u f t j * f j
/-- The cotangent of the row, as the kernel writes it. -/
def dx (u f t : Fin 1024 → EReal) (j : Fin 1024) : EReal :=
  rms u * (dn u f t j - nrm u j * Ideal.div (∑ k, dn u f t k * nrm u k) (Ideal.ofBits .f32 0x44800000#32))

variable (a : FVec Ideal S512x2816 .bf16) (w : FVec Ideal S2816x1024 .bf16) (x : FVec Ideal S512x1024 .f32)
  (g f : FVec Ideal S1x1024 .f32) (t : FVec Ideal S512x1024 .f32)

/-- Row `i` of the projection of a block. -/
def bo (i : Fin 512) (j : Fin 1024) : EReal := ∑ k : Fin 2816, a (ix2 i k) * w (ix2 k j)
/-- Row `i` of the residual stream of a block. -/
def bu (i : Fin 512) (j : Fin 1024) : EReal := x (ix2 i j) + g (ix2 0 j) * bo a w i j
/-- A one-row parameter as a row. -/
def par (g : FVec Ideal S1x1024 .f32) (j : Fin 1024) : EReal := g (ix2 0 j)
/-- Row `i` of the target block. -/
def bt (t : FVec Ideal S512x1024 .f32) (i : Fin 512) (j : Fin 1024) : EReal := t (ix2 i j)

theorem pay6 (i : Fin 512) (j : Fin 1024) : k0_pay6 (F := Ideal) a w (ix2 i j) = bo a w i j := by
  pointwise [k0_pay6]; rfl
theorem pay7 (i : Fin 512) (j : Fin 1024) : k0_pay7 (F := Ideal) a w x g (ix2 i j) = bu a w x g i j := by
  pointwise [k0_pay7, pay6]; rfl
theorem pay8 (i : Fin 512) (j : Fin 1) : k0_pay8 (F := Ideal) a w x g (ix2 i j) = rms (bu a w x g i) := by
  pointwise [k0_pay8, pay7]; rfl
theorem pay9 (i : Fin 512) (j : Fin 1024) : k0_pay9 (F := Ideal) a w x g (ix2 i j) = nrm (bu a w x g i) j := by
  pointwise [k0_pay9, pay7, pay8]; rfl
theorem pay10 (i : Fin 512) (j : Fin 1024) : k0_pay10 (F := Ideal) a w x g f t (ix2 i j) = err (bu a w x g i) (par f) (bt t i) j := by
  pointwise [k0_pay10, pay9]; rfl
theorem pay11 (i : Fin 512) (j : Fin 1024) : k0_pay11 (F := Ideal) a w x g f t (ix2 i j) = dy (bu a w x g i) (par f) (bt t i) j := by
  pointwise [k0_pay11, pay10]; rfl
theorem pay12 (i : Fin 512) (j : Fin 1024) : k0_pay12 (F := Ideal) a w x g f t f (ix2 i j) = dn (bu a w x g i) (par f) (bt t i) j := by
  pointwise [k0_pay12, pay11]; rfl
theorem pay13 (i : Fin 512) (j : Fin 1) : k0_pay13 (F := Ideal) a w x g f t f (ix2 i j)
    = ∑ k, dn (bu a w x g i) (par f) (bt t i) k * nrm (bu a w x g i) k := by
  pointwise [k0_pay13, pay12, pay9]
theorem pay14 (i : Fin 512) (j : Fin 1024) :
    k0_pay14 (F := Ideal) (k0_pay8 a w x g) (k0_pay9 a w x g) (k0_pay12 a w x g f t f) (k0_pay13 a w x g f t f) (ix2 i j)
      = dx (bu a w x g i) (par f) (bt t i) j := by
  pointwise [k0_pay14, pay12, pay9, pay8, pay13]; rfl
theorem pay15 (i : Fin 512) (j : Fin 1024) :
    k0_pay15 (F := Ideal) (k0_pay8 a w x g) (k0_pay9 a w x g) (k0_pay12 a w x g f t f) (k0_pay13 a w x g f t f) g (ix2 i j)
      = dx (bu a w x g i) (par f) (bt t i) j * par g j := by
  pointwise [k0_pay15, pay14]; rfl

/-- The row of a block that group `p` and lane row `r` name. -/
abbrev rowOf (p : Fin 64) (r : Fin 8) : Fin 512 := ⟨p * 8 + r, by omega⟩

/-- What one point adds to the loss accumulator: the lane sums of the squared errors, scaled. -/
theorem pay16 (acc : FVec Ideal S8x128 .f32) (r : Fin 8) (l : Fin 128) :
    k0_pay16 (F := Ideal) (k0_pay10 a w x g f t) acc (ix2 r l) = acc (ix2 r l) + (∑ q : Fin 8, ∑ p : Fin 64,
      err (bu a w x g (rowOf p r)) (par f) (bt t (rowOf p r)) ⟨q * 128 + l, by omega⟩
        * err (bu a w x g (rowOf p r)) (par f) (bt t (rowOf p r)) ⟨q * 128 + l, by omega⟩) * Ideal.ofBits .f32 0x3A000000#32 := by
  rw [Fin.sum_univ_eight]
  pointwise [k0_pay16, pay10]

/-- What one point adds to the final gain's accumulator. -/
theorem pay1 (acc : FVec Ideal S8x1024 .f32) (r : Fin 8) (j : Fin 1024) :
    k0_pay1 (F := Ideal) (k0_pay17 acc) (k0_pay18 (k0_pay9 a w x g) (k0_pay11 a w x g f t)) (ix2 r j) = acc (ix2 r j) + ∑ p : Fin 64,
      dy (bu a w x g (rowOf p r)) (par f) (bt t (rowOf p r)) j * nrm (bu a w x g (rowOf p r)) j := by
  pointwise [k0_pay1, k0_pay17, k0_pay18, pay9, pay11]

/-- What one point adds to the gate's accumulator. -/
theorem pay2 (acc : FVec Ideal S8x1024 .f32) (r : Fin 8) (j : Fin 1024) :
    k0_pay2 (F := Ideal) (k0_pay6 a w) (k0_pay14 (k0_pay8 a w x g) (k0_pay9 a w x g) (k0_pay12 a w x g f t f) (k0_pay13 a w x g f t f)) acc (ix2 r j)
      = acc (ix2 r j) + ∑ p : Fin 64,
      dx (bu a w x g (rowOf p r)) (par f) (bt t (rowOf p r)) j * bo a w (rowOf p r) j := by
  pointwise [k0_pay2, pay6, pay14]

/-- The accumulators start at zero. -/
theorem pay3 (i : S8x128.Idx) : k0_pay3 (F := Ideal) i = 0 := by pointwise [k0_pay3]
theorem pay4 (i : S8x1024.Idx) : k0_pay4 (F := Ideal) i = 0 := by pointwise [k0_pay4]
theorem pay5 (i : S8x1024.Idx) : k0_pay5 (F := Ideal) i = 0 := by pointwise [k0_pay5]

end Cert.Final

end
-- ==== Proof.FinalValue.lean ====
/- The arrays the output-projection kernel leaves, as functions of the arguments. -/
module

public import proofs.«01_k».proof.Proof.Gen.Kernel3Ideal.Frame
public import proofs.«01_k».proof.Proof.FinalPay
public import Idealize.ShloMosaic.Lib.StableHlo.ReadAt

@[expose] public section

set_option maxRecDepth 16384

noncomputable section

namespace Cert.Final

open Idealize.ShloMosaic Idealize.ShloMosaic.TcCoe Idealize.SL.Sem
open Cert.Kernel3Ideal Cert.Kernel3Ideal.Gen
open Idealize.ShloMosaic.Pipeline (Dat)

/-- Row `i` of the projection. -/
def oAt (a : FVec Ideal S4096x2816 .f32) (w : FVec Ideal S1x2816x1024 .f32) (i : Fin 4096) (j : Fin 1024) : EReal :=
  ∑ k : Fin 2816, a (ix2 i k) * w (ix3 0 k j)
/-- Row `i` of the residual stream. -/
def uAt (x : FVec Ideal S4096x1024 .f32) (a : FVec Ideal S4096x2816 .f32) (w : FVec Ideal S1x2816x1024 .f32)
    (g : FVec Ideal S1x1024 .f32) (i : Fin 4096) (j : Fin 1024) : EReal := x (ix2 i j) + g (ix2 0 j) * oAt a w i j
/-- Row `i` of the target. -/
def tAt (t : FVec Ideal S4096x1024 .f32) (i : Fin 4096) (j : Fin 1024) : EReal := t (ix2 i j)

variable (m : (ℓ : Loc nD τ sig) → Buf (Elt Ideal) ℓ)

/-- The row windows walk the rows; the others are one block. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The arguments of the program. -/
abbrev X (c : Dev nD) : FVec Ideal S4096x1024 .f32 := m ((c : Thread nD τ).loc main_arg0)
abbrev A (c : Dev nD) : FVec Ideal S4096x2816 .f32 := m ((c : Thread nD τ).loc main_arg1)
abbrev W (c : Dev nD) : FVec Ideal S1x2816x1024 .f32 := m ((c : Thread nD τ).loc main_arg2)
abbrev Gt (c : Dev nD) : FVec Ideal S1x1024 .f32 := m ((c : Thread nD τ).loc main_arg3)
abbrev Fg (c : Dev nD) : FVec Ideal S1x1024 .f32 := m ((c : Thread nD τ).loc main_arg4)
abbrev T (c : Dev nD) : FVec Ideal S4096x1024 .f32 := m ((c : Thread nD τ).loc main_arg5)

/-- The row of the array that row `i` of block `t` is. -/
abbrev rw512 (t : Fin cfg0.N) (i : Fin 512) : Fin 4096 := ⟨t.val * 512 + i, by have := lt_of_lt_of_eq t.isLt N_0; omega⟩

/-- The host lines before the region hand the kernel the down projection as a matrix. -/
theorem v2_at (c : Dev nD) (i : S2816x1024.Idx) : (V m c main_v2 : FVec Ideal S2816x1024 .bf16) i = W m c (ix3 0 (i 0) (i 1)) := by
  unfold_abbrev_sides
  after_reads_at

/-- The rows of the blocks are the rows of the arrays. -/
theorem blk_o (c : Dev nD) (t : Fin cfg0.N) (i : Fin 512) : bo (iblk m c 1 t) (iblk m c 2 t) i = oAt (A m c) (W m c) (rw512 t i) := by
  funext j; unfold bo oAt
  refine Fin.sum_fin_congr fun k => congrArg₂ (· * ·) ?_ ?_
  · blk_ext [iblk, V, idx t]
  · refine Eq.trans ?_ (v2_at m c (ix2 k j))
    blk_ext [iblk, idx t]
theorem blk_u (c : Dev nD) (t : Fin cfg0.N) (i : Fin 512) :
    bu (iblk m c 1 t) (iblk m c 2 t) (iblk m c 0 t) (iblk m c 3 t) i = uAt (X m c) (A m c) (W m c) (Gt m c) (rw512 t i) := by
  funext j; unfold bu uAt
  rw [blk_o]
  blk_point [iblk, V, idx t]
theorem blk_g (c : Dev nD) (t : Fin cfg0.N) : par (iblk m c 3 t) = par (Gt m c) := by
  funext j; unfold par
  blk_point [iblk, V, idx t]
theorem blk_f (c : Dev nD) (t : Fin cfg0.N) : par (iblk m c 4 t) = par (Fg m c) := by
  funext j; unfold par
  blk_point [iblk, V, idx t]
theorem blk_t (c : Dev nD) (t : Fin cfg0.N) (i : Fin 512) : bt (iblk m c 5 t) i = tAt (T m c) (rw512 t i) := by
  funext j; unfold bt tAt
  blk_point [iblk, V, idx t]

/-- The residual stream's cotangent, row by row. -/
def dxAt (c : Dev nD) (i : Fin 4096) (j : Fin 1024) : EReal :=
  dx (uAt (X m c) (A m c) (W m c) (Gt m c) i) (par (Fg m c)) (tAt (T m c) i) j

/-- A point leaves its block of the residual stream's cotangent, and of that cotangent times the gate. -/
theorem out6 (c : Dev nD) (t : Fin cfg0.N) (p : Fin 512) (q : Fin 1024) : (outsAt0 m c t.val t.isLt).1 (ix2 p q) = dxAt m c (rw512 t p) q := by
  unfold dxAt
  rw [← blk_u, ← blk_f m c t, ← blk_t]
  by_cases h : t.val % 8 = 0
  · rw [outsAt0_A m c t h]; frame_out; exact pay14 _ _ _ _ _ _ _ _
  · rw [outsAt0_B m c t h]; frame_out; exact pay14 _ _ _ _ _ _ _ _

theorem out7 (c : Dev nD) (t : Fin cfg0.N) (p : Fin 512) (q : Fin 1024) :
    (outsAt0 m c t.val t.isLt).2.1 (ix2 p q) = dxAt m c (rw512 t p) q * par (Gt m c) q := by
  unfold dxAt
  rw [← blk_u, ← blk_f m c t, ← blk_t, ← blk_g m c t]
  by_cases h : t.val % 8 = 0
  · rw [outsAt0_A m c t h]; frame_out; exact pay15 _ _ _ _ _ _ _ _
  · rw [outsAt0_B m c t h]; frame_out; exact pay15 _ _ _ _ _ _ _ _

/-- The kernel leaves the residual stream's cotangent in its first result. -/
theorem final6 (c : Dev nD) : (dats m 0 c).arrAt 6 (cfgs 0).N = fun i : S4096x1024.Idx => dxAt m c (i 0) (i 1) := by
  refine (dats m 0 c).arrAt_eq_of_covers 6 _ (by decide +kernel) fun t _ y => ?_
  blk_simp
  rw [after0_6]
  obtain ⟨p, q, rfl⟩ : ∃ (p : Fin 512) (q : Fin 1024), y = ix2 p q := ⟨y 0, y 1, eq_ix2 y⟩
  refine (out6 m c t p q).trans (congrArg₂ (dxAt m c) (Fin.ext ?_) (Fin.ext ?_))
  · blk_simp [idx t]
  · blk_simp [idx t]; try omega

theorem final7 (c : Dev nD) : (dats m 0 c).arrAt 7 (cfgs 0).N = fun i : S4096x1024.Idx => dxAt m c (i 0) (i 1) * par (Gt m c) (i 1) := by
  refine (dats m 0 c).arrAt_eq_of_covers 7 _ (by decide +kernel) fun t _ y => ?_
  blk_simp
  rw [after0_7]
  obtain ⟨p, q, rfl⟩ : ∃ (p : Fin 512) (q : Fin 1024), y = ix2 p q := ⟨y 0, y 1, eq_ix2 y⟩
  refine (out7 m c t p q).trans (congrArg₂ (fun i j => dxAt m c i j * par (Gt m c) j) (Fin.ext ?_) (Fin.ext ?_))
  · blk_simp [idx t]
  · blk_simp [idx t]; try omega

/-- The squared prediction error of row `i`, column `j`. -/
def sqAt (c : Dev nD) (i : Fin 4096) (j : Fin 1024) : EReal :=
  err (uAt (X m c) (A m c) (W m c) (Gt m c) i) (par (Fg m c)) (tAt (T m c) i) j
    * err (uAt (X m c) (A m c) (W m c) (Gt m c) i) (par (Fg m c)) (tAt (T m c) i) j
/-- Row `i` of what the final gain's cotangent sums. -/
def dfAt (c : Dev nD) (i : Fin 4096) (j : Fin 1024) : EReal :=
  dy (uAt (X m c) (A m c) (W m c) (Gt m c) i) (par (Fg m c)) (tAt (T m c) i) j
    * nrm (uAt (X m c) (A m c) (W m c) (Gt m c) i) j
/-- Row `i` of what the gate's cotangent sums. -/
def dgAt (c : Dev nD) (i : Fin 4096) (j : Fin 1024) : EReal := dxAt m c i j * oAt (A m c) (W m c) i j

/-- What point `t` adds to the loss accumulator. -/
def lossPt (c : Dev nD) (t : Fin cfg0.N) (r : Fin 8) (l : Fin 128) : EReal :=
  (∑ q : Fin 8, ∑ p : Fin 64, sqAt m c (rw512 t (rowOf p r)) ⟨q * 128 + l, by omega⟩) * Ideal.ofBits .f32 0x3A000000#32
/-- The third result: partial sums of the loss. -/
def loss8 (c : Dev nD) : FVec Ideal S8x128 .f32 := fun i => ∑ t : Fin cfg0.N, lossPt m c t (i 0) (i 1)

theorem final8 (c : Dev nD) : (dats m 0 c).arrAt 8 (cfgs 0).N = loss8 m c := by
  refine (dats m 0 c).arrAt_eq_of_after_last 8 t0_7 (by decide +kernel) _ fun j => ?_
  blk_simp
  obtain ⟨r, l, rfl⟩ : ∃ (r : Fin 8) (l : Fin 128), j = ix2 r l := ⟨j 0, j 1, eq_ix2 j⟩
  rw [after0_8]
  refine (Pipeline.eq_sum_fin_of_reset_step_apply_last (fun n h => (outsAt0 m c n h).2.2.1) 8 (fun _ => (0 : EReal))
    (fun t (i : S8x128.Idx) => lossPt m c t (i 0) (i 1)) ?_ ?_ (le_of_eq N_0) t0_7 rfl _).trans (zero_add _)
  · intro t h j
    obtain ⟨r, l, rfl⟩ : ∃ (r : Fin 8) (l : Fin 128), j = ix2 r l := ⟨j 0, j 1, eq_ix2 j⟩
    rw [outsAt0_A m c t h]; frame_out; rw [pay16, pay3]
    simp only [blk_u, blk_f m c t, blk_t]; rfl
  · intro t h j
    obtain ⟨r, l, rfl⟩ : ∃ (r : Fin 8) (l : Fin 128), j = ix2 r l := ⟨j 0, j 1, eq_ix2 j⟩
    rw [outsAt0_B m c t h]; frame_out; rw [pay16]
    simp only [blk_u, blk_f m c t, blk_t]; rfl

/-- What point `t` adds to the accumulator of the final gain's cotangent. -/
def dfPt (c : Dev nD) (t : Fin cfg0.N) (r : Fin 8) (l : Fin 1024) : EReal :=
  ∑ p : Fin 64, dfAt m c (rw512 t (rowOf p r)) l
/-- The fourth result: partial sums of the final gain's cotangent. -/
def df8 (c : Dev nD) : FVec Ideal S8x1024 .f32 := fun i => ∑ t : Fin cfg0.N, dfPt m c t (i 0) (i 1)

theorem final9 (c : Dev nD) : (dats m 0 c).arrAt 9 (cfgs 0).N = df8 m c := by
  refine (dats m 0 c).arrAt_eq_of_after_last 9 t0_7 (by decide +kernel) _ fun j => ?_
  blk_simp
  obtain ⟨r, l, rfl⟩ : ∃ (r : Fin 8) (l : Fin 1024), j = ix2 r l := ⟨j 0, j 1, eq_ix2 j⟩
  rw [after0_9]
  refine (Pipeline.eq_sum_fin_of_reset_step_apply_last (fun n h => (outsAt0 m c n h).2.2.2.1) 8 (fun _ => (0 : EReal))
    (fun t (i : S8x1024.Idx) => dfPt m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out; rw [pay1, pay4]
    simp only [blk_u, blk_f m c t, blk_t]; rfl
  · intro t h j
    obtain ⟨r, l, rfl⟩ : ∃ (r : Fin 8) (l : Fin 1024), j = ix2 r l := ⟨j 0, j 1, eq_ix2 j⟩
    rw [outsAt0_B m c t h]; frame_out; rw [pay1]
    simp only [blk_u, blk_f m c t, blk_t]; rfl

/-- What point `t` adds to the accumulator of the gate's cotangent. -/
def dgPt (c : Dev nD) (t : Fin cfg0.N) (r : Fin 8) (l : Fin 1024) : EReal :=
  ∑ p : Fin 64, dgAt m c (rw512 t (rowOf p r)) l
/-- The fifth result: partial sums of the gate's cotangent. -/
def dg8 (c : Dev nD) : FVec Ideal S8x1024 .f32 := fun i => ∑ t : Fin cfg0.N, dgPt m c t (i 0) (i 1)

theorem final10 (c : Dev nD) : (dats m 0 c).arrAt 10 (cfgs 0).N = dg8 m c := by
  refine (dats m 0 c).arrAt_eq_of_after_last 10 t0_7 (by decide +kernel) _ fun j => ?_
  blk_simp
  obtain ⟨r, l, rfl⟩ : ∃ (r : Fin 8) (l : Fin 1024), j = ix2 r l := ⟨j 0, j 1, eq_ix2 j⟩
  rw [after0_10]
  refine (Pipeline.eq_sum_fin_of_reset_step_apply_last (fun n h => (outsAt0 m c n h).2.2.2.2) 8 (fun _ => (0 : EReal))
    (fun t (i : S8x1024.Idx) => dgPt m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out; rw [pay2, pay5]
    simp only [blk_u, blk_f m c t, blk_t, blk_o]; rfl
  · intro t h j
    obtain ⟨r, l, rfl⟩ : ∃ (r : Fin 8) (l : Fin 1024), j = ix2 r l := ⟨j 0, j 1, eq_ix2 j⟩
    rw [outsAt0_B m c t h]; frame_out; rw [pay2]
    simp only [blk_u, blk_f m c t, blk_t, blk_o]; rfl

end Cert.Final

end
-- ==== Proof.Sums.lean ====
/- Sums that a kernel takes in eight partial rows per block, as sums over the rows of the array. -/
module

public import Idealize.ShloMosaic.Lib.Pipeline.ValueKit

@[expose] public section

noncomputable section

namespace Cert.Sums

open Idealize.ShloMosaic

/-- Row `p * 8 + r` of block `t` lies in the array. -/
theorem row_lt {N P L M : ℕ} (hL : L = P * 8) (hM : M = N * L) (t : Fin N) (p : Fin P) (r : Fin 8) : t.val * L + (p * 8 + r) < M := by
  subst hL hM
  calc t.val * (P * 8) + (p * 8 + r) < t.val * (P * 8) + (P * 8) := by omega
    _ = (t.val + 1) * (P * 8) := by ring
    _ ≤ N * (P * 8) := Nat.mul_le_mul_right _ t.isLt

/-- The eight partial sums over every eighth row of each of `N` blocks add up to the sum over all rows. -/
theorem sum_rows {N P L M : ℕ} (F : Fin M → EReal) (hL : L = P * 8) (hM : M = N * L) :
    ∑ r : Fin 8, ∑ t : Fin N, ∑ p : Fin P, F ⟨t.val * L + (p * 8 + r), row_lt hL hM t p r⟩ = ∑ i : Fin M, F i := by
  rw [Finset.sum_comm, ← Fin.sum_mul_add_fin N L F hM]
  refine Finset.sum_congr rfl fun t _ => ?_
  rw [Finset.sum_comm, ← Fin.sum_mul_add_fin P 8 (fun l : Fin L => F ⟨t.val * L + l, _⟩) hL]

end Cert.Sums

end
-- ==== Proof.Norms.lean ====
/- Root-mean-square normalisation of rows of 1024 reals, and of its gradient the two ways it is written. -/
module

public import proofs.«01_k».proof.Proof.Reals
public import Idealize.ShloMosaic.Lib.IdealHost

@[expose] public section

noncomputable section

namespace Cert.Norms

open Idealize.ShloMosaic Cert.Reals

/-! ### The constants -/

theorem c1024 : Ideal.ofBits .f32 0x44800000#32 = ((1024 : ℝ) : EReal) := by
  simp [Ideal.ofBits, Ideal.ieee, -EReal.coe_mul]; norm_num
theorem c2m10 : Ideal.ofBits .f32 0x3A800000#32 = ((1 / 1024 : ℝ) : EReal) := by
  simp [Ideal.ofBits, Ideal.ieee, -EReal.coe_mul]; norm_num
theorem c2m11 : Ideal.ofBits .f32 0x3A000000#32 = ((1 / 2048 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num
theorem cnegHalf : Ideal.ofBits .f32 0xBF000000#32 = ((-(1 / 2) : ℝ) : EReal) := by
  simp [Ideal.ofBits, Ideal.ieee, -EReal.coe_mul, -EReal.coe_neg]; norm_num
theorem cone : Ideal.ofBits .f32 0x3F800000#32 = ((1 : ℝ) : EReal) := by
  simp [Ideal.ofBits, Ideal.ieee, -EReal.coe_mul]; norm_num

/-- The small constant under the root. -/
def eps : ℝ := 8796093 * 2 ^ (-43 : ℤ)
theorem ceps : Ideal.ofBits .f32 0x358637BD#32 = (eps : EReal) := by
  simp [Ideal.ofBits, Ideal.ieee, -EReal.coe_mul, eps]
theorem eps_pos : 0 < eps := by unfold eps; positivity

/-! ### Rows of reals -/

/-- A row of extended reals is a row of reals. -/
def IsRow {n : ℕ} (u : Fin n → EReal) : Prop := ∃ x : Fin n → ℝ, u = fun j => (x j : EReal)

theorem isRow_of {n : ℕ} {u : Fin n → EReal} (h : ∀ j, IsReal (u j)) : IsRow u :=
  ⟨fun j => (h j).choose, funext fun j => (h j).choose_spec⟩
theorem IsRow.real {n : ℕ} {u : Fin n → EReal} (h : IsRow u) (j : Fin n) : IsReal (u j) := by
  obtain ⟨x, rfl⟩ := h; exact ⟨_, rfl⟩

/-- A sum of reals, taken among the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real factor distributes over a sum of reals. -/
theorem sum_mul_real {ι : Type*} (s : Finset ι) (f : ι → EReal) (c : EReal) (hc : IsReal c) (h : ∀ k ∈ s, IsReal (f k)) :
    (∑ k ∈ s, f k) * c = ∑ k ∈ s, f k * c := by
  classical
  obtain ⟨c, rfl⟩ := hc
  induction s using Finset.induction_on with
  | empty => simp
  | insert a s ha ih =>
    rw [Finset.sum_insert ha, Finset.sum_insert ha, ← ih fun k hk => h k (Finset.mem_insert_of_mem hk)]
    obtain ⟨x, hx⟩ := h a (Finset.mem_insert_self a s)
    obtain ⟨y, hy⟩ := IsReal.sum s fun k hk => h k (Finset.mem_insert_of_mem hk)
    rw [hx, hy]; norm_cast; ring_nf

theorem div_real (x y : ℝ) (h : y ≠ 0) : Ideal.div (x : EReal) (y : EReal) = ((x / y : ℝ) : EReal) := by
  rw [Ideal.div_coe h, ← EReal.coe_mul, mul_one_div]

/-! ### The norm of a row -/

/-- The mean square of a row, and the small constant. -/
def msq (u : Fin 1024 → EReal) : EReal :=
  Ideal.div (∑ k, u k * u k) (Ideal.ofBits .f32 0x44800000#32) + Ideal.ofBits .f32 0x358637BD#32
/-- The reciprocal root mean square of a row. -/
def rms (u : Fin 1024 → EReal) : EReal := Ideal.rsqrt (msq u)

/-- The mean square of a row of reals. -/
def msqR (x : Fin 1024 → ℝ) : ℝ := (∑ k, x k * x k) / 1024 + eps
theorem msqR_pos (x : Fin 1024 → ℝ) : 0 < msqR x :=
  add_pos_of_nonneg_of_pos (div_nonneg (Finset.sum_nonneg fun k _ => mul_self_nonneg _) (by norm_num)) eps_pos

theorem msq_coe (x : Fin 1024 → ℝ) : msq (fun j => (x j : EReal)) = (msqR x : EReal) := by
  unfold msq msqR
  simp only [← EReal.coe_mul, ← coe_sum, c1024, ceps]
  rw [div_real _ _ (by norm_num), ← EReal.coe_add]

/-- The reciprocal root mean square of a row of reals is a real whose square is the reciprocal of the mean square. -/
theorem rms_coe (x : Fin 1024 → ℝ) : ∃ r : ℝ, rms (fun j => (x j : EReal)) = r ∧ r * r = 1 / msqR x := by
  refine ⟨(Real.sqrt (msqR x))⁻¹, ?_, ?_⟩
  · unfold rms
    rw [msq_coe, Ideal.rsqrt_coe, if_neg (not_lt.mpr (msqR_pos x).le), if_neg (msqR_pos x).ne']
  · rw [← mul_inv, Real.mul_self_sqrt (msqR_pos x).le, one_div]

theorem isReal_rms {u : Fin 1024 → EReal} (h : IsRow u) : IsReal (rms u) := by
  obtain ⟨x, rfl⟩ := h; obtain ⟨r, hr, _⟩ := rms_coe x; exact ⟨r, hr⟩

/-- The gradient of a normalised row's input from the gradient `d` of its output, by the closed form. -/
def dClosed (u d : Fin 1024 → EReal) (j : Fin 1024) : EReal :=
  rms u * (d j - u j * rms u * Ideal.div (∑ k, d k * (u k * rms u)) (Ideal.ofBits .f32 0x44800000#32))
/-- The derivative of the mean square's root in the direction `d`, an entry's share. -/
def dMean (u d : Fin 1024 → EReal) : EReal :=
  Ideal.div ((∑ k, u k * d k) * (Ideal.ofBits .f32 0xBF000000#32 * Ideal.div (rms u) (msq u))) (Ideal.ofBits .f32 0x44800000#32)
/-- The same gradient by the chain rule: the product's own factor, and the mean square's twice. -/
def dChain (u d : Fin 1024 → EReal) (j : Fin 1024) : EReal := d j * rms u + u j * dMean u d + dMean u d * u j

/-- The two gradients of a row of reals agree, and are real. -/
theorem closed_eq_chain {u d : Fin 1024 → EReal} (hu : IsRow u) (hd : IsRow d) (j : Fin 1024) :
    dClosed u d j = dChain u d j := by
  obtain ⟨x, rfl⟩ := hu; obtain ⟨y, rfl⟩ := hd
  obtain ⟨r, hr, hrr⟩ := rms_coe x
  unfold dClosed dChain dMean
  rw [hr, msq_coe, c1024, cnegHalf, div_real _ _ (msqR_pos x).ne']
  simp only [← EReal.coe_mul, ← coe_sum]
  rw [div_real _ _ (by norm_num), div_real _ _ (by norm_num)]
  simp only [← EReal.coe_mul, ← EReal.coe_add, ← EReal.coe_sub]
  congr 1
  have e : (∑ k, y k * (x k * r)) = r * ∑ k, x k * y k := by
    rw [Finset.mul_sum]; exact Finset.sum_congr rfl fun k _ => by ring
  rw [e, div_eq_mul_one_div r, ← hrr]
  ring

theorem isReal_dClosed {u d : Fin 1024 → EReal} (hu : IsRow u) (hd : IsRow d) (j : Fin 1024) : IsReal (dClosed u d j) := by
  have hr := isReal_rms hu
  have hs : IsReal (∑ k, d k * (u k * rms u)) := IsReal.sum _ fun k _ => (hd.real k).mul ((hu.real k).mul hr)
  obtain ⟨s, hs⟩ := hs
  unfold Norms.dClosed
  rw [hs, c1024, div_real _ _ (by norm_num)]
  exact hr.mul ((hd.real j).sub (((hu.real j).mul hr).mul (.coe _)))

end Cert.Norms

end
-- ==== Proof.FinalAlgebra.lean ====
/- The output projection, the final norm and the loss with their gradients: what the kernel's program returns is what
   the reference computes, for finite arguments. -/
module

public import proofs.«01_k».proof.Proof.FinalValue
public import proofs.«01_k».proof.Proof.Sums
public import proofs.«01_k».proof.Proof.Norms
public import proofs.«01_k».proof.Proof.Gen.Reference3Ideal.Read
public import proofs.«01_k».proof.Defs
public import Idealize.ShloMosaic.Lib.StableHlo.ReadAt

@[expose] public section

set_option maxRecDepth 16384

noncomputable section

namespace Cert.Final

open Idealize.ShloMosaic Idealize.ShloMosaic.TcCoe Idealize.SL.Sem
open Cert.Reals Cert.Norms

/-! ### The reference, row by row -/

section Reference
open Cert.Reference3Ideal Cert.Reference3Ideal.Gen Cert.Reference3Ideal.Read

variable (x : FVec Ideal S4096x1024 .f32) (a : FVec Ideal S4096x2816 .f32) (w : FVec Ideal S1x2816x1024 .f32)
  (g f : FVec Ideal S1x1024 .f32) (t : FVec Ideal S4096x1024 .f32)

/-- The cotangent of the scaled row, as the chain rule gives it from the loss. -/
def ey (u f t : Fin 1024 → EReal) (j : Fin 1024) : EReal :=
  Ideal.div (Ideal.ofBits .f32 0x3F000000#32 * Ideal.ofBits .f32 0x3F800000#32) (Ideal.ofBits .f32 0x44800000#32)
    * (Ideal.ofBits .f32 0x40000000#32 * err u f t j)

theorem r_o (i : Fin 4096) (j : Fin 1024) : val_main_v1 (F := Ideal) a w (ix2 i j) = oAt a w i j := by
  pointwise [val_main_v1, val_main_v0]; rfl
theorem r_u (i : Fin 4096) (j : Fin 1024) : val_main_v4 (F := Ideal) x a w g (ix2 i j) = uAt x a w g i j := by
  pointwise [val_main_v4, val_main_v3, val_main_v2, r_o]; rfl
theorem r_msq (i : Fin 4096) (j : Fin 1) : val_main_v11 (F := Ideal) x a w g (ix2 i j) = msq (uAt x a w g i) := by
  pointwise [val_main_v11, val_main_v10, val_main_v9, val_main_v8, val_main_v7, val_main_v6, val_main_v5, val_main_cst, val_main_cst_0, val_main_cst_1, r_u]; rfl
theorem r_rms (i : Fin 4096) (j : Fin 1) : val_main_v12 (F := Ideal) x a w g (ix2 i j) = Norms.rms (uAt x a w g i) := by
  pointwise [val_main_v12, r_msq]; rfl
theorem r_nrm (i : Fin 4096) (j : Fin 1024) : val_main_v17 (F := Ideal) x a w g (ix2 i j) = nrm (uAt x a w g i) j := by
  pointwise [val_main_v17, val_main_v16, r_rms, r_u]; rfl
theorem r_err (i : Fin 4096) (j : Fin 1024) :
    val_main_v20 (F := Ideal) x a w g f t (ix2 i j) = err (uAt x a w g i) (par f) (tAt t i) j := by
  pointwise [val_main_v20, val_main_v19, val_main_v18, r_nrm]; rfl
theorem r_ey (i : Fin 4096) (j : Fin 1024) :
    val_main_v34 (F := Ideal) x a w g f t (ix2 i j) = ey (uAt x a w g i) (par f) (tAt t i) j := by
  pointwise [val_main_v34, val_main_v33, val_main_v32, val_main_v31, val_main_v30, val_main_v29, val_main_v23, val_main_v22, r_err]; rfl
theorem r_en (i : Fin 4096) (j : Fin 1024) :
    val_main_v39 (F := Ideal) x a w g f t (ix2 i j) = ey (uAt x a w g i) (par f) (tAt t i) j * par f j := by
  pointwise [val_main_v39, val_main_v38, r_ey]; rfl
theorem r_mean (i : Fin 4096) (j : Fin 1) :
    val_main_v47 (F := Ideal) x a w g f t (ix2 i j) = dMean (uAt x a w g i) fun j => ey (uAt x a w g i) (par f) (tAt t i) j * par f j := by
  pointwise [val_main_v47, val_main_v46, val_main_v45, val_main_v43, val_main_v42, val_main_v41, val_main_v40, val_main_v15, val_main_v14, val_main_v13, val_main_cst_2, val_main_cst_12, val_main_cst_13, r_rms, r_msq, r_en, r_u]; rfl
theorem r_dx (i : Fin 4096) (j : Fin 1024) :
    val_main_v53 (F := Ideal) x a w g f t (ix2 i j)
      = dChain (uAt x a w g i) (fun j => ey (uAt x a w g i) (par f) (tAt t i) j * par f j) j := by
  pointwise [val_main_v53, val_main_v52, val_main_v51, val_main_v50, val_main_v49, val_main_v48, val_main_v44, val_main_v43, val_main_cst_14, r_rms, r_mean, r_en, r_u]
  rw [Fin.sum_univ_one]; rfl

end Reference

/-! ### The two gradients of a row -/

section Rows
variable {u f t : Fin 1024 → EReal} (hu : IsRow u) (hf : IsRow f) (ht : IsRow t)
include hu hf ht

theorem isReal_nrm (j : Fin 1024) : IsReal (nrm u j) := (hu.real j).mul (isReal_rms hu)
theorem isReal_err (j : Fin 1024) : IsReal (err u f t j) := ((isReal_nrm hu hf ht j).mul (hf.real j)).sub (ht.real j)

theorem dy_eq_ey (j : Fin 1024) : dy u f t j = ey u f t j := by
  obtain ⟨e, he⟩ := isReal_err hu hf ht j
  unfold dy ey
  rw [he, c2m10, chalf, cone, ctwo, c1024, ← EReal.coe_mul, ← EReal.coe_mul (1 / 2), div_real _ _ (by norm_num)]
  simp only [← EReal.coe_mul]
  congr 1; ring
theorem isReal_dy (j : Fin 1024) : IsReal (dy u f t j) := (isReal_err hu hf ht j).mul ⟨_, c2m10⟩
theorem isRow_dn : IsRow (dn u f t) := isRow_of fun j => (isReal_dy hu hf ht j).mul (hf.real j)
theorem dn_eq : dn u f t = fun j => ey u f t j * f j := funext fun j => congrArg (· * f j) (dy_eq_ey hu hf ht j)

/-- The kernel's gradient of a row is the chain rule's. -/
theorem dx_eq (j : Fin 1024) : dx u f t j = dChain u (fun j => ey u f t j * f j) j := by
  rw [← dn_eq hu hf ht]; exact closed_eq_chain hu (isRow_dn hu hf ht) j

end Rows

/-! ### The results of the kernel's program -/

section Kernel
open Cert.Kernel3Ideal Cert.Kernel3Ideal.Gen

variable (m : (ℓ : Loc nD τ sig) → Buf (Elt Ideal) ℓ)

/-- The loss the program returns: the eight partial rows of the loss, summed. -/
theorem host4 (c : Dev nD) (i) : (Pipeline.afterTail₀ cfgs (dats m) 0 (V0 m) [hostOps1] c main_v4 : FVec Ideal S_ .f32) i
    = ∑ r : Fin 8, ∑ l : Fin 128, loss8 m c (ix2 r l) := by
  unfold Pipeline.afterTail₀
  after_reads_at
  erw [Pipeline.withArrays_arr (cfgs 0).spec launch0.win.arr_inj c _ _ 8]
  rw [final8]
/-- The gradient of the final norm's weight that the program returns: the eight partial rows, summed. -/
theorem host6 (c : Dev nD) (o : Fin 1) (j : Fin 1024) :
    (Pipeline.afterTail₀ cfgs (dats m) 0 (V0 m) [hostOps1] c main_v6 : FVec Ideal S1x1024 .f32) (ix2 o j)
      = ∑ r : Fin 8, df8 m c (ix2 r j) := by
  unfold Pipeline.afterTail₀
  after_reads_at
  erw [Pipeline.withArrays_arr (cfgs 0).spec launch0.win.arr_inj c _ _ 9]
  rw [final9]
/-- The gradient of the gate that the program returns: the eight partial rows, summed. -/
theorem host8 (c : Dev nD) (o : Fin 1) (j : Fin 1024) :
    (Pipeline.afterTail₀ cfgs (dats m) 0 (V0 m) [hostOps1] c main_v8 : FVec Ideal S1x1024 .f32) (ix2 o j)
      = ∑ r : Fin 8, dg8 m c (ix2 r j) := by
  unfold Pipeline.afterTail₀
  after_reads_at
  erw [Pipeline.withArrays_arr (cfgs 0).spec launch0.win.arr_inj c _ _ 10]
  rw [final10]

theorem rest4 : main_v4 ∈ Pipeline.restRefs sig (cfgs 0).spec := by decide
theorem rest6 : main_v6 ∈ Pipeline.restRefs sig (cfgs 0).spec := by decide
theorem rest8 : main_v8 ∈ Pipeline.restRefs sig (cfgs 0).spec := by decide

end Kernel

/-! ### The results agree -/

section Agree
open Cert.Reference3Ideal.Read

variable (m : (ℓ : Loc Cert.Kernel3Ideal.nD Cert.Kernel3Ideal.τ Cert.Kernel3Ideal.sig) → Buf (Elt Ideal) ℓ)
  (c : Dev Cert.Kernel3Ideal.nD)
  (hX : ∀ i, IsReal (X m c i)) (hA : ∀ i, IsReal (A m c i)) (hW : ∀ i, IsReal (W m c i)) (hG : ∀ i, IsReal (Gt m c i))
  (hF : ∀ i, IsReal (Fg m c i)) (hT : ∀ i, IsReal (T m c i))
include hX hA hW hG hF hT

theorem row_u (i : Fin 4096) : IsRow (uAt (X m c) (A m c) (W m c) (Gt m c) i) :=
  isRow_of fun j => (hX _).add ((hG _).mul (IsReal.sum _ fun k _ => (hA _).mul (hW _)))
theorem row_f : IsRow (par (Fg m c)) := isRow_of fun j => hF _
theorem row_t (i : Fin 4096) : IsRow (tAt (T m c) i) := isRow_of fun j => hT _

theorem dxAt_eq (i : Fin 4096) (j : Fin 1024) :
    dxAt m c i j = val_main_v53 (F := Ideal) (X m c) (A m c) (W m c) (Gt m c) (Fg m c) (T m c) (ix2 i j) := by
  rw [r_dx]
  exact dx_eq (row_u m c hX hA hW hG hF hT i) (row_f m c hX hA hW hG hF hT) (row_t m c hX hA hW hG hF hT i) j

/-- The gradient of the residual stream. -/
theorem res_dx : (fun i : Cert.Kernel3Ideal.S4096x1024.Idx => dxAt m c (i 0) (i 1))
    = val_main_v53 (F := Ideal) (X m c) (A m c) (W m c) (Gt m c) (Fg m c) (T m c) := by
  funext y
  obtain ⟨p, q, rfl⟩ : ∃ (p : Fin 4096) (q : Fin 1024), y = ix2 p q := ⟨y 0, y 1, eq_ix2 y⟩
  exact dxAt_eq m c hX hA hW hG hF hT p q

/-- The gradient of the projection. -/
theorem res_do : (fun i : Cert.Kernel3Ideal.S4096x1024.Idx => dxAt m c (i 0) (i 1) * par (Gt m c) (i 1))
    = val_main_v59 (F := Ideal) (X m c) (A m c) (W m c) (Gt m c) (Fg m c) (T m c) := by
  funext y
  obtain ⟨p, q, rfl⟩ : ∃ (p : Fin 4096) (q : Fin 1024), y = ix2 p q := ⟨y 0, y 1, eq_ix2 y⟩
  refine (congrArg (· * par (Gt m c) q) (dxAt_eq m c hX hA hW hG hF hT p q)).trans ?_
  pointwise [val_main_v59, val_main_v55, val_main_v54]
  exact mul_comm _ _

/-- The gradient of the final norm's weight. -/
theorem res_df (o : Fin 1) (j : Fin 1024) : ∑ r : Fin 8, df8 m c (ix2 r j)
    = val_main_v37 (F := Ideal) (X m c) (A m c) (W m c) (Gt m c) (Fg m c) (T m c) (ix2 o j) := by
  refine (Sums.sum_rows (N := Cert.Kernel3Ideal.cfg0.N) (P := 64) (L := 512) (fun i => dfAt m c i j) rfl rfl).trans ?_
  pointwise [val_main_v37, val_main_v36, val_main_v35, val_main_cst_11, r_nrm, r_ey]
  refine Finset.sum_congr rfl fun i _ => ?_
  unfold dfAt
  rw [dy_eq_ey (row_u m c hX hA hW hG hF hT i) (row_f m c hX hA hW hG hF hT) (row_t m c hX hA hW hG hF hT i)]
  exact mul_comm _ _

/-- The gradient of the gate. -/
theorem res_dg (o : Fin 1) (j : Fin 1024) : ∑ r : Fin 8, dg8 m c (ix2 r j)
    = val_main_v58 (F := Ideal) (X m c) (A m c) (W m c) (Gt m c) (Fg m c) (T m c) (ix2 o j) := by
  refine (Sums.sum_rows (N := Cert.Kernel3Ideal.cfg0.N) (P := 64) (L := 512) (fun i => dgAt m c i j) rfl rfl).trans ?_
  pointwise [val_main_v58, val_main_v57, val_main_v56, val_main_cst_15, r_o]
  refine Finset.sum_congr rfl fun i _ => ?_
  unfold dgAt
  rw [dxAt_eq m c hX hA hW hG hF hT]

theorem isReal_sq (i : Fin 4096) (j : Fin 1024) : IsReal (sqAt m c i j) :=
  have h := isReal_err (row_u m c hX hA hW hG hF hT i) (row_f m c hX hA hW hG hF hT) (row_t m c hX hA hW hG hF hT i) j
  h.mul h

/-- The loss. -/
theorem res_loss (y) : ∑ r : Fin 8, ∑ l : Fin 128, loss8 m c (ix2 r l)
    = val_main_v28 (F := Ideal) (X m c) (A m c) (W m c) (Gt m c) (Fg m c) (T m c) y := by
  have hs := isReal_sq m c hX hA hW hG hF hT
  have hc : IsReal (Ideal.ofBits .f32 0x3A000000#32) := ⟨_, c2m11⟩
  have e : ∑ r : Fin 8, ∑ l : Fin 128, loss8 m c (ix2 r l)
      = ∑ r : Fin 8, ∑ t : Fin Cert.Kernel3Ideal.cfg0.N, ∑ p : Fin 64,
          ∑ j : Fin 1024, sqAt m c (rw512 t (rowOf p r)) j * Ideal.ofBits .f32 0x3A000000#32 := by
    refine Finset.sum_congr rfl fun r _ => ?_
    refine Finset.sum_comm.trans (Finset.sum_congr rfl fun t _ => ?_)
    have h1 : ∀ l : Fin 128, lossPt m c t r l
        = ∑ p : Fin 64, ∑ q : Fin 8, sqAt m c (rw512 t (rowOf p r)) ⟨q * 128 + l, by omega⟩ * Ideal.ofBits .f32 0x3A000000#32 := by
      intro l
      unfold lossPt
      rw [sum_mul_real _ _ _ hc fun q _ => IsReal.sum _ fun p _ => hs _ _, Finset.sum_comm (s := Finset.univ (α := Fin 64))]
      exact Finset.sum_congr rfl fun q _ => sum_mul_real _ _ _ hc fun p _ => hs _ _
    refine (Finset.sum_congr rfl fun l _ => h1 l).trans (Finset.sum_comm.trans (Finset.sum_congr rfl fun p _ => ?_))
    refine Finset.sum_comm.trans ?_
    exact Fin.sum_mul_add_fin 8 128 (fun j : Fin 1024 => sqAt m c (rw512 t (rowOf p r)) j * Ideal.ofBits .f32 0x3A000000#32) rfl
  rw [e]
  refine (Sums.sum_rows (N := Cert.Kernel3Ideal.cfg0.N) (P := 64) (L := 512)
    (fun i => ∑ j : Fin 1024, sqAt m c i j * Ideal.ofBits .f32 0x3A000000#32) rfl rfl).trans ?_
  pointwise [val_main_v28, val_main_v27, val_main_v26, val_main_v25, val_main_v24, val_main_v21, val_main_cst_7,
    val_main_cst_6, val_main_cst_5, val_main_cst_4, r_err]
  rw [mul_comm, sum_mul_real _ _ _ ⟨_, chalf⟩]
  · refine Finset.sum_congr rfl fun i _ => ?_
    rw [c1024, Ideal.div_coe (by norm_num), chalf, mul_assoc, ← EReal.coe_mul, c2m11]
    refine Eq.trans ?_ (sum_mul_real _ (fun j => sqAt m c i j) _ (.coe _) fun j _ => hs i j).symm
    refine Finset.sum_congr rfl fun j _ => ?_
    norm_num
  · intro i _
    obtain ⟨s, h⟩ := IsReal.sum Finset.univ fun j _ => hs i j
    unfold sqAt at h
    rw [h, c1024, div_real _ _ (by norm_num)]
    exact .coe _

end Agree

/-! ### Finite arguments are real -/

theorem isReal_args [Cert.Pre_finite3.Facts] {x0 x1 x2 x3 x4 x5}
    (h : (Cert.Pre_finite3.fn (F := Ideal) x0 x1 x2 x3 x4 x5).1 = (fun _ => 1#1)
      ∧ (Cert.Pre_finite3.fn (F := Ideal) x0 x1 x2 x3 x4 x5).2.1 = (fun _ => 1#1)
      ∧ (Cert.Pre_finite3.fn (F := Ideal) x0 x1 x2 x3 x4 x5).2.2.1 = (fun _ => 1#1)
      ∧ (Cert.Pre_finite3.fn (F := Ideal) x0 x1 x2 x3 x4 x5).2.2.2.1 = (fun _ => 1#1)
      ∧ (Cert.Pre_finite3.fn (F := Ideal) x0 x1 x2 x3 x4 x5).2.2.2.2.1 = (fun _ => 1#1)
      ∧ (Cert.Pre_finite3.fn (F := Ideal) x0 x1 x2 x3 x4 x5).2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i))
      ∧ ∀ i, IsReal (x5 i) := by
  obtain ⟨h0, h1, h2, h3, h4, h5⟩ := h
  unfold Cert.Pre_finite3.fn at h0 h1 h2 h3 h4 h5
  refine ⟨fun i => ?_, fun i => ?_, fun i => ?_, fun i => ?_, fun i => ?_, fun i => ?_⟩
  · have := congrFun h0 i; pointwise at this; exact isReal_of_abs_lt this
  · have := congrFun h1 i; pointwise at this; exact isReal_of_abs_lt this
  · have := congrFun h2 i; pointwise at this; exact isReal_of_abs_lt this
  · have := congrFun h3 i; pointwise at this; exact isReal_of_abs_lt this
  · have := congrFun h4 i; pointwise at this; exact isReal_of_abs_lt this
  · have := congrFun h5 i; pointwise at this; exact isReal_of_abs_lt this

end Cert.Final

end
-- ==== Proof.FinalClaim.lean ====
/- The claims of the output projection, the final norm and the loss: the two runs joined to the values. -/
module

public import proofs.«01_k».proof.Proof.FinalAlgebra
public import proofs.«01_k».proof.Proof.Gen.Reference3Ideal.Run
public import proofs.«01_k».proof.Proof.Gen.Pre_finite3
public import Idealize.ShloMosaic.Adequacy

@[expose] public section

set_option maxRecDepth 16384

noncomputable section

namespace Cert.Final

open Idealize.ShloMosaic Idealize.ShloMosaic.TcCoe Idealize.SL.Sem
open Cert.Reals Cert.Reference3Ideal.Read

section Kernel
open Cert.Kernel3Ideal Cert.Kernel3Ideal.Gen

variable (m : (ℓ : Loc nD τ sig) → Buf (Elt Ideal) ℓ) (ρ : Dev nD → PrngReg)

/-- From finite arguments the kernel's program ends with the reference's five values and its arguments unchanged. -/
theorem run (hX : ∀ c i, IsReal (X m c i)) (hA : ∀ c i, IsReal (A m c i)) (hW : ∀ c i, IsReal (W m c i))
    (hG : ∀ c i, IsReal (Gt m c i)) (hF : ∀ c i, IsReal (Fg m c i)) (hT : ∀ c i, IsReal (T m c i)) :
    θ_run defs (onTc (τ := τ) (main (F := Ideal))) ⟨m, fun _ => 0, ρ⟩ (fun r => ∀ c : Dev nD,
      r.2.mem (c.tc.loc main_v4) = val_main_v28 (F := Ideal) (X m c) (A m c) (W m c) (Gt m c) (Fg m c) (T m c)
      ∧ r.2.mem (c.tc.loc main_v3_0) = val_main_v53 (F := Ideal) (X m c) (A m c) (W m c) (Gt m c) (Fg m c) (T m c)
      ∧ r.2.mem (c.tc.loc main_v3_1) = val_main_v59 (F := Ideal) (X m c) (A m c) (W m c) (Gt m c) (Fg m c) (T m c)
      ∧ r.2.mem (c.tc.loc main_v6) = val_main_v37 (F := Ideal) (X m c) (A m c) (W m c) (Gt m c) (Fg m c) (T m c)
      ∧ r.2.mem (c.tc.loc main_v8) = val_main_v58 (F := Ideal) (X m c) (A m c) (W m c) (Gt m c) (Fg m c) (T m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) := by
  refine (θ_run defs _ _).mono (fun r h c => ⟨?_, ?_, ?_, ?_, ?_, ?_, ?_, ?_, ?_, ?_, ?_⟩) (run_main m ρ)
  · refine ((h c).2 main_v4 rest4).trans (funext fun i => ?_)
    exact (host4 m c i).trans (res_loss m c (hX c) (hA c) (hW c) (hG c) (hF c) (hT c) i)
  · exact ((h c).1 6).trans ((final6 m c).trans (res_dx m c (hX c) (hA c) (hW c) (hG c) (hF c) (hT c)))
  · exact ((h c).1 7).trans ((final7 m c).trans (res_do m c (hX c) (hA c) (hW c) (hG c) (hF c) (hT c)))
  · refine ((h c).2 main_v6 rest6).trans (funext fun (y : S1x1024.Idx) => ?_)
    obtain ⟨o, j, rfl⟩ : ∃ (o : Fin 1) (j : Fin 1024), y = ix2 o j := ⟨y 0, y 1, eq_ix2 y⟩
    exact (host6 m c o j).trans (res_df m c (hX c) (hA c) (hW c) (hG c) (hF c) (hT c) o j)
  · refine ((h c).2 main_v8 rest8).trans (funext fun (y : S1x1024.Idx) => ?_)
    obtain ⟨o, j, rfl⟩ : ∃ (o : Fin 1) (j : Fin 1024), y = ix2 o j := ⟨y 0, y 1, eq_ix2 y⟩
    exact (host8 m c o j).trans (res_dg m c (hX c) (hA c) (hW c) (hG c) (hF c) (hT c) o j)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).1 3).trans (((dats m 0 c).arrAt_in 3 rfl _).trans ((A_eq m c 3).trans (V_main_arg3 m c)))
  · exact ((h c).1 4).trans (((dats m 0 c).arrAt_in 4 rfl _).trans ((A_eq m c 4).trans (V_main_arg4 m c)))
  · exact ((h c).1 5).trans (((dats m 0 c).arrAt_in 5 rfl _).trans ((A_eq m c 5).trans (V_main_arg5 m c)))

end Kernel

/-- The reference runs, changes no argument, and has no semaphore to leave raised. -/
theorem ref_frame : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩)
    (Cert.Reference3Ideal.Value.run m ρ)

/-- The program and the reference return one loss and one set of gradients at finite arguments. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := fun m ρ m' ρ' hpre hag =>
  have real := fun c => isReal_args (hpre c)
  ⟨_, _, _, _, _, run m ρ (fun c => (real c).1) (fun c => (real c).2.1) (fun c => (real c).2.2.1) (fun c => (real c).2.2.2.1)
      (fun c => (real c).2.2.2.2.1) (fun c => (real c).2.2.2.2.2),
    (θ_run Cert.Reference3Ideal.defs _ _).mono (fun _ h c => by
      obtain ⟨e0, e1, e2, e3, e4, e5⟩ := hag c
      obtain ⟨r0, r1, r2, r3, r4, rest⟩ := h c
      refine ⟨r0.trans ?_, r1.trans ?_, r2.trans ?_, r3.trans ?_, r4.trans ?_, rest⟩
      · rw [e0, e1, e2, e3, e4, e5]; exact val_main_v28_eq _ _ _ _ _ _
      · refine (val_main_v53_eq m' c).trans ?_; rw [e0, e1, e2, e3, e4, e5]
      · refine (val_main_v59_eq m' c).trans ?_; rw [e0, e1, e2, e3, e4, e5]
      · rw [e0, e1, e2, e3, e4, e5]; exact val_main_v37_eq _ _ _ _ _ _
      · refine (val_main_v58_eq m' c).trans ?_; rw [e0, e1, e2, e3, e4, e5]) (Cert.Reference3Ideal.Value.run m' ρ')⟩

end Cert.Final

end
-- ==== Proof.NormPay.lean ====
/- What the body of the backward of the modulated norm computes from its blocks, row by row. -/
module

public import proofs.«01_k».proof.Proof.Gen.Kernel4Ideal.Skeleton
public import proofs.«01_k».proof.Proof.Norms
public import Idealize.ShloMosaic.Lib.Pipeline.ValueKit

@[expose] public section

set_option maxRecDepth 16384

noncomputable section

namespace Cert.Norm

open Idealize.ShloMosaic Idealize.ShloMosaic.TcCoe Idealize.SL.Sem
open Cert.Kernel4Ideal Cert.Kernel4Ideal.Gen Cert.Norms

/-- The normalised row. -/
def nrm (u : Fin 1024 → EReal) (j : Fin 1024) : EReal := u j * rms u
/-- One plus the scale. -/
def one (s : Fin 1024 → EReal) (j : Fin 1024) : EReal := 1 + s j
/-- The cotangent of the normalised row, as the kernel multiplies it out. -/
def dn (h g s : Fin 1024 → EReal) (j : Fin 1024) : EReal := h j * (g j * one s j)

variable (d : FVec Ideal S512x5632 .bf16) (w : FVec Ideal S1024x5632 .bf16) (x r o : FVec Ideal S512x1024 .f32)
  (g s t : FVec Ideal S1x1024 .f32) (b : FVec Ideal S512x1024 .bf16) (acc : FVec Ideal S8x1024 .f32)

/-- Row `i` of the cotangent of the modulated norm, a product of a block with the weight. -/
def bh (i : Fin 512) (j : Fin 1024) : EReal := ∑ k : Fin 5632, d (ix2 i k) * w (ix2 j k)
/-- Row `i` of a block. -/
def bx (x : FVec Ideal S512x1024 .f32) (i : Fin 512) (j : Fin 1024) : EReal := x (ix2 i j)
/-- A one-row parameter as a row. -/
def par (g : FVec Ideal S1x1024 .f32) (j : Fin 1024) : EReal := g (ix2 0 j)

theorem pay6 (j : Fin 1024) : k0_pay6 (F := Ideal) s (ix2 0 j) = one (par s) j := by
  pointwise [k0_pay6]; rfl
theorem pay7 (i : Fin 512) (j : Fin 1024) : k0_pay7 (F := Ideal) x (ix2 i j) = bx x i j := by
  pointwise [k0_pay7]; rfl
theorem pay8 (i : Fin 512) (j : Fin 1) : k0_pay8 (F := Ideal) x (ix2 i j) = rms (bx x i) := by
  pointwise [k0_pay8, pay7]; rfl
theorem pay9 (i : Fin 512) (j : Fin 1024) : k0_pay9 (F := Ideal) x (ix2 i j) = nrm (bx x i) j := by
  pointwise [k0_pay9, pay7, pay8]; rfl
theorem pay10 (i : Fin 512) (j : Fin 1024) : k0_pay10 (F := Ideal) d w (ix2 i j) = bh d w i j := by
  pointwise [k0_pay10]; rfl
theorem pay11 (i : Fin 512) (j : Fin 1024) : k0_pay11 (F := Ideal) g s x d w (ix2 i j)
    = dn (bh d w i) (par g) (par s) j - nrm (bx x i) j * Ideal.div (∑ k, dn (bh d w i) (par g) (par s) k * nrm (bx x i) k)
        (Ideal.ofBits .f32 0x44800000#32) := by
  pointwise [k0_pay11, pay6, pay9, pay10]; rfl
theorem pay12 (i : Fin 512) (j : Fin 1024) : k0_pay12 (F := Ideal) x (ix2 i j) = rms (bx x i) := by
  pointwise [k0_pay12, pay8]

/-- The cotangent of the norm's input, as a block's row has it. -/
def bdx (i : Fin 512) (j : Fin 1024) : EReal := bx r i j + dClosed (bx x i) (dn (bh d w i) (par g) (par s)) j

theorem pay13 (i : Fin 512) (j : Fin 1024) :
    k0_pay13 (F := Ideal) r (k0_pay11 g s x d w) (k0_pay12 x) (ix2 i j) = bdx d w x r g s i j := by
  pointwise [k0_pay13, pay11, pay12]; rfl
theorem pay14 (i : Fin 512) (j : Fin 1024) :
    k0_pay14 (F := Ideal) r (k0_pay11 g s x d w) (k0_pay12 x) t (ix2 i j) = bdx d w x r g s i j * par t j := by
  pointwise [k0_pay14, pay13]; rfl

/-- The row of a block that group `p` and lane row `r` name. -/
abbrev rowOf (p : Fin 64) (r : Fin 8) : Fin 512 := ⟨p * 8 + r, by omega⟩

theorem pay16 (r : Fin 8) (l : Fin 1024) : k0_pay16 (F := Ideal) (k0_pay10 d w) acc (ix2 r l)
    = acc (ix2 r l) + ∑ p : Fin 64, bh d w (rowOf p r) l := by
  pointwise [k0_pay16, pay10]
theorem pay17 (r : Fin 8) (l : Fin 1024) : k0_pay17 (F := Ideal) g (k0_pay9 x) (k0_pay10 d w) acc (ix2 r l)
    = acc (ix2 r l) + (∑ p : Fin 64, bh d w (rowOf p r) l * nrm (bx x (rowOf p r)) l) * par g l := by
  pointwise [k0_pay17, k0_pay15, pay10, pay9]; rfl
theorem pay18 (r : Fin 8) (l : Fin 1024) : k0_pay18 (F := Ideal) (k0_pay6 s) (k0_pay9 x) (k0_pay10 d w) acc (ix2 r l)
    = acc (ix2 r l) + (∑ p : Fin 64, bh d w (rowOf p r) l * nrm (bx x (rowOf p r)) l) * one (par s) l := by
  pointwise [k0_pay18, k0_pay15, pay10, pay9, pay6]
theorem pay1 (i : Fin 8) (l : Fin 1024) :
    k0_pay1 (F := Ideal) (k0_pay13 r (k0_pay11 g s x d w) (k0_pay12 x)) acc b (ix2 i l)
      = acc (ix2 i l) + ∑ p : Fin 64, bdx d w x r g s (rowOf p i) l * b (ix2 (rowOf p i) l) := by
  pointwise [k0_pay1, pay13]
theorem pay2 (i : S8x1024.Idx) : k0_pay2 (F := Ideal) i = 0 := by pointwise [k0_pay2]
theorem pay3 (i : S8x1024.Idx) : k0_pay3 (F := Ideal) i = 0 := by pointwise [k0_pay3]
theorem pay4 (i : S8x1024.Idx) : k0_pay4 (F := Ideal) i = 0 := by pointwise [k0_pay4]
theorem pay5 (i : S8x1024.Idx) : k0_pay5 (F := Ideal) i = 0 := by pointwise [k0_pay5]

end Cert.Norm

end
-- ==== Proof.NormValue.lean ====
/- What the backward of the modulated norm leaves in each of its results, as sums over the rows of its arguments. -/
module

public import proofs.«01_k».proof.Proof.Gen.Kernel4Ideal.Frame
public import proofs.«01_k».proof.Proof.NormPay
public import Idealize.ShloMosaic.Lib.StableHlo.ReadAt

@[expose] public section

set_option maxRecDepth 16384

noncomputable section

namespace Cert.Norm

open Idealize.ShloMosaic Idealize.ShloMosaic.TcCoe Idealize.SL.Sem
open Cert.Kernel4Ideal Cert.Kernel4Ideal.Gen Cert.Norms
open Idealize.ShloMosaic.Pipeline (Dat)

/-- Row `i` of the norm's input. -/
def uAt (x o : FVec Ideal S4096x1024 .f32) (t : FVec Ideal S1x1024 .f32) (i : Fin 4096) (j : Fin 1024) : EReal :=
  x (ix2 i j) + t (ix2 0 j) * o (ix2 i j)
/-- Row `i` of the cotangent of the norm's output. -/
def hAt (d : FVec Ideal S4096x5632 .f32) (w : FVec Ideal S1x1024x5632 .f32) (i : Fin 4096) (j : Fin 1024) : EReal :=
  ∑ k : Fin 5632, d (ix2 i k) * w (ix3 0 j k)
/-- Row `i` of an array. -/
def rAt (r : FVec Ideal S4096x1024 .f32) (i : Fin 4096) (j : Fin 1024) : EReal := r (ix2 i j)

variable (m : (ℓ : Loc nD τ sig) → Buf (Elt Ideal) ℓ)

/-- The row windows walk the rows; the others are one block. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The arguments of the program. -/
abbrev X (c : Dev nD) : FVec Ideal S4096x1024 .f32 := m ((c : Thread nD τ).loc main_arg0)
abbrev O (c : Dev nD) : FVec Ideal S4096x1024 .f32 := m ((c : Thread nD τ).loc main_arg1)
abbrev Gt (c : Dev nD) : FVec Ideal S1x1024 .f32 := m ((c : Thread nD τ).loc main_arg2)
abbrev Gn (c : Dev nD) : FVec Ideal S1x1024 .f32 := m ((c : Thread nD τ).loc main_arg3)
abbrev Sc (c : Dev nD) : FVec Ideal S1x1024 .f32 := m ((c : Thread nD τ).loc main_arg4)
abbrev W (c : Dev nD) : FVec Ideal S1x1024x5632 .f32 := m ((c : Thread nD τ).loc main_arg5)
abbrev R (c : Dev nD) : FVec Ideal S4096x1024 .f32 := m ((c : Thread nD τ).loc main_arg6)
abbrev D (c : Dev nD) : FVec Ideal S4096x5632 .f32 := m ((c : Thread nD τ).loc main_arg7)

/-- The row of the array that row `i` of block `t` is. -/
abbrev rw512 (t : Fin cfg0.N) (i : Fin 512) : Fin 4096 := ⟨t.val * 512 + i, by have := lt_of_lt_of_eq t.isLt N_0; omega⟩

/-- What the host lines before the region hand the kernel. -/
theorem v2_at (c : Dev nD) (i : Fin 4096) (j : Fin 1024) :
    (V m c main_v2 : FVec Ideal S4096x1024 .f32) (ix2 i j) = uAt (X m c) (O m c) (Gt m c) i j := by
  unfold_abbrev_sides
  after_reads_at
  rfl
theorem v3_at (c : Dev nD) (i : S4096x5632.Idx) : (V m c main_v3 : FVec Ideal S4096x5632 .bf16) i = D m c i := by
  unfold_abbrev_sides
  after_reads_at
theorem v5_at (c : Dev nD) (i : S1024x5632.Idx) : (V m c main_v5 : FVec Ideal S1024x5632 .bf16) i = W m c (ix3 0 (i 0) (i 1)) := by
  unfold_abbrev_sides
  after_reads_at
theorem v6_at (c : Dev nD) (i : S4096x1024.Idx) : (V m c main_v6 : FVec Ideal S4096x1024 .bf16) i = O m c i := by
  unfold_abbrev_sides
  after_reads_at

/-- The rows of the blocks are the rows of the arrays. -/
theorem blk_h (c : Dev nD) (t : Fin cfg0.N) (i : Fin 512) : bh (iblk m c 0 t) (iblk m c 1 t) i = hAt (D m c) (W m c) (rw512 t i) := by
  funext j; unfold bh hAt
  refine Fin.sum_fin_congr fun k => congrArg₂ (· * ·) ?_ ?_
  · refine Eq.trans ?_ (v3_at m c (ix2 (rw512 t i) k))
    blk_ext [iblk, idx t]
  · refine Eq.trans ?_ (v5_at m c (ix2 j k))
    blk_ext [iblk, idx t]
theorem blk_u (c : Dev nD) (t : Fin cfg0.N) (i : Fin 512) : bx (iblk m c 2 t) i = uAt (X m c) (O m c) (Gt m c) (rw512 t i) := by
  funext j
  refine Eq.trans ?_ (v2_at m c (rw512 t i) j)
  unfold bx
  blk_ext [iblk, idx t]
theorem blk_r (c : Dev nD) (t : Fin cfg0.N) (i : Fin 512) : bx (iblk m c 3 t) i = rAt (R m c) (rw512 t i) := by
  funext j; unfold bx rAt
  blk_point [iblk, V, idx t]
theorem blk_g (c : Dev nD) (t : Fin cfg0.N) : par (iblk m c 4 t) = par (Gn m c) := by
  funext j; unfold par
  blk_point [iblk, V, idx t]
theorem blk_s (c : Dev nD) (t : Fin cfg0.N) : par (iblk m c 5 t) = par (Sc m c) := by
  funext j; unfold par
  blk_point [iblk, V, idx t]
theorem blk_t (c : Dev nD) (t : Fin cfg0.N) : par (iblk m c 6 t) = par (Gt m c) := by
  funext j; unfold par
  blk_point [iblk, V, idx t]
theorem blk_o (c : Dev nD) (t : Fin cfg0.N) (i : Fin 512) (j : Fin 1024) :
    (iblk m c 7 t : FVec Ideal S512x1024 .bf16) (ix2 i j) = rAt (O m c) (rw512 t i) j := by
  refine Eq.trans ?_ (v6_at m c (ix2 (rw512 t i) j))
  blk_ext [iblk, idx t]

/-- The cotangent of the norm's input, row by row. -/
def dxAt (c : Dev nD) (i : Fin 4096) (j : Fin 1024) : EReal :=
  rAt (R m c) i j + dClosed (uAt (X m c) (O m c) (Gt m c) i) (dn (hAt (D m c) (W m c) i) (par (Gn m c)) (par (Sc m c))) j

theorem blk_dx (c : Dev nD) (t : Fin cfg0.N) (i : Fin 512) (j : Fin 1024) :
    bdx (iblk m c 0 t) (iblk m c 1 t) (iblk m c 2 t) (iblk m c 3 t) (iblk m c 4 t) (iblk m c 5 t) i j = dxAt m c (rw512 t i) j := by
  unfold bdx dxAt
  rw [blk_h, blk_u, blk_r, blk_g, blk_s]

/-- A point leaves its block of the cotangent, and of that cotangent times the gate. -/
theorem out8 (c : Dev nD) (t : Fin cfg0.N) (p : Fin 512) (q : Fin 1024) : (outsAt0 m c t.val t.isLt).1 (ix2 p q) = dxAt m c (rw512 t p) q := by
  rw [← blk_dx]
  by_cases h : t.val % 8 = 0
  · rw [outsAt0_A m c t h]; frame_out; exact pay13 _ _ _ _ _ _ _ _
  · rw [outsAt0_B m c t h]; frame_out; exact pay13 _ _ _ _ _ _ _ _
theorem out9 (c : Dev nD) (t : Fin cfg0.N) (p : Fin 512) (q : Fin 1024) :
    (outsAt0 m c t.val t.isLt).2.1 (ix2 p q) = dxAt m c (rw512 t p) q * par (Gt m c) q := by
  rw [← blk_dx, ← blk_t m c t]
  by_cases h : t.val % 8 = 0
  · rw [outsAt0_A m c t h]; frame_out; exact pay14 _ _ _ _ _ _ _ _ _
  · rw [outsAt0_B m c t h]; frame_out; exact pay14 _ _ _ _ _ _ _ _ _

/-- The kernel leaves the cotangent of the norm's input in its first result, and times the gate in its second. -/
theorem final8 (c : Dev nD) : (dats m 0 c).arrAt 8 (cfgs 0).N = fun i : S4096x1024.Idx => dxAt m c (i 0) (i 1) := by
  refine (dats m 0 c).arrAt_eq_of_covers 8 _ (by decide +kernel) fun t _ y => ?_
  blk_simp
  rw [after0_8]
  obtain ⟨p, q, rfl⟩ : ∃ (p : Fin 512) (q : Fin 1024), y = ix2 p q := ⟨y 0, y 1, eq_ix2 y⟩
  refine (out8 m c t p q).trans (congrArg₂ (dxAt m c) (Fin.ext ?_) (Fin.ext ?_))
  · blk_simp [idx t]
  · blk_simp [idx t]; try omega
theorem final9 (c : Dev nD) : (dats m 0 c).arrAt 9 (cfgs 0).N = fun i : S4096x1024.Idx => dxAt m c (i 0) (i 1) * par (Gt m c) (i 1) := by
  refine (dats m 0 c).arrAt_eq_of_covers 9 _ (by decide +kernel) fun t _ y => ?_
  blk_simp
  rw [after0_9]
  obtain ⟨p, q, rfl⟩ : ∃ (p : Fin 512) (q : Fin 1024), y = ix2 p q := ⟨y 0, y 1, eq_ix2 y⟩
  refine (out9 m c t p q).trans (congrArg₂ (fun i j => dxAt m c i j * par (Gt m c) j) (Fin.ext ?_) (Fin.ext ?_))
  · blk_simp [idx t]
  · blk_simp [idx t]; try omega

/-- What point `t` adds to the accumulator of the shift's cotangent, and the sum over the points. -/
def ptSh (c : Dev nD) (t : Fin cfg0.N) (r : Fin 8) (l : Fin 1024) : EReal :=
  ∑ p : Fin 64, hAt (D m c) (W m c) (rw512 t (rowOf p r)) l
def sumSh (c : Dev nD) : FVec Ideal S8x1024 .f32 := fun i => ∑ t : Fin cfg0.N, ptSh m c t (i 0) (i 1)

theorem final10 (c : Dev nD) : (dats m 0 c).arrAt 10 (cfgs 0).N = sumSh m c := by
  refine (dats m 0 c).arrAt_eq_of_after_last 10 t0_7 (by decide +kernel) _ fun j => ?_
  blk_simp
  obtain ⟨r, l, rfl⟩ : ∃ (r : Fin 8) (l : Fin 1024), j = ix2 r l := ⟨j 0, j 1, eq_ix2 j⟩
  rw [after0_10]
  refine (Pipeline.eq_sum_fin_of_reset_step_apply_last (fun n h => (outsAt0 m c n h).2.2.1) 8 (fun _ => (0 : EReal))
    (fun t (i : S8x1024.Idx) => ptSh m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out; rw [pay16, pay2]
    simp only [blk_h]; rfl
  · intro t h j
    obtain ⟨r, l, rfl⟩ : ∃ (r : Fin 8) (l : Fin 1024), j = ix2 r l := ⟨j 0, j 1, eq_ix2 j⟩
    rw [outsAt0_B m c t h]; frame_out; rw [pay16]
    simp only [blk_h]; rfl

/-- What point `t` adds to the accumulator of the scale's cotangent, and the sum over the points. -/
def ptSc (c : Dev nD) (t : Fin cfg0.N) (r : Fin 8) (l : Fin 1024) : EReal :=
  (∑ p : Fin 64, hAt (D m c) (W m c) (rw512 t (rowOf p r)) l * nrm (uAt (X m c) (O m c) (Gt m c) (rw512 t (rowOf p r))) l) * par (Gn m c) l
def sumSc (c : Dev nD) : FVec Ideal S8x1024 .f32 := fun i => ∑ t : Fin cfg0.N, ptSc m c t (i 0) (i 1)

theorem final11 (c : Dev nD) : (dats m 0 c).arrAt 11 (cfgs 0).N = sumSc m c := by
  refine (dats m 0 c).arrAt_eq_of_after_last 11 t0_7 (by decide +kernel) _ fun j => ?_
  blk_simp
  obtain ⟨r, l, rfl⟩ : ∃ (r : Fin 8) (l : Fin 1024), j = ix2 r l := ⟨j 0, j 1, eq_ix2 j⟩
  rw [after0_11]
  refine (Pipeline.eq_sum_fin_of_reset_step_apply_last (fun n h => (outsAt0 m c n h).2.2.2.1) 8 (fun _ => (0 : EReal))
    (fun t (i : S8x1024.Idx) => ptSc m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out; rw [pay17, pay3]
    simp only [blk_h, blk_u, blk_g m c t]; rfl
  · intro t h j
    obtain ⟨r, l, rfl⟩ : ∃ (r : Fin 8) (l : Fin 1024), j = ix2 r l := ⟨j 0, j 1, eq_ix2 j⟩
    rw [outsAt0_B m c t h]; frame_out; rw [pay17]
    simp only [blk_h, blk_u, blk_g m c t]; rfl

/-- What point `t` adds to the accumulator of the norm's gain's cotangent, and the sum over the points. -/
def ptGn (c : Dev nD) (t : Fin cfg0.N) (r : Fin 8) (l : Fin 1024) : EReal :=
  (∑ p : Fin 64, hAt (D m c) (W m c) (rw512 t (rowOf p r)) l * nrm (uAt (X m c) (O m c) (Gt m c) (rw512 t (rowOf p r))) l) * one (par (Sc m c)) l
def sumGn (c : Dev nD) : FVec Ideal S8x1024 .f32 := fun i => ∑ t : Fin cfg0.N, ptGn m c t (i 0) (i 1)

theorem final12 (c : Dev nD) : (dats m 0 c).arrAt 12 (cfgs 0).N = sumGn m c := by
  refine (dats m 0 c).arrAt_eq_of_after_last 12 t0_7 (by decide +kernel) _ fun j => ?_
  blk_simp
  obtain ⟨r, l, rfl⟩ : ∃ (r : Fin 8) (l : Fin 1024), j = ix2 r l := ⟨j 0, j 1, eq_ix2 j⟩
  rw [after0_12]
  refine (Pipeline.eq_sum_fin_of_reset_step_apply_last (fun n h => (outsAt0 m c n h).2.2.2.2.1) 8 (fun _ => (0 : EReal))
    (fun t (i : S8x1024.Idx) => ptGn m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out; rw [pay18, pay4]
    simp only [blk_h, blk_u, blk_s m c t]; rfl
  · intro t h j
    obtain ⟨r, l, rfl⟩ : ∃ (r : Fin 8) (l : Fin 1024), j = ix2 r l := ⟨j 0, j 1, eq_ix2 j⟩
    rw [outsAt0_B m c t h]; frame_out; rw [pay18]
    simp only [blk_h, blk_u, blk_s m c t]; rfl

/-- What point `t` adds to the accumulator of the gate's cotangent, and the sum over the points. -/
def ptGt (c : Dev nD) (t : Fin cfg0.N) (r : Fin 8) (l : Fin 1024) : EReal :=
  ∑ p : Fin 64, dxAt m c (rw512 t (rowOf p r)) l * rAt (O m c) (rw512 t (rowOf p r)) l
def sumGt (c : Dev nD) : FVec Ideal S8x1024 .f32 := fun i => ∑ t : Fin cfg0.N, ptGt m c t (i 0) (i 1)

theorem final13 (c : Dev nD) : (dats m 0 c).arrAt 13 (cfgs 0).N = sumGt m c := by
  refine (dats m 0 c).arrAt_eq_of_after_last 13 t0_7 (by decide +kernel) _ fun j => ?_
  blk_simp
  obtain ⟨r, l, rfl⟩ : ∃ (r : Fin 8) (l : Fin 1024), j = ix2 r l := ⟨j 0, j 1, eq_ix2 j⟩
  rw [after0_13]
  refine (Pipeline.eq_sum_fin_of_reset_step_apply_last (fun n h => (outsAt0 m c n h).2.2.2.2.2) 8 (fun _ => (0 : EReal))
    (fun t (i : S8x1024.Idx) => ptGt m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out; rw [pay1, pay5]
    simp only [blk_dx, blk_o]; rfl
  · intro t h j
    obtain ⟨r, l, rfl⟩ : ∃ (r : Fin 8) (l : Fin 1024), j = ix2 r l := ⟨j 0, j 1, eq_ix2 j⟩
    rw [outsAt0_B m c t h]; frame_out; rw [pay1]
    simp only [blk_dx, blk_o]; rfl

end Cert.Norm

end
-- ==== Proof.NormAlgebra.lean ====
/- The backward of the modulated norm: what the kernel's program returns is the reference's gradient, for finite
   arguments. -/
module

public import proofs.«01_k».proof.Proof.NormValue
public import proofs.«01_k».proof.Proof.Sums
public import proofs.«01_k».proof.Proof.Gen.Reference4Ideal.Read
public import proofs.«01_k».proof.Defs

@[expose] public section

set_option maxRecDepth 16384

noncomputable section

namespace Cert.Norm

open Idealize.ShloMosaic Idealize.ShloMosaic.TcCoe Idealize.SL.Sem
open Cert.Reals Cert.Norms

/-! ### The reference, row by row -/

section Reference
open Cert.Reference4Ideal Cert.Reference4Ideal.Gen Cert.Reference4Ideal.Read

variable (x o : FVec Ideal S4096x1024 .f32) (t g s : FVec Ideal S1x1024 .f32) (w : FVec Ideal S1x1024x5632 .f32)
  (r : FVec Ideal S4096x1024 .f32) (d : FVec Ideal S4096x5632 .f32)

theorem r_u (i : Fin 4096) (j : Fin 1024) : val_main_v3 (F := Ideal) x o t (ix2 i j) = uAt x o t i j := by
  pointwise [val_main_v3, val_main_v2, val_main_v1]; rfl
theorem r_msq (i : Fin 4096) (j : Fin 1) : val_main_v10 (F := Ideal) x o t (ix2 i j) = msq (uAt x o t i) := by
  pointwise [val_main_v10, val_main_v9, val_main_v8, val_main_v7, val_main_v6, val_main_v5, val_main_v4, val_main_cst_0, val_main_cst_1,
    val_main_cst_2, r_u]
  rfl
theorem r_rms (i : Fin 4096) (j : Fin 1) : val_main_v11 (F := Ideal) x o t (ix2 i j) = rms (uAt x o t i) := by
  pointwise [val_main_v11, r_msq]; rfl
theorem r_nrm (i : Fin 4096) (j : Fin 1024) : val_main_v16 (F := Ideal) x o t (ix2 i j) = nrm (uAt x o t i) j := by
  pointwise [val_main_v16, val_main_v15, r_rms, r_u]; rfl
theorem r_h (i : Fin 4096) (j : Fin 1024) : val_main_v27 (F := Ideal) w d (ix2 i j) = hAt d w i j := by
  pointwise [val_main_v27, val_main_v25]; rfl
theorem r_hs (i : Fin 4096) (j : Fin 1024) : val_main_v34 (F := Ideal) s w d (ix2 i j) = hAt d w i j * one (par s) j := by
  pointwise [val_main_v34, val_main_v33, val_main_v20, val_main_v19, val_main_cst_4, r_h]; rfl
theorem r_dn (i : Fin 4096) (j : Fin 1024) :
    val_main_v39 (F := Ideal) g s w d (ix2 i j) = dn (hAt d w i) (par g) (par s) j := by
  pointwise [val_main_v39, val_main_v38, r_hs]
  exact (mul_assoc _ _ _).trans (congrArg _ (mul_comm _ _))
theorem r_mean (i : Fin 4096) (j : Fin 1) :
    val_main_v48 (F := Ideal) x o t g s w d (ix2 i j) = dMean (uAt x o t i) (dn (hAt d w i) (par g) (par s)) := by
  pointwise [val_main_v48, val_main_v47, val_main_v46, val_main_v42, val_main_v41, val_main_v40, val_main_v14, val_main_v13,
    val_main_v12, val_main_cst_3, val_main_cst_8, val_main_cst_9, r_rms, r_msq, r_dn, r_u]
  rfl
theorem r_dx (i : Fin 4096) (j : Fin 1024) : val_main_v54 (F := Ideal) x o t g s w r d (ix2 i j)
    = rAt r i j + dChain (uAt x o t i) (dn (hAt d w i) (par g) (par s)) j := by
  pointwise [val_main_v54, val_main_v53, val_main_v52, val_main_v51, val_main_v50, val_main_v49, val_main_v45, val_main_v44, val_main_v43,
    val_main_cst_10, r_rms, r_mean, r_dn, r_u]
  rw [Fin.sum_univ_one]
  exact (add_assoc _ _ _).trans ((add_assoc _ _ _).trans (congrArg _ (add_assoc _ _ _).symm))

end Reference

/-! ### The results of the kernel's program -/

section Kernel
open Cert.Kernel4Ideal Cert.Kernel4Ideal.Gen

variable (m : (ℓ : Loc nD τ sig) → Buf (Elt Ideal) ℓ)

/-- The four accumulators' eight partial rows, which the host lines sum. -/
theorem host10 (c : Dev nD) (o : Fin 1) (j : Fin 1024) :
    (Pipeline.afterTail₀ cfgs (dats m) 0 (V0 m) [hostOps1] c main_v10 : FVec Ideal S1x1024 .f32) (ix2 o j)
      = ∑ r : Fin 8, sumSh m c (ix2 r j) := by
  unfold Pipeline.afterTail₀
  after_reads_at
  erw [Pipeline.withArrays_arr (cfgs 0).spec launch0.win.arr_inj c _ _ 10]
  rw [final10]
theorem host12 (c : Dev nD) (o : Fin 1) (j : Fin 1024) :
    (Pipeline.afterTail₀ cfgs (dats m) 0 (V0 m) [hostOps1] c main_v12 : FVec Ideal S1x1024 .f32) (ix2 o j)
      = ∑ r : Fin 8, sumSc m c (ix2 r j) := by
  unfold Pipeline.afterTail₀
  after_reads_at
  erw [Pipeline.withArrays_arr (cfgs 0).spec launch0.win.arr_inj c _ _ 11]
  rw [final11]
theorem host14 (c : Dev nD) (o : Fin 1) (j : Fin 1024) :
    (Pipeline.afterTail₀ cfgs (dats m) 0 (V0 m) [hostOps1] c main_v14 : FVec Ideal S1x1024 .f32) (ix2 o j)
      = ∑ r : Fin 8, sumGn m c (ix2 r j) := by
  unfold Pipeline.afterTail₀
  after_reads_at
  erw [Pipeline.withArrays_arr (cfgs 0).spec launch0.win.arr_inj c _ _ 12]
  rw [final12]
theorem host16 (c : Dev nD) (o : Fin 1) (j : Fin 1024) :
    (Pipeline.afterTail₀ cfgs (dats m) 0 (V0 m) [hostOps1] c main_v16 : FVec Ideal S1x1024 .f32) (ix2 o j)
      = ∑ r : Fin 8, sumGt m c (ix2 r j) := by
  unfold Pipeline.afterTail₀
  after_reads_at
  erw [Pipeline.withArrays_arr (cfgs 0).spec launch0.win.arr_inj c _ _ 13]
  rw [final13]

end Kernel

/-! ### The results agree -/

section Agree
open Cert.Reference4Ideal.Read

variable (m : (ℓ : Loc Cert.Kernel4Ideal.nD Cert.Kernel4Ideal.τ Cert.Kernel4Ideal.sig) → Buf (Elt Ideal) ℓ)
  (c : Dev Cert.Kernel4Ideal.nD)

/-- The gradient of the norm's shift. -/
theorem res_sh (o : Fin 1) (j : Fin 1024) : ∑ r : Fin 8, sumSh m c (ix2 r j)
    = val_main_v29 (F := Ideal) (W m c) (D m c) (ix2 o j) := by
  refine (Sums.sum_rows (N := Cert.Kernel4Ideal.cfg0.N) (P := 64) (L := 512) (fun i => hAt (D m c) (W m c) i j) rfl rfl).trans ?_
  pointwise [val_main_v29, val_main_v28, val_main_cst_5, r_h]

variable (hX : ∀ i, IsReal (X m c i)) (hO : ∀ i, IsReal (O m c i)) (hT : ∀ i, IsReal (Gt m c i)) (hG : ∀ i, IsReal (Gn m c i))
  (hS : ∀ i, IsReal (Sc m c i)) (hW : ∀ i, IsReal (W m c i)) (hR : ∀ i, IsReal (R m c i)) (hD : ∀ i, IsReal (D m c i))
include hX hO hT hG hS hW hR hD

theorem row_u (i : Fin 4096) : IsRow (uAt (X m c) (O m c) (Gt m c) i) := isRow_of fun j => (hX _).add ((hT _).mul (hO _))
theorem real_h (i : Fin 4096) (j : Fin 1024) : IsReal (hAt (D m c) (W m c) i j) := IsReal.sum _ fun k _ => (hD _).mul (hW _)
theorem real_one (j : Fin 1024) : IsReal (one (par (Sc m c)) j) := IsReal.one.add (hS _)
theorem row_dn (i : Fin 4096) : IsRow (dn (hAt (D m c) (W m c) i) (par (Gn m c)) (par (Sc m c))) :=
  isRow_of fun j => (real_h m c hX hO hT hG hS hW hR hD i j).mul ((hG _).mul (real_one m c hX hO hT hG hS hW hR hD j))
theorem real_hx (i : Fin 4096) (j : Fin 1024) : IsReal (hAt (D m c) (W m c) i j * nrm (uAt (X m c) (O m c) (Gt m c) i) j) :=
  have hu := row_u m c hX hO hT hG hS hW hR hD i
  (real_h m c hX hO hT hG hS hW hR hD i j).mul ((hu.real j).mul (isReal_rms hu))

theorem dxAt_eq (i : Fin 4096) (j : Fin 1024) :
    dxAt m c i j = val_main_v54 (F := Ideal) (X m c) (O m c) (Gt m c) (Gn m c) (Sc m c) (W m c) (R m c) (D m c) (ix2 i j) := by
  rw [r_dx]
  exact congrArg _ (closed_eq_chain (row_u m c hX hO hT hG hS hW hR hD i) (row_dn m c hX hO hT hG hS hW hR hD i) j)

/-- The gradient of the norm's input. -/
theorem res_dx : (fun i : Cert.Kernel4Ideal.S4096x1024.Idx => dxAt m c (i 0) (i 1))
    = val_main_v54 (F := Ideal) (X m c) (O m c) (Gt m c) (Gn m c) (Sc m c) (W m c) (R m c) (D m c) := by
  funext y
  obtain ⟨p, q, rfl⟩ : ∃ (p : Fin 4096) (q : Fin 1024), y = ix2 p q := ⟨y 0, y 1, eq_ix2 y⟩
  exact dxAt_eq m c hX hO hT hG hS hW hR hD p q

/-- The gradient of the gated branch. -/
theorem res_do : (fun i : Cert.Kernel4Ideal.S4096x1024.Idx => dxAt m c (i 0) (i 1) * par (Gt m c) (i 1))
    = val_main_v61 (F := Ideal) (X m c) (O m c) (Gt m c) (Gn m c) (Sc m c) (W m c) (R m c) (D m c) := by
  funext y
  obtain ⟨p, q, rfl⟩ : ∃ (p : Fin 4096) (q : Fin 1024), y = ix2 p q := ⟨y 0, y 1, eq_ix2 y⟩
  refine (congrArg (· * par (Gt m c) q) (dxAt_eq m c hX hO hT hG hS hW hR hD p q)).trans ?_
  pointwise [val_main_v61, val_main_v57, val_main_v56, val_main_v55]
  exact mul_comm _ _

/-- A parameter's gradient, its factor taken out of the sum over each block. -/
theorem sum_factor (f : Fin 1024 → EReal) (hf : ∀ j, IsReal (f j)) (j : Fin 1024) :
    ∑ r : Fin 8, ∑ t : Fin Cert.Kernel4Ideal.cfg0.N,
      (∑ p : Fin 64, hAt (D m c) (W m c) (rw512 t (rowOf p r)) j * nrm (uAt (X m c) (O m c) (Gt m c) (rw512 t (rowOf p r))) j) * f j
    = ∑ i : Fin 4096, hAt (D m c) (W m c) i j * nrm (uAt (X m c) (O m c) (Gt m c) i) j * f j := by
  refine Eq.trans (Finset.sum_congr rfl fun r _ => Finset.sum_congr rfl fun t _ => sum_mul_real _ _ _ (hf j)
    fun p _ => real_hx m c hX hO hT hG hS hW hR hD _ j) ?_
  exact Sums.sum_rows (N := Cert.Kernel4Ideal.cfg0.N) (P := 64) (L := 512)
    (fun i => hAt (D m c) (W m c) i j * nrm (uAt (X m c) (O m c) (Gt m c) i) j * f j) rfl rfl

/-- The gradient of the norm's scale. -/
theorem res_sc (o : Fin 1) (j : Fin 1024) : ∑ r : Fin 8, sumSc m c (ix2 r j)
    = val_main_v32 (F := Ideal) (X m c) (O m c) (Gt m c) (Gn m c) (W m c) (D m c) (ix2 o j) := by
  refine (sum_factor m c hX hO hT hG hS hW hR hD (par (Gn m c)) (fun j => hG _) j).trans ?_
  pointwise [val_main_v32, val_main_v31, val_main_v30, val_main_v18, val_main_v17, val_main_cst_6, r_nrm, r_h]
  exact Finset.sum_congr rfl fun i _ => (mul_assoc _ _ _).trans (mul_comm _ _)

/-- The gradient of the norm's gain. -/
theorem res_gn (o : Fin 1) (j : Fin 1024) : ∑ r : Fin 8, sumGn m c (ix2 r j)
    = val_main_v37 (F := Ideal) (X m c) (O m c) (Gt m c) (Sc m c) (W m c) (D m c) (ix2 o j) := by
  refine (sum_factor m c hX hO hT hG hS hW hR hD (one (par (Sc m c))) (real_one m c hX hO hT hG hS hW hR hD) j).trans ?_
  pointwise [val_main_v37, val_main_v36, val_main_v35, val_main_cst_7, r_nrm, r_hs]
  exact Finset.sum_congr rfl fun i _ => (congrArg (· * _) (mul_comm _ _)).trans (mul_assoc _ _ _)

/-- The gradient of the gate. -/
theorem res_gt (o : Fin 1) (j : Fin 1024) : ∑ r : Fin 8, sumGt m c (ix2 r j)
    = val_main_v60 (F := Ideal) (X m c) (O m c) (Gt m c) (Gn m c) (Sc m c) (W m c) (R m c) (D m c) (ix2 o j) := by
  refine (Sums.sum_rows (N := Cert.Kernel4Ideal.cfg0.N) (P := 64) (L := 512) (fun i => dxAt m c i j * rAt (O m c) i j) rfl rfl).trans ?_
  pointwise [val_main_v60, val_main_v59, val_main_v58, val_main_v55, val_main_cst_11]
  exact Finset.sum_congr rfl fun i _ => congrArg (· * _) (dxAt_eq m c hX hO hT hG hS hW hR hD i j)

end Agree

/-! ### Finite arguments are real -/

theorem isReal_args [Cert.Pre_finite4.Facts] {x0 x1 x2 x3 x4 x5 x6 x7}
    (h : (Cert.Pre_finite4.fn (F := Ideal) x0 x1 x2 x3 x4 x5 x6 x7).1 = (fun _ => 1#1)
      ∧ (Cert.Pre_finite4.fn (F := Ideal) x0 x1 x2 x3 x4 x5 x6 x7).2.1 = (fun _ => 1#1)
      ∧ (Cert.Pre_finite4.fn (F := Ideal) x0 x1 x2 x3 x4 x5 x6 x7).2.2.1 = (fun _ => 1#1)
      ∧ (Cert.Pre_finite4.fn (F := Ideal) x0 x1 x2 x3 x4 x5 x6 x7).2.2.2.1 = (fun _ => 1#1)
      ∧ (Cert.Pre_finite4.fn (F := Ideal) x0 x1 x2 x3 x4 x5 x6 x7).2.2.2.2.1 = (fun _ => 1#1)
      ∧ (Cert.Pre_finite4.fn (F := Ideal) x0 x1 x2 x3 x4 x5 x6 x7).2.2.2.2.2.1 = (fun _ => 1#1)
      ∧ (Cert.Pre_finite4.fn (F := Ideal) x0 x1 x2 x3 x4 x5 x6 x7).2.2.2.2.2.2.1 = (fun _ => 1#1)
      ∧ (Cert.Pre_finite4.fn (F := Ideal) x0 x1 x2 x3 x4 x5 x6 x7).2.2.2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ ∀ i, IsReal (x7 i) := by
  obtain ⟨h0, h1, h2, h3, h4, h5, h6, h7⟩ := h
  unfold Cert.Pre_finite4.fn at h0 h1 h2 h3 h4 h5 h6 h7
  refine ⟨fun i => ?_, fun i => ?_, fun i => ?_, fun i => ?_, fun i => ?_, fun i => ?_, fun i => ?_, fun i => ?_⟩
  · have := congrFun h0 i; pointwise at this; exact isReal_of_abs_lt this
  · have := congrFun h1 i; pointwise at this; exact isReal_of_abs_lt this
  · have := congrFun h2 i; pointwise at this; exact isReal_of_abs_lt this
  · have := congrFun h3 i; pointwise at this; exact isReal_of_abs_lt this
  · have := congrFun h4 i; pointwise at this; exact isReal_of_abs_lt this
  · have := congrFun h5 i; pointwise at this; exact isReal_of_abs_lt this
  · have := congrFun h6 i; pointwise at this; exact isReal_of_abs_lt this
  · have := congrFun h7 i; pointwise at this; exact isReal_of_abs_lt this

end Cert.Norm

end
-- ==== Proof.NormClaim.lean ====
/- The claims of the backward of the modulated norm: the two runs joined to the values. -/
module

public import proofs.«01_k».proof.Proof.NormAlgebra
public import proofs.«01_k».proof.Proof.Gen.Reference4Ideal.Run
public import proofs.«01_k».proof.Proof.Gen.Pre_finite4
public import Idealize.ShloMosaic.Adequacy

@[expose] public section

set_option maxRecDepth 16384

noncomputable section

namespace Cert.Norm

open Idealize.ShloMosaic Idealize.ShloMosaic.TcCoe Idealize.SL.Sem
open Cert.Reals Cert.Reference4Ideal.Read

section Kernel
open Cert.Kernel4Ideal Cert.Kernel4Ideal.Gen

variable (m : (ℓ : Loc nD τ sig) → Buf (Elt Ideal) ℓ) (ρ : Dev nD → PrngReg)

/-- From finite arguments the kernel's program ends with the reference's values and its arguments unchanged. -/
theorem run (hX : ∀ c i, IsReal (X m c i)) (hO : ∀ c i, IsReal (O m c i)) (hGt : ∀ c i, IsReal (Gt m c i)) (hGn : ∀ c i, IsReal (Gn m c i)) (hSc : ∀ c i, IsReal (Sc m c i)) (hW : ∀ c i, IsReal (W m c i)) (hR : ∀ c i, IsReal (R m c i)) (hD : ∀ c i, IsReal (D m c i)) :
    θ_run defs (onTc (τ := τ) (main (F := Ideal))) ⟨m, fun _ => 0, ρ⟩ (fun r => ∀ c : Dev nD,
      r.2.mem (c.tc.loc main_v8_0) = val_main_v54 (F := Ideal) (X m c) (O m c) (Gt m c) (Gn m c) (Sc m c) (W m c) (R m c) (D m c)
      ∧ r.2.mem (c.tc.loc main_v8_1) = val_main_v61 (F := Ideal) (X m c) (O m c) (Gt m c) (Gn m c) (Sc m c) (W m c) (R m c) (D m c)
      ∧ r.2.mem (c.tc.loc main_v10) = val_main_v29 (F := Ideal) (W m c) (D m c)
      ∧ r.2.mem (c.tc.loc main_v12) = val_main_v32 (F := Ideal) (X m c) (O m c) (Gt m c) (Gn m c) (W m c) (D m c)
      ∧ r.2.mem (c.tc.loc main_v14) = val_main_v37 (F := Ideal) (X m c) (O m c) (Gt m c) (Sc m c) (W m c) (D m c)
      ∧ r.2.mem (c.tc.loc main_v16) = val_main_v60 (F := Ideal) (X m c) (O m c) (Gt m c) (Gn m c) (Sc m c) (W m c) (R m c) (D m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) := by
  refine (θ_run defs _ _).mono (fun r h c => ⟨?_, ?_, ?_, ?_, ?_, ?_, ?_, ?_, ?_, ?_, ?_, ?_, ?_, ?_⟩) (run_main m ρ)
  · exact ((h c).1 8).trans ((final8 m c).trans (res_dx m c (hX c) (hO c) (hGt c) (hGn c) (hSc c) (hW c) (hR c) (hD c)))
  · exact ((h c).1 9).trans ((final9 m c).trans (res_do m c (hX c) (hO c) (hGt c) (hGn c) (hSc c) (hW c) (hR c) (hD c)))
  · refine ((h c).2 main_v10 (Pipeline.mem_restRefs_of main_v10 (by decide) (by decide))).trans (funext fun (y : S1x1024.Idx) => ?_)
    obtain ⟨o, j, rfl⟩ : ∃ (o : Fin 1) (j : Fin 1024), y = ix2 o j := ⟨y 0, y 1, eq_ix2 y⟩
    exact (host10 m c o j).trans (res_sh m c o j)
  · refine ((h c).2 main_v12 (Pipeline.mem_restRefs_of main_v12 (by decide) (by decide))).trans (funext fun (y : S1x1024.Idx) => ?_)
    obtain ⟨o, j, rfl⟩ : ∃ (o : Fin 1) (j : Fin 1024), y = ix2 o j := ⟨y 0, y 1, eq_ix2 y⟩
    exact (host12 m c o j).trans (res_sc m c (hX c) (hO c) (hGt c) (hGn c) (hSc c) (hW c) (hR c) (hD c) o j)
  · refine ((h c).2 main_v14 (Pipeline.mem_restRefs_of main_v14 (by decide) (by decide))).trans (funext fun (y : S1x1024.Idx) => ?_)
    obtain ⟨o, j, rfl⟩ : ∃ (o : Fin 1) (j : Fin 1024), y = ix2 o j := ⟨y 0, y 1, eq_ix2 y⟩
    exact (host14 m c o j).trans (res_gn m c (hX c) (hO c) (hGt c) (hGn c) (hSc c) (hW c) (hR c) (hD c) o j)
  · refine ((h c).2 main_v16 (Pipeline.mem_restRefs_of main_v16 (by decide) (by decide))).trans (funext fun (y : S1x1024.Idx) => ?_)
    obtain ⟨o, j, rfl⟩ : ∃ (o : Fin 1) (j : Fin 1024), y = ix2 o j := ⟨y 0, y 1, eq_ix2 y⟩
    exact (host16 m c o j).trans (res_gt m c (hX c) (hO c) (hGt c) (hGn c) (hSc c) (hW c) (hR c) (hD c) o j)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).1 6).trans (((dats m 0 c).arrAt_in 6 rfl _).trans ((A_eq m c 6).trans (V_main_arg2 m c)))
  · exact ((h c).1 4).trans (((dats m 0 c).arrAt_in 4 rfl _).trans ((A_eq m c 4).trans (V_main_arg3 m c)))
  · exact ((h c).1 5).trans (((dats m 0 c).arrAt_in 5 rfl _).trans ((A_eq m c 5).trans (V_main_arg4 m c)))
  · exact ((h c).2 main_arg5 (Pipeline.mem_restRefs_of main_arg5 (by decide) (by decide))).trans (W_main_arg5 m (dats m) c)
  · exact ((h c).1 3).trans (((dats m 0 c).arrAt_in 3 rfl _).trans ((A_eq m c 3).trans (V_main_arg6 m c)))
  · exact ((h c).2 main_arg7 (Pipeline.mem_restRefs_of main_arg7 (by decide) (by decide))).trans (W_main_arg7 m (dats m) c)

end Kernel

/-- The reference runs, changes no argument, and has no semaphore to leave raised. -/
theorem ref_frame : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run m ρ)

/-- The program and the reference return the same values at finite arguments. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := fun m ρ m' ρ' hpre hag =>
  have real := fun c => isReal_args (hpre c)
  ⟨_, _, _, _, _, _, run m ρ (fun c => (real c).1) (fun c => (real c).2.1) (fun c => (real c).2.2.1) (fun c => (real c).2.2.2.1) (fun c => (real c).2.2.2.2.1) (fun c => (real c).2.2.2.2.2.1) (fun c => (real c).2.2.2.2.2.2.1) (fun c => (real c).2.2.2.2.2.2.2),
    (θ_run Cert.Reference4Ideal.defs _ _).mono (fun _ h c => by
      obtain ⟨e0, e1, e2, e3, e4, e5, e6, e7⟩ := hag c
      obtain ⟨r0, r1, r2, r3, r4, r5, rest⟩ := h c
      refine ⟨r0.trans ?_, r1.trans ?_, r2.trans ?_, r3.trans ?_, r4.trans ?_, r5.trans ?_, rest⟩
      · refine (val_main_v54_eq m' c).trans ?_; rw [e0, e1, e2, e3, e4, e5, e6, e7]
      · refine (val_main_v61_eq m' c).trans ?_; rw [e0, e1, e2, e3, e4, e5, e6, e7]
      · rw [e5, e7]; exact val_main_v29_eq _ _
      · rw [e0, e1, e2, e3, e5, e7]; exact val_main_v32_eq _ _ _ _ _ _
      · rw [e0, e1, e2, e4, e5, e7]; exact val_main_v37_eq _ _ _ _ _ _
      · refine (val_main_v60_eq m' c).trans ?_; rw [e0, e1, e2, e3, e4, e5, e6, e7]) (Cert.Reference4Ideal.Value.run m' ρ')⟩

end Cert.Norm

end
-- ==== Proof.Layernorms.lean ====
/- Normalisation of rows of 512 reals to mean zero and variance one, and its gradient the two ways it is written; and the
   gradient of `silu`. -/
module

public import proofs.«01_k».proof.Proof.Norms

@[expose] public section

noncomputable section

namespace Cert.Layernorms

open Idealize.ShloMosaic Cert.Reals Cert.Norms

theorem c512 : Ideal.ofBits .f32 0x44000000#32 = ((512 : ℝ) : EReal) := by
  simp [Ideal.ofBits, Ideal.ieee, -EReal.coe_mul]; norm_num

/-- The mean of a row, the row less its mean, and the row's variance with the small constant. -/
def mean (u : Fin 512 → EReal) : EReal := Ideal.div (∑ k, u k) (Ideal.ofBits .f32 0x44000000#32)
def cen (u : Fin 512 → EReal) (j : Fin 512) : EReal := u j - mean u
def var (u : Fin 512 → EReal) : EReal := mean (fun k => cen u k * cen u k) + Ideal.ofBits .f32 0x358637BD#32
/-- The reciprocal of the row's deviation, and the normalised row. -/
def rstd (u : Fin 512 → EReal) : EReal := Ideal.rsqrt (var u)
def nrm (u : Fin 512 → EReal) (j : Fin 512) : EReal := cen u j * rstd u

/-- The same of a row of reals. -/
def cenR (x : Fin 512 → ℝ) (j : Fin 512) : ℝ := x j - (∑ k, x k) / 512
def varR (x : Fin 512 → ℝ) : ℝ := (∑ k, cenR x k * cenR x k) / 512 + eps
theorem varR_pos (x : Fin 512 → ℝ) : 0 < varR x :=
  add_pos_of_nonneg_of_pos (div_nonneg (Finset.sum_nonneg fun k _ => mul_self_nonneg _) (by norm_num)) eps_pos

/-- A centred row sums to zero. -/
theorem sum_cenR (x : Fin 512 → ℝ) : ∑ k, cenR x k = 0 := by
  unfold cenR
  rw [Finset.sum_sub_distrib, Finset.sum_const, Finset.card_univ, Fintype.card_fin]
  norm_num; ring

theorem mean_coe (x : Fin 512 → ℝ) : mean (fun j => (x j : EReal)) = (((∑ k, x k) / 512 : ℝ) : EReal) := by
  unfold mean
  rw [← coe_sum, c512, div_real _ _ (by norm_num)]
theorem cen_coe (x : Fin 512 → ℝ) (j : Fin 512) : cen (fun j => (x j : EReal)) j = (cenR x j : EReal) := by
  unfold cen cenR
  rw [mean_coe, ← EReal.coe_sub]
theorem var_coe (x : Fin 512 → ℝ) : var (fun j => (x j : EReal)) = (varR x : EReal) := by
  unfold var varR
  simp only [cen_coe, ← EReal.coe_mul]
  rw [mean_coe, ceps, ← EReal.coe_add]
theorem rstd_coe (x : Fin 512 → ℝ) : ∃ r : ℝ, rstd (fun j => (x j : EReal)) = r ∧ r * r = 1 / varR x := by
  refine ⟨(Real.sqrt (varR x))⁻¹, ?_, ?_⟩
  · unfold rstd
    rw [var_coe, Ideal.rsqrt_coe, if_neg (not_lt.mpr (varR_pos x).le), if_neg (varR_pos x).ne']
  · rw [← mul_inv, Real.mul_self_sqrt (varR_pos x).le, one_div]

theorem isReal_nrm {u : Fin 512 → EReal} (h : IsRow u) (j : Fin 512) : IsReal (nrm u j) := by
  obtain ⟨x, rfl⟩ := h; obtain ⟨r, hr, _⟩ := rstd_coe x
  unfold nrm
  rw [cen_coe, hr]
  exact (IsReal.coe _).mul (.coe _)

/-- The gradient of a normalised row's input from the gradient `d` of its output, by the closed form. -/
def dClosed (u d : Fin 512 → EReal) (j : Fin 512) : EReal :=
  rstd u * (d j - mean d - nrm u j * mean (fun k => d k * nrm u k))
/-- The share of the variance's derivative in the direction `d`. -/
def dVar (u d : Fin 512 → EReal) : EReal :=
  Ideal.div ((∑ k, cen u k * d k) * (Ideal.ofBits .f32 0xBF000000#32 * Ideal.div (rstd u) (var u))) (Ideal.ofBits .f32 0x44000000#32)
/-- The variance's derivative at an entry. -/
def dSq (u d : Fin 512 → EReal) (j : Fin 512) : EReal := dVar u d * (Ideal.ofBits .f32 0x40000000#32 * cen u j)
/-- The same gradient by the chain rule: the product's own factor, the variance's derivative, and the two means of both. -/
def dChain (u d : Fin 512 → EReal) (j : Fin 512) : EReal :=
  d j * rstd u + dSq u d j
    + Ideal.div ((∑ k, -(d k * rstd u)) + ∑ k, -dSq u d k) (Ideal.ofBits .f32 0x44000000#32)

/-- The two gradients of a row of reals agree. -/
theorem closed_eq_chain {u d : Fin 512 → EReal} (hu : IsRow u) (hd : IsRow d) (j : Fin 512) :
    dClosed u d j = dChain u d j := by
  obtain ⟨x, rfl⟩ := hu; obtain ⟨y, rfl⟩ := hd
  obtain ⟨r, hr, hrr⟩ := rstd_coe x
  have hV : dVar (fun j => (x j : EReal)) (fun j => (y j : EReal))
      = (((∑ k, cenR x k * y k) * (-(1 / 2) * (r / varR x)) / 512 : ℝ) : EReal) := by
    unfold dVar
    simp only [cen_coe, hr, var_coe, cnegHalf, c512]
    rw [div_real _ _ (varR_pos x).ne']
    simp only [← EReal.coe_mul, ← coe_sum]
    rw [div_real _ _ (by norm_num)]
  unfold dClosed dChain dSq nrm
  simp only [hV, cen_coe, hr, ctwo, c512, ← EReal.coe_mul, mean_coe, ← EReal.coe_neg, ← coe_sum, ← EReal.coe_add, ← EReal.coe_sub]
  rw [div_real _ _ (by norm_num), ← EReal.coe_add]
  congr 1
  have e1 : (∑ k, y k * (cenR x k * r)) = r * ∑ k, cenR x k * y k := by
    rw [Finset.mul_sum]; exact Finset.sum_congr rfl fun k _ => by ring
  have e2 : (∑ k, -(y k * r)) = -(r * ∑ k, y k) := by
    rw [Finset.mul_sum, ← Finset.sum_neg_distrib]; exact Finset.sum_congr rfl fun k _ => by ring
  have e3 (a : ℝ) : (∑ k, -(a * (2 * cenR x k))) = 0 := by
    have : (∑ k, -(a * (2 * cenR x k))) = -(a * 2) * ∑ k, cenR x k := by
      rw [Finset.mul_sum]; exact Finset.sum_congr rfl fun k _ => by ring
    rw [this, sum_cenR, mul_zero]
  rw [e1, e2, e3, div_eq_mul_one_div r, ← hrr]
  ring

/-- The gradient of `silu` at `l` in the direction `h`, with its factor worked out. -/
def siluD (h l : EReal) : EReal := h * (Ideal.logistic l * (1 + l * (1 - Ideal.logistic l)))
/-- The same by the product rule. -/
def siluC (h l : EReal) : EReal := h * Ideal.logistic l + l * h * (Ideal.logistic l * (1 - Ideal.logistic l))

theorem silu_eq {h l : EReal} (hh : IsReal h) (hl : IsReal l) : siluD h l = siluC h l := by
  obtain ⟨s, hs⟩ := hl.logistic
  unfold siluD siluC
  rw [hs]
  obtain ⟨h, rfl⟩ := hh; obtain ⟨l, rfl⟩ := hl
  have : (1 : EReal) = ((1 : ℝ) : EReal) := rfl
  rw [this]
  simp only [← EReal.coe_mul, ← EReal.coe_add, ← EReal.coe_sub]
  congr 1; ring
theorem isReal_siluD {h l : EReal} (hh : IsReal h) (hl : IsReal l) : IsReal (siluD h l) :=
  hh.mul (hl.logistic.mul (IsReal.one.add (hl.mul (IsReal.one.sub hl.logistic))))

end Cert.Layernorms

end
-- ==== Proof.ConvNormPay.lean ====
/- What the body of the backward of the convolution's norm and `silu` computes from its blocks, row by row. -/
module

public import proofs.«01_k».proof.Proof.Gen.Kernel5Ideal.Skeleton
public import proofs.«01_k».proof.Proof.Layernorms
public import Idealize.ShloMosaic.Lib.Pipeline.ValueKit

@[expose] public section

set_option maxRecDepth 16384

noncomputable section

namespace Cert.ConvNorm

open Idealize.ShloMosaic Idealize.ShloMosaic.TcCoe Idealize.SL.Sem
open Cert.Kernel5Ideal Cert.Kernel5Ideal.Gen Cert.Layernorms

/-- The normalised row after its gain and shift. -/
def aff (u g b : Fin 512 → EReal) (j : Fin 512) : EReal := nrm u j * g j + b j
/-- The cotangent of the normalised row after its gain and shift, and of the normalised row. -/
def dAff (h u g b : Fin 512 → EReal) (j : Fin 512) : EReal := siluD (h j) (aff u g b j)
def dn (h u g b : Fin 512 → EReal) (j : Fin 512) : EReal := dAff h u g b j * g j

variable (d : FVec Ideal S512x1024 .bf16) (w : FVec Ideal S512x1024 .bf16) (y : FVec Ideal S512x512 .f32)
  (g b : FVec Ideal S1x512 .f32) (acc : FVec Ideal S8x512 .f32)

/-- Row `i` of the cotangent of `silu`'s output, a product of a block with the weight. -/
def bh (i : Fin 512) (j : Fin 512) : EReal := ∑ k : Fin 1024, d (ix2 i k) * w (ix2 j k)
/-- Row `i` of a block. -/
def bx (y : FVec Ideal S512x512 .f32) (i : Fin 512) (j : Fin 512) : EReal := y (ix2 i j)
/-- A one-row parameter as a row. -/
def par (g : FVec Ideal S1x512 .f32) (j : Fin 512) : EReal := g (ix2 0 j)

theorem pay2 (i : Fin 512) (j : Fin 512) : k0_pay2 (F := Ideal) y (ix2 i j) = cen (bx y i) j := by
  pointwise [k0_pay2]; rfl
theorem pay3 (i : Fin 512) (j : Fin 1) : k0_pay3 (F := Ideal) y (ix2 i j) = rstd (bx y i) := by
  pointwise [k0_pay3, pay2]; rfl
theorem pay4 (i : Fin 512) (j : Fin 512) : k0_pay4 (F := Ideal) y (ix2 i j) = nrm (bx y i) j := by
  pointwise [k0_pay4, pay2, pay3]; rfl
theorem pay5 (i : Fin 512) (j : Fin 512) :
    k0_pay5 (F := Ideal) d w y g b (ix2 i j) = dAff (bh d w i) (bx y i) (par g) (par b) j := by
  pointwise [k0_pay5, pay4]; rfl
theorem pay6 (i : Fin 512) (j : Fin 512) :
    k0_pay6 (F := Ideal) d w y g b g (ix2 i j) = dn (bh d w i) (bx y i) (par g) (par b) j := by
  pointwise [k0_pay6, pay5]; rfl

/-- The cotangent of the norm's input, as a block's row has it. -/
def bdy (i : Fin 512) (j : Fin 512) : EReal := dClosed (bx y i) (dn (bh d w i) (bx y i) (par g) (par b)) j

theorem pay7 (i : Fin 512) (j : Fin 512) :
    k0_pay7 (F := Ideal) (k0_pay3 y) (k0_pay4 y) (k0_pay6 d w y g b g) (ix2 i j) = bdy d w y g b i j := by
  pointwise [k0_pay7, pay3, pay4, pay6]; rfl

/-- The row of a block that group `p` and lane row `r` name. -/
abbrev rowOf (p : Fin 64) (r : Fin 8) : Fin 512 := ⟨p * 8 + r, by omega⟩

theorem pay11 (r : Fin 8) (l : Fin 512) : k0_pay11 (F := Ideal) (k0_pay4 y) (k0_pay5 d w y g b) acc (ix2 r l)
    = acc (ix2 r l) + ∑ p : Fin 64, dAff (bh d w (rowOf p r)) (bx y (rowOf p r)) (par g) (par b) l * nrm (bx y (rowOf p r)) l := by
  pointwise [k0_pay11, pay4, pay5]
theorem pay12 (r : Fin 8) (l : Fin 512) : k0_pay12 (F := Ideal) (k0_pay5 d w y g b) acc (ix2 r l)
    = acc (ix2 r l) + ∑ p : Fin 64, dAff (bh d w (rowOf p r)) (bx y (rowOf p r)) (par g) (par b) l := by
  pointwise [k0_pay12, pay5]
theorem pay1 (r : Fin 8) (l : Fin 512) :
    k0_pay1 (F := Ideal) (k0_pay13 acc) (k0_pay14 (k0_pay3 y) (k0_pay4 y) (k0_pay6 d w y g b g)) (ix2 r l)
      = acc (ix2 r l) + ∑ p : Fin 64, bdy d w y g b (rowOf p r) l := by
  pointwise [k0_pay1, k0_pay13, k0_pay14, pay7]
theorem pay8 (i : S8x512.Idx) : k0_pay8 (F := Ideal) i = 0 := by pointwise [k0_pay8]
theorem pay9 (i : S8x512.Idx) : k0_pay9 (F := Ideal) i = 0 := by pointwise [k0_pay9]
theorem pay10 (i : S8x512.Idx) : k0_pay10 (F := Ideal) i = 0 := by pointwise [k0_pay10]

end Cert.ConvNorm

end
-- ==== Proof.ConvNormValue.lean ====
/- What the backward of the convolution's norm and `silu` leaves in each of its results, as sums over the rows of its
   arguments. -/
module

public import proofs.«01_k».proof.Proof.Gen.Kernel5Ideal.Frame
public import proofs.«01_k».proof.Proof.ConvNormPay
public import Idealize.ShloMosaic.Lib.StableHlo.ReadAt

@[expose] public section

set_option maxRecDepth 16384

noncomputable section

namespace Cert.ConvNorm

open Idealize.ShloMosaic Idealize.ShloMosaic.TcCoe Idealize.SL.Sem
open Cert.Kernel5Ideal Cert.Kernel5Ideal.Gen Cert.Layernorms
open Idealize.ShloMosaic.Pipeline (Dat)

/-- Row `i` of the norm's input. -/
def uAt (y : FVec Ideal S4096x512 .f32) (i : Fin 4096) (j : Fin 512) : EReal := y (ix2 i j)
/-- Row `i` of the cotangent of `silu`'s output. -/
def hAt (d : FVec Ideal S4096x1024 .f32) (w : FVec Ideal S1x512x1024 .f32) (i : Fin 4096) (j : Fin 512) : EReal :=
  ∑ k : Fin 1024, d (ix2 i k) * w (ix3 0 j k)

variable (m : (ℓ : Loc nD τ sig) → Buf (Elt Ideal) ℓ)

/-- The row windows walk the rows; the others are one block. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The arguments of the program. -/
abbrev Y (c : Dev nD) : FVec Ideal S4096x512 .f32 := m ((c : Thread nD τ).loc main_arg0)
abbrev Gn (c : Dev nD) : FVec Ideal S1x512 .f32 := m ((c : Thread nD τ).loc main_arg1)
abbrev B (c : Dev nD) : FVec Ideal S1x512 .f32 := m ((c : Thread nD τ).loc main_arg2)
abbrev W (c : Dev nD) : FVec Ideal S1x512x1024 .f32 := m ((c : Thread nD τ).loc main_arg3)
abbrev D (c : Dev nD) : FVec Ideal S4096x1024 .f32 := m ((c : Thread nD τ).loc main_arg4)

/-- The row of the array that row `i` of block `t` is. -/
abbrev rw512 (t : Fin cfg0.N) (i : Fin 512) : Fin 4096 := ⟨t.val * 512 + i, by have := lt_of_lt_of_eq t.isLt N_0; omega⟩

/-- What the host lines before the region hand the kernel. -/
theorem v0_at (c : Dev nD) (i : S4096x1024.Idx) : (V m c main_v0 : FVec Ideal S4096x1024 .bf16) i = D m c i := by
  unfold_abbrev_sides
  after_reads_at
theorem v2_at (c : Dev nD) (i : S512x1024.Idx) : (V m c main_v2 : FVec Ideal S512x1024 .bf16) i = W m c (ix3 0 (i 0) (i 1)) := by
  unfold_abbrev_sides
  after_reads_at

/-- The rows of the blocks are the rows of the arrays. -/
theorem blk_h (c : Dev nD) (t : Fin cfg0.N) (i : Fin 512) : bh (iblk m c 0 t) (iblk m c 1 t) i = hAt (D m c) (W m c) (rw512 t i) := by
  funext j; unfold bh hAt
  refine Fin.sum_fin_congr fun k => congrArg₂ (· * ·) ?_ ?_
  · refine Eq.trans ?_ (v0_at m c (ix2 (rw512 t i) k))
    blk_ext [iblk, idx t]
  · refine Eq.trans ?_ (v2_at m c (ix2 j k))
    blk_ext [iblk, idx t]
theorem blk_u (c : Dev nD) (t : Fin cfg0.N) (i : Fin 512) : bx (iblk m c 2 t) i = uAt (Y m c) (rw512 t i) := by
  funext j; unfold bx uAt
  blk_point [iblk, V, idx t]
theorem blk_g (c : Dev nD) (t : Fin cfg0.N) : par (iblk m c 3 t) = par (Gn m c) := by
  funext j; unfold par
  blk_point [iblk, V, idx t]
theorem blk_b (c : Dev nD) (t : Fin cfg0.N) : par (iblk m c 4 t) = par (B m c) := by
  funext j; unfold par
  blk_point [iblk, V, idx t]

/-- The cotangents of the norm's output after gain and shift, and of its input, row by row. -/
def daAt (c : Dev nD) (i : Fin 4096) (j : Fin 512) : EReal :=
  dAff (hAt (D m c) (W m c) i) (uAt (Y m c) i) (par (Gn m c)) (par (B m c)) j
def dyAt (c : Dev nD) (i : Fin 4096) (j : Fin 512) : EReal :=
  dClosed (uAt (Y m c) i) (dn (hAt (D m c) (W m c) i) (uAt (Y m c) i) (par (Gn m c)) (par (B m c))) j

theorem blk_dy (c : Dev nD) (t : Fin cfg0.N) (i : Fin 512) (j : Fin 512) :
    bdy (iblk m c 0 t) (iblk m c 1 t) (iblk m c 2 t) (iblk m c 3 t) (iblk m c 4 t) i j = dyAt m c (rw512 t i) j := by
  unfold bdy dyAt
  rw [blk_h, blk_u, blk_g, blk_b]

/-- A point leaves its block of the cotangent. -/
theorem out5 (c : Dev nD) (t : Fin cfg0.N) (p : Fin 512) (q : Fin 512) : (outsAt0 m c t.val t.isLt).1 (ix2 p q) = dyAt m c (rw512 t p) q := by
  rw [← blk_dy]
  by_cases h : t.val % 8 = 0
  · rw [outsAt0_A m c t h]; frame_out; exact pay7 _ _ _ _ _ _ _
  · rw [outsAt0_B m c t h]; frame_out; exact pay7 _ _ _ _ _ _ _

/-- The kernel leaves the cotangent of the norm's input in its first result. -/
theorem final5 (c : Dev nD) : (dats m 0 c).arrAt 5 (cfgs 0).N = fun i : S4096x512.Idx => dyAt m c (i 0) (i 1) := by
  refine (dats m 0 c).arrAt_eq_of_covers 5 _ (by decide +kernel) fun t _ y => ?_
  blk_simp
  rw [after0_5]
  obtain ⟨p, q, rfl⟩ : ∃ (p : Fin 512) (q : Fin 512), y = ix2 p q := ⟨y 0, y 1, eq_ix2 y⟩
  refine (out5 m c t p q).trans (congrArg₂ (dyAt m c) (Fin.ext ?_) (Fin.ext ?_))
  · blk_simp [idx t]
  · blk_simp [idx t]; try omega

/-- What point `t` adds to the accumulator of the gain's cotangent, and the sum over the points. -/
def ptGn (c : Dev nD) (t : Fin cfg0.N) (r : Fin 8) (l : Fin 512) : EReal :=
  ∑ p : Fin 64, daAt m c (rw512 t (rowOf p r)) l * nrm (uAt (Y m c) (rw512 t (rowOf p r))) l
def sumGn (c : Dev nD) : FVec Ideal S8x512 .f32 := fun i => ∑ t : Fin cfg0.N, ptGn m c t (i 0) (i 1)

theorem final6 (c : Dev nD) : (dats m 0 c).arrAt 6 (cfgs 0).N = sumGn m c := by
  refine (dats m 0 c).arrAt_eq_of_after_last 6 t0_7 (by decide +kernel) _ fun j => ?_
  blk_simp
  obtain ⟨r, l, rfl⟩ : ∃ (r : Fin 8) (l : Fin 512), j = ix2 r l := ⟨j 0, j 1, eq_ix2 j⟩
  rw [after0_6]
  refine (Pipeline.eq_sum_fin_of_reset_step_apply_last (fun n h => (outsAt0 m c n h).2.1) 8 (fun _ => (0 : EReal))
    (fun t (i : S8x512.Idx) => ptGn m c t (i 0) (i 1)) ?_ ?_ (le_of_eq N_0) t0_7 rfl _).trans (zero_add _)
  · intro t h j
    obtain ⟨r, l, rfl⟩ : ∃ (r : Fin 8) (l : Fin 512), j = ix2 r l := ⟨j 0, j 1, eq_ix2 j⟩
    rw [outsAt0_A m c t h]; frame_out; rw [pay11, pay8]
    simp only [blk_h, blk_u, blk_g m c t, blk_b m c t]; rfl
  · intro t h j
    obtain ⟨r, l, rfl⟩ : ∃ (r : Fin 8) (l : Fin 512), j = ix2 r l := ⟨j 0, j 1, eq_ix2 j⟩
    rw [outsAt0_B m c t h]; frame_out; rw [pay11]
    simp only [blk_h, blk_u, blk_g m c t, blk_b m c t]; rfl

/-- What point `t` adds to the accumulator of the shift's cotangent, and the sum over the points. -/
def ptB (c : Dev nD) (t : Fin cfg0.N) (r : Fin 8) (l : Fin 512) : EReal :=
  ∑ p : Fin 64, daAt m c (rw512 t (rowOf p r)) l
def sumB (c : Dev nD) : FVec Ideal S8x512 .f32 := fun i => ∑ t : Fin cfg0.N, ptB m c t (i 0) (i 1)

theorem final7 (c : Dev nD) : (dats m 0 c).arrAt 7 (cfgs 0).N = sumB m c := by
  refine (dats m 0 c).arrAt_eq_of_after_last 7 t0_7 (by decide +kernel) _ fun j => ?_
  blk_simp
  obtain ⟨r, l, rfl⟩ : ∃ (r : Fin 8) (l : Fin 512), j = ix2 r l := ⟨j 0, j 1, eq_ix2 j⟩
  rw [after0_7]
  refine (Pipeline.eq_sum_fin_of_reset_step_apply_last (fun n h => (outsAt0 m c n h).2.2.1) 8 (fun _ => (0 : EReal))
    (fun t (i : S8x512.Idx) => ptB m c t (i 0) (i 1)) ?_ ?_ (le_of_eq N_0) t0_7 rfl _).trans (zero_add _)
  · intro t h j
    obtain ⟨r, l, rfl⟩ : ∃ (r : Fin 8) (l : Fin 512), j = ix2 r l := ⟨j 0, j 1, eq_ix2 j⟩
    rw [outsAt0_A m c t h]; frame_out; rw [pay12, pay9]
    simp only [blk_h, blk_u, blk_g m c t, blk_b m c t]; rfl
  · intro t h j
    obtain ⟨r, l, rfl⟩ : ∃ (r : Fin 8) (l : Fin 512), j = ix2 r l := ⟨j 0, j 1, eq_ix2 j⟩
    rw [outsAt0_B m c t h]; frame_out; rw [pay12]
    simp only [blk_h, blk_u, blk_g m c t, blk_b m c t]; rfl

/-- What point `t` adds to the accumulator of the convolution's bias's cotangent, and the sum over the points. -/
def ptDy (c : Dev nD) (t : Fin cfg0.N) (r : Fin 8) (l : Fin 512) : EReal :=
  ∑ p : Fin 64, dyAt m c (rw512 t (rowOf p r)) l
def sumDy (c : Dev nD) : FVec Ideal S8x512 .f32 := fun i => ∑ t : Fin cfg0.N, ptDy m c t (i 0) (i 1)

theorem final8 (c : Dev nD) : (dats m 0 c).arrAt 8 (cfgs 0).N = sumDy m c := by
  refine (dats m 0 c).arrAt_eq_of_after_last 8 t0_7 (by decide +kernel) _ fun j => ?_
  blk_simp
  obtain ⟨r, l, rfl⟩ : ∃ (r : Fin 8) (l : Fin 512), j = ix2 r l := ⟨j 0, j 1, eq_ix2 j⟩
  rw [after0_8]
  refine (Pipeline.eq_sum_fin_of_reset_step_apply_last (fun n h => (outsAt0 m c n h).2.2.2) 8 (fun _ => (0 : EReal))
    (fun t (i : S8x512.Idx) => ptDy m c t (i 0) (i 1)) ?_ ?_ (le_of_eq N_0) t0_7 rfl _).trans (zero_add _)
  · intro t h j
    obtain ⟨r, l, rfl⟩ : ∃ (r : Fin 8) (l : Fin 512), j = ix2 r l := ⟨j 0, j 1, eq_ix2 j⟩
    rw [outsAt0_A m c t h]; frame_out; rw [pay1, pay10]
    simp only [blk_dy]; rfl
  · intro t h j
    obtain ⟨r, l, rfl⟩ : ∃ (r : Fin 8) (l : Fin 512), j = ix2 r l := ⟨j 0, j 1, eq_ix2 j⟩
    rw [outsAt0_B m c t h]; frame_out; rw [pay1]
    simp only [blk_dy]; rfl

end Cert.ConvNorm

end
-- ==== Proof.ConvNormAlgebra.lean ====
/- The backward of the convolution's norm and `silu`: what the kernel's program returns is the reference's gradient, for
   finite arguments. -/
module

public import proofs.«01_k».proof.Proof.ConvNormValue
public import proofs.«01_k».proof.Proof.Sums
public import proofs.«01_k».proof.Proof.Gen.Reference5Ideal.Read
public import proofs.«01_k».proof.Defs

@[expose] public section

set_option maxRecDepth 16384

noncomputable section

namespace Cert.ConvNorm

open Idealize.ShloMosaic Idealize.ShloMosaic.TcCoe Idealize.SL.Sem
open Cert.Reals Cert.Norms Cert.Layernorms

/-! ### The reference, row by row -/

section Reference
open Cert.Reference5Ideal Cert.Reference5Ideal.Gen Cert.Reference5Ideal.Read

variable (y : FVec Ideal S4096x512 .f32) (g b : FVec Ideal S1x512 .f32) (w : FVec Ideal S1x512x1024 .f32)
  (d : FVec Ideal S4096x1024 .f32)

theorem r_u (i : Fin 4096) (j : Fin 512) : val_main_v2 (F := Ideal) y (ix2 i j) = uAt y i j := by
  pointwise [val_main_v2, val_main_v1, val_main_v0, val_main_cst]; rfl
theorem r_mean (i : Fin 4096) (j : Fin 1) : val_main_v6 (F := Ideal) y (ix2 i j) = mean (uAt y i) := by
  pointwise [val_main_v6, val_main_v5, val_main_v4, val_main_v3, val_main_cst_0, val_main_cst_1, r_u]; rfl
theorem r_cen (i : Fin 4096) (j : Fin 512) : val_main_v8 (F := Ideal) y (ix2 i j) = cen (uAt y i) j := by
  pointwise [val_main_v8, val_main_v7, r_mean, r_u]; rfl
theorem r_cen' (i : Fin 4096) (j : Fin 512) : val_main_v17 (F := Ideal) y (ix2 i j) = cen (uAt y i) j := by
  pointwise [val_main_v17, val_main_v16, r_mean, r_u]; rfl
theorem r_var (i : Fin 4096) (j : Fin 1) : val_main_v19 (F := Ideal) y (ix2 i j) = var (uAt y i) := by
  pointwise [val_main_v19, val_main_v18, val_main_v15, val_main_v14, val_main_v13, val_main_v12, val_main_v9, val_main_cst_3,
    val_main_cst_4, val_main_cst_5, r_cen]
  rfl
theorem r_rstd (i : Fin 4096) (j : Fin 1) : val_main_v20 (F := Ideal) y (ix2 i j) = rstd (uAt y i) := by
  pointwise [val_main_v20, r_var]; rfl
theorem r_nrm (i : Fin 4096) (j : Fin 512) : val_main_v25 (F := Ideal) y (ix2 i j) = nrm (uAt y i) j := by
  pointwise [val_main_v25, val_main_v24, r_rstd, r_cen']; rfl
theorem r_aff (i : Fin 4096) (j : Fin 512) : val_main_v29 (F := Ideal) y g b (ix2 i j) = aff (uAt y i) (par g) (par b) j := by
  pointwise [val_main_v29, val_main_v28, val_main_v27, val_main_v26, r_nrm]; rfl
theorem r_h (i : Fin 4096) (j : Fin 512) : val_main_v33 (F := Ideal) w d (ix2 i j) = hAt d w i j := by
  pointwise [val_main_v33, val_main_v31]; rfl
/-- The cotangent of the norm's output after gain and shift, by the product rule. -/
def daRef (i : Fin 4096) (j : Fin 512) : EReal := siluC (hAt d w i j) (aff (uAt y i) (par g) (par b) j)
theorem r_da (i : Fin 4096) (j : Fin 512) : val_main_v34 (F := Ideal) y g b w d (ix2 i j) = daRef y g b w d i j := by
  pointwise [val_main_v34, val_main_call1_v2, val_main_call1_v1, val_main_call1_v0, val_main_v30_1, val_main_v30_2,
    val_main_call0_v7, val_main_call0_v6, val_main_call0_cst_1, val_main_call0_v0, val_main_call0_v1, val_main_call0_v2, val_main_call0_v3, val_main_call0_v4, val_main_call0_cst, val_main_call0_cst_0, r_h, r_aff]
  rfl
/-- The cotangent of the normalised row. -/
def dnRef (i : Fin 4096) (j : Fin 512) : EReal := daRef y g b w d i j * par g j
theorem r_dn (i : Fin 4096) (j : Fin 512) : val_main_v41 (F := Ideal) y g b w d (ix2 i j) = dnRef y g b w d i j := by
  pointwise [val_main_v41, val_main_v40, r_da]; rfl
theorem r_dv (i : Fin 4096) (j : Fin 512) : val_main_v54 (F := Ideal) y g b w d (ix2 i j) = dVar (uAt y i) (dnRef y g b w d i) := by
  pointwise [val_main_v54, val_main_v53, val_main_v52, val_main_v51, val_main_v47, val_main_v44, val_main_v43, val_main_v42,
    val_main_v23, val_main_v22, val_main_v21, val_main_cst_6, val_main_cst_9, val_main_cst_11, val_main_cst_12,
    r_var, r_rstd, r_cen', r_dn]
  rw [Fin.sum_univ_one]; rfl
theorem r_pr (i : Fin 4096) (j : Fin 512) :
    val_main_v46 (F := Ideal) y g b w d (ix2 i j) = dnRef y g b w d i j * rstd (uAt y i) := by
  pointwise [val_main_v46, val_main_v45, r_dn, r_rstd]
theorem r_sq (i : Fin 4096) (j : Fin 512) :
    val_main_v55 (F := Ideal) y g b w d (ix2 i j) = dSq (uAt y i) (dnRef y g b w d i) j := by
  pointwise [val_main_v55, val_main_v11, val_main_v10, val_main_cst_2, r_dv, r_cen]; rfl
theorem r_dy (i : Fin 4096) (j : Fin 512) :
    val_main_v65 (F := Ideal) y g b w d (ix2 i j) = dChain (uAt y i) (dnRef y g b w d i) j := by
  pointwise [val_main_v65, val_main_v64, val_main_v63, val_main_v62, val_main_v61, val_main_v60, val_main_v59, val_main_v58,
    val_main_v57, val_main_v56, val_main_v50, val_main_v49, val_main_v48, val_main_cst_10, val_main_cst_13, val_main_cst_14,
    val_main_cst_15, r_pr, r_sq]
  rw [Fin.sum_univ_one]; rfl

end Reference

/-! ### The results of the kernel's program -/

section Kernel
open Cert.Kernel5Ideal Cert.Kernel5Ideal.Gen

variable (m : (ℓ : Loc nD τ sig) → Buf (Elt Ideal) ℓ)

/-- The three accumulators' eight partial rows, which the host lines sum. -/
theorem host5 (c : Dev nD) (o : Fin 1) (j : Fin 512) :
    (Pipeline.afterTail₀ cfgs (dats m) 0 (V0 m) [hostOps1] c main_v5 : FVec Ideal S1x512 .f32) (ix2 o j)
      = ∑ r : Fin 8, sumGn m c (ix2 r j) := by
  unfold Pipeline.afterTail₀
  after_reads_at
  erw [Pipeline.withArrays_arr (cfgs 0).spec launch0.win.arr_inj c _ _ 6]
  rw [final6]
theorem host7 (c : Dev nD) (o : Fin 1) (j : Fin 512) :
    (Pipeline.afterTail₀ cfgs (dats m) 0 (V0 m) [hostOps1] c main_v7 : FVec Ideal S1x512 .f32) (ix2 o j)
      = ∑ r : Fin 8, sumB m c (ix2 r j) := by
  unfold Pipeline.afterTail₀
  after_reads_at
  erw [Pipeline.withArrays_arr (cfgs 0).spec launch0.win.arr_inj c _ _ 7]
  rw [final7]
theorem host9 (c : Dev nD) (o : Fin 1) (j : Fin 512) :
    (Pipeline.afterTail₀ cfgs (dats m) 0 (V0 m) [hostOps1] c main_v9 : FVec Ideal S1x512 .f32) (ix2 o j)
      = ∑ r : Fin 8, sumDy m c (ix2 r j) := by
  unfold Pipeline.afterTail₀
  after_reads_at
  erw [Pipeline.withArrays_arr (cfgs 0).spec launch0.win.arr_inj c _ _ 8]
  rw [final8]

end Kernel

/-! ### The results agree -/

section Agree
open Cert.Reference5Ideal.Read

variable (m : (ℓ : Loc Cert.Kernel5Ideal.nD Cert.Kernel5Ideal.τ Cert.Kernel5Ideal.sig) → Buf (Elt Ideal) ℓ)
  (c : Dev Cert.Kernel5Ideal.nD)
variable (hY : ∀ i, IsReal (Y m c i)) (hG : ∀ i, IsReal (Gn m c i)) (hB : ∀ i, IsReal (B m c i)) (hW : ∀ i, IsReal (W m c i))
  (hD : ∀ i, IsReal (D m c i))
include hY hG hB hW hD

theorem row_u (i : Fin 4096) : IsRow (uAt (Y m c) i) := isRow_of fun j => hY _
theorem real_h (i : Fin 4096) (j : Fin 512) : IsReal (hAt (D m c) (W m c) i j) := IsReal.sum _ fun k _ => (hD _).mul (hW _)
theorem real_aff (i : Fin 4096) (j : Fin 512) : IsReal (aff (uAt (Y m c) i) (par (Gn m c)) (par (B m c)) j) :=
  ((isReal_nrm (row_u m c hY hG hB hW hD i) j).mul (hG _)).add (hB _)
theorem daAt_eq (i : Fin 4096) (j : Fin 512) : daAt m c i j = daRef (Y m c) (Gn m c) (B m c) (W m c) (D m c) i j :=
  silu_eq (real_h m c hY hG hB hW hD i j) (real_aff m c hY hG hB hW hD i j)
theorem row_dn (i : Fin 4096) : IsRow (dn (hAt (D m c) (W m c) i) (uAt (Y m c) i) (par (Gn m c)) (par (B m c))) :=
  isRow_of fun j => (isReal_siluD (real_h m c hY hG hB hW hD i j) (real_aff m c hY hG hB hW hD i j)).mul (hG _)

theorem dyAt_eq (i : Fin 4096) (j : Fin 512) :
    dyAt m c i j = val_main_v65 (F := Ideal) (Y m c) (Gn m c) (B m c) (W m c) (D m c) (ix2 i j) := by
  rw [r_dy]
  have e : dnRef (Y m c) (Gn m c) (B m c) (W m c) (D m c) i
      = dn (hAt (D m c) (W m c) i) (uAt (Y m c) i) (par (Gn m c)) (par (B m c)) :=
    funext fun k => congrArg (· * par (Gn m c) k) (daAt_eq m c hY hG hB hW hD i k).symm
  rw [e]
  exact closed_eq_chain (row_u m c hY hG hB hW hD i) (row_dn m c hY hG hB hW hD i) j

/-- The gradient of the norm's input. -/
theorem res_dy : (fun i : Cert.Kernel5Ideal.S4096x512.Idx => dyAt m c (i 0) (i 1))
    = val_main_v65 (F := Ideal) (Y m c) (Gn m c) (B m c) (W m c) (D m c) := by
  funext y
  obtain ⟨p, q, rfl⟩ : ∃ (p : Fin 4096) (q : Fin 512), y = ix2 p q := ⟨y 0, y 1, eq_ix2 y⟩
  exact dyAt_eq m c hY hG hB hW hD p q

/-- The gradient of the norm's gain. -/
theorem res_gn (o : Fin 1) (j : Fin 512) : ∑ r : Fin 8, sumGn m c (ix2 r j)
    = val_main_v39 (F := Ideal) (Y m c) (Gn m c) (B m c) (W m c) (D m c) (ix2 o j) := by
  refine (Sums.sum_rows (N := Cert.Kernel5Ideal.cfg0.N) (P := 64) (L := 512) (fun i => daAt m c i j * nrm (uAt (Y m c) i) j) rfl rfl).trans ?_
  pointwise [val_main_v39, val_main_v38, val_main_v37, val_main_cst_8, r_nrm, r_da]
  exact Finset.sum_congr rfl fun i _ => (congrArg (· * _) (daAt_eq m c hY hG hB hW hD i j)).trans (mul_comm _ _)

/-- The gradient of the norm's shift. -/
theorem res_b (o : Fin 1) (j : Fin 512) : ∑ r : Fin 8, sumB m c (ix2 r j)
    = val_main_v36 (F := Ideal) (Y m c) (Gn m c) (B m c) (W m c) (D m c) (ix2 o j) := by
  refine (Sums.sum_rows (N := Cert.Kernel5Ideal.cfg0.N) (P := 64) (L := 512) (fun i => daAt m c i j) rfl rfl).trans ?_
  pointwise [val_main_v36, val_main_v35, val_main_cst_7, r_da]
  exact Finset.sum_congr rfl fun i _ => daAt_eq m c hY hG hB hW hD i j

/-- The gradient of the convolution's bias. -/
theorem res_cb (o : Fin 1) (j : Fin 512) : ∑ r : Fin 8, sumDy m c (ix2 r j)
    = val_main_v67 (F := Ideal) (Y m c) (Gn m c) (B m c) (W m c) (D m c) (ix2 o j) := by
  refine (Sums.sum_rows (N := Cert.Kernel5Ideal.cfg0.N) (P := 64) (L := 512) (fun i => dyAt m c i j) rfl rfl).trans ?_
  pointwise [val_main_v67, val_main_v66, val_main_cst_16]
  exact Finset.sum_congr rfl fun i _ => dyAt_eq m c hY hG hB hW hD i j

end Agree

/-! ### Finite arguments are real -/

theorem isReal_args [Cert.Pre_finite5.Facts] {x0 x1 x2 x3 x4}
    (h : (Cert.Pre_finite5.fn (F := Ideal) x0 x1 x2 x3 x4).1 = (fun _ => 1#1)
      ∧ (Cert.Pre_finite5.fn (F := Ideal) x0 x1 x2 x3 x4).2.1 = (fun _ => 1#1)
      ∧ (Cert.Pre_finite5.fn (F := Ideal) x0 x1 x2 x3 x4).2.2.1 = (fun _ => 1#1)
      ∧ (Cert.Pre_finite5.fn (F := Ideal) x0 x1 x2 x3 x4).2.2.2.1 = (fun _ => 1#1)
      ∧ (Cert.Pre_finite5.fn (F := Ideal) x0 x1 x2 x3 x4).2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) := by
  obtain ⟨h0, h1, h2, h3, h4⟩ := h
  unfold Cert.Pre_finite5.fn at h0 h1 h2 h3 h4
  refine ⟨fun i => ?_, fun i => ?_, fun i => ?_, fun i => ?_, fun i => ?_⟩
  · have := congrFun h0 i; pointwise at this; exact isReal_of_abs_lt this
  · have := congrFun h1 i; pointwise at this; exact isReal_of_abs_lt this
  · have := congrFun h2 i; pointwise at this; exact isReal_of_abs_lt this
  · have := congrFun h3 i; pointwise at this; exact isReal_of_abs_lt this
  · have := congrFun h4 i; pointwise at this; exact isReal_of_abs_lt this

end Cert.ConvNorm

end
-- ==== Proof.ConvNormClaim.lean ====
/- The claims of the backward of the convolution's norm and `silu`: the two runs joined to the values. -/
module

public import proofs.«01_k».proof.Proof.ConvNormAlgebra
public import proofs.«01_k».proof.Proof.Gen.Reference5Ideal.Run
public import proofs.«01_k».proof.Proof.Gen.Pre_finite5
public import Idealize.ShloMosaic.Adequacy

@[expose] public section

set_option maxRecDepth 16384

noncomputable section

namespace Cert.ConvNorm

open Idealize.ShloMosaic Idealize.ShloMosaic.TcCoe Idealize.SL.Sem
open Cert.Reals Cert.Reference5Ideal.Read

section Kernel
open Cert.Kernel5Ideal Cert.Kernel5Ideal.Gen

variable (m : (ℓ : Loc nD τ sig) → Buf (Elt Ideal) ℓ) (ρ : Dev nD → PrngReg)

/-- From finite arguments the kernel's program ends with the reference's values and its arguments unchanged. -/
theorem run (hY : ∀ c i, IsReal (Y m c i)) (hGn : ∀ c i, IsReal (Gn m c i)) (hB : ∀ c i, IsReal (B m c i)) (hW : ∀ c i, IsReal (W m c i)) (hD : ∀ c i, IsReal (D m c i)) :
    θ_run defs (onTc (τ := τ) (main (F := Ideal))) ⟨m, fun _ => 0, ρ⟩ (fun r => ∀ c : Dev nD,
      r.2.mem (c.tc.loc main_v3_0) = val_main_v65 (F := Ideal) (Y m c) (Gn m c) (B m c) (W m c) (D m c)
      ∧ r.2.mem (c.tc.loc main_v5) = val_main_v39 (F := Ideal) (Y m c) (Gn m c) (B m c) (W m c) (D m c)
      ∧ r.2.mem (c.tc.loc main_v7) = val_main_v36 (F := Ideal) (Y m c) (Gn m c) (B m c) (W m c) (D m c)
      ∧ r.2.mem (c.tc.loc main_v9) = val_main_v67 (F := Ideal) (Y m c) (Gn m c) (B m c) (W m c) (D m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) := by
  refine (θ_run defs _ _).mono (fun r h c => ⟨?_, ?_, ?_, ?_, ?_, ?_, ?_, ?_, ?_⟩) (run_main m ρ)
  · exact ((h c).1 5).trans ((final5 m c).trans (res_dy m c (hY c) (hGn c) (hB c) (hW c) (hD c)))
  · refine ((h c).2 main_v5 (Pipeline.mem_restRefs_of main_v5 (by decide) (by decide))).trans (funext fun (y : S1x512.Idx) => ?_)
    obtain ⟨o, j, rfl⟩ : ∃ (o : Fin 1) (j : Fin 512), y = ix2 o j := ⟨y 0, y 1, eq_ix2 y⟩
    exact (host5 m c o j).trans (res_gn m c (hY c) (hGn c) (hB c) (hW c) (hD c) o j)
  · refine ((h c).2 main_v7 (Pipeline.mem_restRefs_of main_v7 (by decide) (by decide))).trans (funext fun (y : S1x512.Idx) => ?_)
    obtain ⟨o, j, rfl⟩ : ∃ (o : Fin 1) (j : Fin 512), y = ix2 o j := ⟨y 0, y 1, eq_ix2 y⟩
    exact (host7 m c o j).trans (res_b m c (hY c) (hGn c) (hB c) (hW c) (hD c) o j)
  · refine ((h c).2 main_v9 (Pipeline.mem_restRefs_of main_v9 (by decide) (by decide))).trans (funext fun (y : S1x512.Idx) => ?_)
    obtain ⟨o, j, rfl⟩ : ∃ (o : Fin 1) (j : Fin 512), y = ix2 o j := ⟨y 0, y 1, eq_ix2 y⟩
    exact (host9 m c o j).trans (res_cb m c (hY c) (hGn c) (hB c) (hW c) (hD c) o j)
  · exact ((h c).1 2).trans (((dats m 0 c).arrAt_in 2 rfl _).trans ((A_eq m c 2).trans (V_main_arg0 m c)))
  · exact ((h c).1 3).trans (((dats m 0 c).arrAt_in 3 rfl _).trans ((A_eq m c 3).trans (V_main_arg1 m c)))
  · exact ((h c).1 4).trans (((dats m 0 c).arrAt_in 4 rfl _).trans ((A_eq m c 4).trans (V_main_arg2 m c)))
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

end Kernel

/-- The reference runs, changes no argument, and has no semaphore to leave raised. -/
theorem ref_frame : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run m ρ)

/-- The program and the reference return the same values at finite arguments. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := fun m ρ m' ρ' hpre hag =>
  have real := fun c => isReal_args (hpre c)
  ⟨_, _, _, _, run m ρ (fun c => (real c).1) (fun c => (real c).2.1) (fun c => (real c).2.2.1) (fun c => (real c).2.2.2.1) (fun c => (real c).2.2.2.2),
    (θ_run Cert.Reference5Ideal.defs _ _).mono (fun _ h c => by
      obtain ⟨e0, e1, e2, e3, e4⟩ := hag c
      obtain ⟨r0, r1, r2, r3, rest⟩ := h c
      refine ⟨r0.trans ?_, r1.trans ?_, r2.trans ?_, r3.trans ?_, rest⟩
      · refine (val_main_v65_eq m' c).trans ?_; rw [e0, e1, e2, e3, e4]
      · refine (val_main_v39_eq m' c).trans ?_; rw [e0, e1, e2, e3, e4]
      · refine (val_main_v36_eq m' c).trans ?_; rw [e0, e1, e2, e3, e4]
      · refine (val_main_v67_eq m' c).trans ?_; rw [e0, e1, e2, e3, e4]) (Cert.Reference5Ideal.Value.run m' ρ')⟩

end Cert.ConvNorm

end
-- ==== Proof.MixRun.lean ====
/- The run of the gated mix and its backward: launched from any memory, it leaves each result array at the contents the
   fold over its two regions gives it, every argument as launched, and every semaphore counter at zero. The launch
   set-up is that of the generated frame; only what is read off the last state differs. -/
module

public import proofs.«01_k».proof.Proof.Gen.Kernel6Ideal.Frame

@[expose] public section

set_option maxRecDepth 16384

noncomputable section

namespace Cert.Mix

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run leaves: every result as the fold over the program gives it, the twelve arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v9_2) = W4 m ρ c (Proc.devRef .tc main_v9_2)
      ∧ r.2.mem ((c.tc : Thread nD τ).loc main_v9_3) = W4 m ρ c (Proc.devRef .tc main_v9_3)
      ∧ r.2.mem ((c.tc : Thread nD τ).loc main_v9_4) = W4 m ρ c (Proc.devRef .tc main_v9_4)
      ∧ r.2.mem ((c.tc : Thread nD τ).loc main_v9_5) = W4 m ρ c (Proc.devRef .tc main_v9_5)
      ∧ r.2.mem ((c.tc : Thread nD τ).loc main_v12_0) = W4 m ρ c (Proc.devRef .tc main_v12_0)
      ∧ r.2.mem ((c.tc : Thread nD τ).loc main_v12_1) = W4 m ρ c (Proc.devRef .tc main_v12_1)
      ∧ r.2.mem ((c.tc : Thread nD τ).loc main_v12_2) = W4 m ρ c (Proc.devRef .tc main_v12_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v9_2 (by decide)),
       h c _ (mem_uc main_v9_3 (by decide)),
       h c _ (mem_uc main_v9_4 (by decide)),
       h c _ (mem_uc main_v9_5 (by decide)),
       h c _ (mem_uc main_v12_0 (by decide)),
       h c _ (mem_uc main_v12_1 (by decide)),
       h c _ (mem_uc main_v12_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.Mix

end
-- ==== Proof.MixMerge.lean ====
/- What the two regions of the gated mix compute, over the extended reals. The first leaves the two mixed branches'
   products, the merged row, its projection, the residual sum and its normalised row; the second the gradients with
   respect to the convolution branch, the two gates and the two halves of the recurrence branch. -/
module

public import proofs.«01_k».proof.Proof.Norms
public import proofs.«01_k».proof.Proof.Gen.Kernel6Ideal.Frame
public import Idealize.ShloMosaic.Lib.Pipeline.ValueKit

@[expose] public section

set_option maxRecDepth 16384

noncomputable section

namespace Cert.Mix

open Cert.Kernel6Ideal Cert.Kernel6Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The convolution branch's projection. -/
def yc (s : FVec Ideal S4096x512 .bf16) (w : FVec Ideal S512x1024 .bf16) : FVec Ideal S4096x1024 .bf16 :=
  fun i => ∑ k : Fin 512, s (ix2 (i 0) k) * w (ix2 k (i 1))

/-- The recurrence branch's projection, both halves. -/
def zz (s : FVec Ideal S4096x512 .bf16) (w : FVec Ideal S512x2048 .bf16) : FVec Ideal S4096x2048 .bf16 :=
  fun i => ∑ k : Fin 512, s (ix2 (i 0) k) * w (ix2 k (i 1))

/-- The gate of the convolution branch at a column, and the gate of the recurrence branch. -/
abbrev gc (z : FVec Ideal S4096x3584 .bf16) (i : Fin 4096) (j : Fin 1024) : EReal := z (ix2 i ⟨1536 + j, by omega⟩)
abbrev gs (z : FVec Ideal S4096x3584 .bf16) (i : Fin 4096) (j : Fin 1024) : EReal := z (ix2 i ⟨2560 + j, by omega⟩)

/-- The value half of the recurrence branch at a column, and its gate half. -/
abbrev za (u : FVec Ideal S4096x2048 .bf16) (i : Fin 4096) (j : Fin 1024) : EReal := u (ix2 i ⟨j, by omega⟩)
abbrev zb (u : FVec Ideal S4096x2048 .bf16) (i : Fin 4096) (j : Fin 1024) : EReal := u (ix2 i ⟨1024 + j, by omega⟩)

/-- One entry of the merged row, from the two gates, the convolution branch and the recurrence branch's halves. -/
def mergeOf (gc gs y a b : EReal) : EReal :=
  Ideal.logistic gc * y + Ideal.logistic gs * (a * Ideal.logistic b)

/-- The merged rows. -/
def merged (z : FVec Ideal S4096x3584 .bf16) (y : FVec Ideal S4096x1024 .bf16) (u : FVec Ideal S4096x2048 .bf16) :
    FVec Ideal S4096x1024 .bf16 := fun i =>
  mergeOf (gc z (i 0) (i 1)) (gs z (i 0) (i 1)) (y i) (za u (i 0) (i 1)) (zb u (i 0) (i 1))

/-- The windows of the first region walk the rows; the gates' blocks stand at columns 1536, 2048, 2560 and 3072. -/
theorem idx0 : ∀ t : Fin cfg0.N, win0_0.index t = ![t.val, 0] ∧ win0_1.index t = ![t.val, 0]
    ∧ win0_2.index t = ![t.val, 3] ∧ win0_3.index t = ![t.val, 4] ∧ win0_4.index t = ![t.val, 5]
    ∧ win0_5.index t = ![t.val, 6] ∧ win0_6.index t = ![t.val, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![t.val, 0]
    ∧ win0_15.index t = ![t.val, 0] ∧ win0_16.index t = ![t.val, 0] ∧ win0_17.index t = ![t.val, 0]
    ∧ win0_18.index t = ![t.val, 0] ∧ win0_19.index t = ![t.val, 0] :=
  (by decide +kernel : ∀ t : Fin grid0.N, _)

/-- The two branches' projections and the merged rows, of the arrays the first region reads. -/
abbrev Y0 (c : Dev nD) : FVec Ideal S4096x1024 .bf16 := yc (V c main_v3) (V c main_v6)
abbrev U0 (c : Dev nD) : FVec Ideal S4096x2048 .bf16 := zz (V c main_v4) (V c main_v8)
abbrev M0 (c : Dev nD) : FVec Ideal S4096x1024 .bf16 := merged (V c main_v0) (Y0 V c) (U0 V c)

/-- The blocks the first region leaves: the convolution branch's projection, -/
theorem point14 (c : Dev nD) (t : Fin cfg0.N) (y : S512x1024.Idx) :
    (outsAt0 (F := Ideal) V c t).1 y = Y0 V c (((cfg0.win 14).blk t).view.emb y) := by
  unfold outsAt0; frame_out
  open_payloads
  pointwise [yc]
  blk_point [iblk0, idx0 t]

/-- the recurrence branch's, -/
theorem point15 (c : Dev nD) (t : Fin cfg0.N) (y : S512x2048.Idx) :
    (outsAt0 (F := Ideal) V c t).2.1 y = U0 V c (((cfg0.win 15).blk t).view.emb y) := by
  unfold outsAt0; frame_out
  open_payloads
  pointwise [zz]
  blk_point [iblk0, idx0 t]

/-- What the body stores of the merged rows: the right half of the columns, then the left half. -/
abbrev mergedPieces (c : Dev nD) (t : Fin cfg0.N) : List (View.Piece (Elt Ideal) S512x1024 .bf16) :=
  [⟨Rect.unit ![0, 512] ![512, 512] inb_S512x1024_S512x512_0_512,
      k0_pay8 (k0_pay2 (iblk0 V c 0 t) (iblk0 V c 7 t)) (k0_pay7 (iblk0 V c 1 t) (iblk0 V c 8 t)) (iblk0 V c 3 t) (iblk0 V c 5 t)⟩,
    ⟨Rect.unit ![0, 0] ![512, 512] inb_S512x1024_S512x512_0_0,
      k0_pay6 (iblk0 V c 0 t) (iblk0 V c 7 t) (iblk0 V c 1 t) (iblk0 V c 8 t) (iblk0 V c 2 t) (iblk0 V c 4 t)⟩]

/-- The stored halves are the block's merged rows. -/
theorem mergedPieces_at (c : Dev nD) (t : Fin cfg0.N) (y : S512x1024.Idx) :
    View.canon (mergedPieces V c t) y = M0 V c (((cfg0.win 16).blk t).view.emb y) := by
  unfold mergedPieces
  canon_tiles x h
  all_goals
    open_payloads
    pointwise [merged, mergeOf, yc, zz, gc, gs, za, zb]
    blk_point [iblk0, idx0 t]

/-- the merged rows, -/
theorem point16 (c : Dev nD) (t : Fin cfg0.N) (y : S512x1024.Idx) :
    (outsAt0 (F := Ideal) V c t).2.2.1 y = M0 V c (((cfg0.win 16).blk t).view.emb y) := by
  unfold outsAt0; frame_out
  exact mergedPieces_at V c t y

/-- The merged rows as the body reads them back. -/
theorem merged_back (c : Dev nD) (t : Fin cfg0.N) :
    (ms0_16 t).view.readCov (mergedPieces V c t) (Rect.unit ![0, 0] ![512, 1024] inb_S512x1024_S512x1024_0_0).toLoadRect
      = fun j => M0 V c (((cfg0.win 16).blk t).view.emb j) := by
  rw [View.readCov_eq_canon']
  funext j
  refine Eq.trans ?_ (mergedPieces_at V c t j)
  refine congrArg _ (funext fun a => Fin.ext ?_)
  show ![0, 0] a + 1 * (j a : ℕ) = j a
  match a with
  | 0 => simp
  | 1 => simp

end Cert.Mix

end
-- ==== Proof.MixRow.lean ====
/- The first region's remaining results: the projection of the merged rows, the residual sum, and its normalised rows. -/
module

public import proofs.«01_k».proof.Proof.MixMerge
public import Idealize.ShloMosaic.Lib.Pipeline.ValueKit

@[expose] public section

set_option maxRecDepth 16384

noncomputable section

namespace Cert.Mix

open Cert.Kernel6Ideal Cert.Kernel6Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The merged rows' projection. -/
def proj (u : FVec Ideal S4096x1024 .bf16) (w : FVec Ideal S1024x1024 .bf16) : FVec Ideal S4096x1024 .bf16 :=
  fun i => ∑ k : Fin 1024, u (ix2 (i 0) k) * w (ix2 k (i 1))

/-- The residual sum: the input and the gated projection. -/
def resid (x : FVec Ideal S4096x1024 .f32) (g : FVec Ideal S1x1024 .f32) (o : FVec Ideal S4096x1024 .bf16) :
    FVec Ideal S4096x1024 .f32 := fun i => x i + g (ix2 0 (i 1)) * o i

/-- The residual sum normalised by its root mean square, with the norm's weight and the modulation. -/
def normed (x : FVec Ideal S4096x1024 .f32) (n sc sh : FVec Ideal S1x1024 .f32) : FVec Ideal S4096x1024 .bf16 := fun i =>
  x i * Norms.rms (fun k => x (ix2 (i 0) k)) * (n (ix2 0 (i 1)) * (1 + sc (ix2 0 (i 1)))) + sh (ix2 0 (i 1))

abbrev O0 (c : Dev nD) : FVec Ideal S4096x1024 .bf16 := proj (M0 V c) (V c main_v2)
abbrev X0 (c : Dev nD) : FVec Ideal S4096x1024 .f32 := resid (V c main_arg3) (V c main_arg7) (O0 V c)
abbrev H0 (c : Dev nD) : FVec Ideal S4096x1024 .bf16 :=
  normed (X0 V c) (V c main_arg8) (V c main_arg9) (V c main_arg10)

/-- The blocks of the projection, -/
theorem point17 (c : Dev nD) (t : Fin cfg0.N) (y : S512x1024.Idx) :
    (outsAt0 (F := Ideal) V c t).2.2.2.1 y = O0 V c (((cfg0.win 17).blk t).view.emb y) := by
  unfold outsAt0; frame_out
  rw [merged_back V c t]
  generalize hM : M0 V c = M
  have e : O0 V c = proj M (V c main_v2) := by rw [← hM]
  rw [e]
  open_payloads
  pointwise [proj]
  blk_point [iblk0, idx0 t]

/-- of the residual sum, -/
theorem point18 (c : Dev nD) (t : Fin cfg0.N) (y : S512x1024.Idx) :
    (outsAt0 (F := Ideal) V c t).2.2.2.2.1 y = X0 V c (((cfg0.win 18).blk t).view.emb y) := by
  unfold outsAt0; frame_out
  rw [merged_back V c t]
  generalize hM : M0 V c = M
  have e : X0 V c = resid (V c main_arg3) (V c main_arg7) (proj M (V c main_v2)) := by rw [← hM]
  rw [e]
  open_payloads
  pointwise [resid, proj]
  blk_point [iblk0, idx0 t]

/-- and of its normalised rows. -/
theorem point19 (c : Dev nD) (t : Fin cfg0.N) (y : S512x1024.Idx) :
    (outsAt0 (F := Ideal) V c t).2.2.2.2.2 y = H0 V c (((cfg0.win 19).blk t).view.emb y) := by
  unfold outsAt0; frame_out
  rw [merged_back V c t]
  generalize hM : M0 V c = M
  have e : H0 V c = normed (resid (V c main_arg3) (V c main_arg7) (proj M (V c main_v2))) (V c main_arg8) (V c main_arg9) (V c main_arg10) := by rw [← hM]
  rw [e]
  open_payloads
  pointwise [normed, resid, proj, Norms.rms, Norms.msq]
  blk_point [iblk0, idx0 t]

end Cert.Mix

end
-- ==== Proof.MixGrad.lean ====
/- What the second region of the gated mix computes: the gradients with respect to the convolution branch's
   projection, the two gates, and the two halves of the recurrence branch's projection. -/
module

public import proofs.«01_k».proof.Proof.MixMerge
public import Idealize.ShloMosaic.Lib.Pipeline.ValueKit

@[expose] public section

set_option maxRecDepth 16384

noncomputable section

namespace Cert.Mix

open Cert.Kernel6Ideal Cert.Kernel6Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The merged rows' cotangent: row `i` of the cotangent against row `j` of the output projection. -/
def dm (d : FVec Ideal S4096x1024 .bf16) (w : FVec Ideal S1024x1024 .bf16) (i : Fin 4096) (j : Fin 1024) : EReal :=
  ∑ k : Fin 1024, d (ix2 i k) * w (ix2 j k)

/-- The gradient at one entry with respect to the convolution branch, from the merged entry's cotangent and the gate; -/
def dycOf (a gc : EReal) : EReal := a * Ideal.logistic gc
/-- with respect to the convolution branch's gate, -/
def dgcOf (a gc y : EReal) : EReal := a * y * Ideal.logistic gc * (1 - Ideal.logistic gc)
/-- with respect to the recurrence branch's gate, -/
def dgsOf (a gs za zb : EReal) : EReal := a * Ideal.logistic gs * (za * Ideal.logistic zb) * (1 - Ideal.logistic gs)
/-- with respect to the value half of the recurrence branch, -/
def dzaOf (a gs zb : EReal) : EReal := a * Ideal.logistic gs * Ideal.logistic zb
/-- and with respect to its gate half. -/
def dzbOf (a gs za zb : EReal) : EReal := a * Ideal.logistic gs * za * Ideal.logistic zb * (1 - Ideal.logistic zb)

/-- A row of two halves of 1024 columns. -/
def halves (f g : Fin 4096 → Fin 1024 → EReal) : FVec Ideal S4096x2048 .bf16 := fun i =>
  if h : (i 1 : ℕ) < 1024 then f (i 0) ⟨i 1, h⟩
  else g (i 0) ⟨i 1 - 1024, by have := (i 1).isLt; simp at this; omega⟩

theorem halves_left (f g : Fin 4096 → Fin 1024 → EReal) (i : S4096x2048.Idx) (j : Fin 1024) (hj : (i 1 : ℕ) = j) :
    halves f g i = f (i 0) j := by
  have h : (i 1 : ℕ) < 1024 := by omega
  unfold halves; rw [dif_pos h]; congr 1; exact Fin.ext hj

theorem halves_right (f g : Fin 4096 → Fin 1024 → EReal) (i : S4096x2048.Idx) (j : Fin 1024) (hj : (i 1 : ℕ) = 1024 + j) :
    halves f g i = g (i 0) j := by
  have h : ¬ (i 1 : ℕ) < 1024 := by omega
  unfold halves; rw [dif_neg h]; congr 1; refine Fin.ext ?_; dsimp only; omega

/-- The windows of the second region walk the rows; the gates' blocks stand at columns 1536, 2048, 2560 and 3072, the
    halves of the recurrence branch at columns 0 and 1024. -/
theorem idx1 : ∀ t : Fin cfg1.N, win1_0.index t = ![t.val, 0] ∧ win1_1.index t = ![0, 0]
    ∧ win1_2.index t = ![t.val, 3] ∧ win1_3.index t = ![t.val, 4] ∧ win1_4.index t = ![t.val, 5]
    ∧ win1_5.index t = ![t.val, 6] ∧ win1_6.index t = ![t.val, 0] ∧ win1_7.index t = ![t.val, 1]
    ∧ win1_8.index t = ![t.val, 0] ∧ win1_9.index t = ![t.val, 0] ∧ win1_10.index t = ![t.val, 0]
    ∧ win1_11.index t = ![t.val, 0] :=
  (by decide +kernel : ∀ t : Fin grid1.N, _)

/-- The merged rows' cotangent from the arrays the second region reads. -/
abbrev D1 (c : Dev nD) (i : Fin 4096) (j : Fin 1024) : EReal := dm (V c main_v10) (V c main_v2) i j
abbrev DY1 (c : Dev nD) : FVec Ideal S4096x1024 .bf16 := fun i => dycOf (D1 V c (i 0) (i 1)) (gc (V c main_v0) (i 0) (i 1))
abbrev DG1 (c : Dev nD) : FVec Ideal S4096x2048 .bf16 :=
  halves (fun i j => dgcOf (D1 V c i j) (gc (V c main_v0) i j) ((V c main_v9_0 : FVec Ideal S4096x1024 .bf16) (ix2 i j)))
    (fun i j => dgsOf (D1 V c i j) (gs (V c main_v0) i j) (za (V c main_v9_1) i j) (zb (V c main_v9_1) i j))
abbrev DZ1 (c : Dev nD) : FVec Ideal S4096x2048 .bf16 :=
  halves (fun i j => dzaOf (D1 V c i j) (gs (V c main_v0) i j) (zb (V c main_v9_1) i j))
    (fun i j => dzbOf (D1 V c i j) (gs (V c main_v0) i j) (za (V c main_v9_1) i j) (zb (V c main_v9_1) i j))

/-- A block of the second region holds its rows of the convolution branch's gradient, -/
theorem point1_9 (c : Dev nD) (t : Fin cfg1.N) (y : S512x1024.Idx) :
    (outsAt1 (F := Ideal) V c t).1 y = DY1 V c (((cfg1.win 9).blk t).view.emb y) := by
  unfold outsAt1; frame_out
  canon_tiles x h
  all_goals
    open_payloads
    pointwise [dycOf, dm, gc]
    blk_point [iblk1, idx1 t]

/-- of the gates' gradients, -/
theorem point1_10 (c : Dev nD) (t : Fin cfg1.N) (y : S512x2048.Idx) :
    (outsAt1 (F := Ideal) V c t).2.1 y = DG1 V c (((cfg1.win 10).blk t).view.emb y) := by
  unfold outsAt1; frame_out
  canon_tiles x h
  all_goals open_payloads
  case piece0 =>
    refine Eq.trans ?_ (halves_right _ _ _ ⟨512 + x 1, by omega⟩ ?_).symm
    · pointwise [dgsOf, dm, gs, za, zb]
      blk_point [iblk1, idx1 t]
    · blk_simp [idx1 t]; dsimp only; omega
  case piece1 =>
    refine Eq.trans ?_ (halves_left _ _ _ ⟨512 + x 1, by omega⟩ ?_).symm
    · pointwise [dgcOf, dm, gc]
      blk_point [iblk1, idx1 t]
    · blk_simp [idx1 t]; omega
  case piece2 =>
    refine Eq.trans ?_ (halves_right _ _ _ ⟨x 1, by omega⟩ ?_).symm
    · pointwise [dgsOf, dm, gs, za, zb]
      blk_point [iblk1, idx1 t]
    · blk_simp [idx1 t]; omega
  case piece3 =>
    refine Eq.trans ?_ (halves_left _ _ _ ⟨x 1, by omega⟩ ?_).symm
    · pointwise [dgcOf, dm, gc]
      blk_point [iblk1, idx1 t]
    · blk_simp [idx1 t]; omega

/-- and of the recurrence branch's. -/
theorem point1_11 (c : Dev nD) (t : Fin cfg1.N) (y : S512x2048.Idx) :
    (outsAt1 (F := Ideal) V c t).2.2 y = DZ1 V c (((cfg1.win 11).blk t).view.emb y) := by
  unfold outsAt1; frame_out
  canon_tiles x h
  all_goals open_payloads
  case piece0 =>
    refine Eq.trans ?_ (halves_right _ _ _ ⟨512 + x 1, by omega⟩ ?_).symm
    · pointwise [dzbOf, dm, gs, za, zb]
      blk_point [iblk1, idx1 t]
    · blk_simp [idx1 t]; dsimp only; omega
  case piece1 =>
    refine Eq.trans ?_ (halves_left _ _ _ ⟨512 + x 1, by omega⟩ ?_).symm
    · pointwise [dzaOf, dm, gs, zb]
      blk_point [iblk1, idx1 t]
    · blk_simp [idx1 t]; omega
  case piece2 =>
    refine Eq.trans ?_ (halves_right _ _ _ ⟨x 1, by omega⟩ ?_).symm
    · pointwise [dzbOf, dm, gs, za, zb]
      blk_point [iblk1, idx1 t]
    · blk_simp [idx1 t]; omega
  case piece3 =>
    refine Eq.trans ?_ (halves_left _ _ _ ⟨x 1, by omega⟩ ?_).symm
    · pointwise [dzaOf, dm, gs, zb]
      blk_point [iblk1, idx1 t]
    · blk_simp [idx1 t]; omega

end Cert.Mix

end
-- ==== Proof.MixValue.lean ====
/- The gated mix's results as the program leaves them, in terms of its arguments. -/
module

public import proofs.«01_k».proof.Proof.MixRow
public import proofs.«01_k».proof.Proof.MixGrad
public import Idealize.ShloMosaic.Lib.StableHlo.ReadAt

@[expose] public section

set_option maxRecDepth 16384

noncomputable section

namespace Cert.Mix

open Idealize.ShloMosaic Idealize.ShloMosaic.TcCoe Idealize.SL.Sem
open Cert.Kernel6Ideal Cert.Kernel6Ideal.Gen
open Idealize.ShloMosaic.Pipeline (Dat)

section Final
variable (V : (c : Dev nD) → (b : Ref sig .tc) → Buf (Elt Ideal) ((c : Thread nD τ).loc b))

theorem final0_14 (c : Dev nD) : (dat0 V c).arrAt 14 cfg0.N = Y0 V c := by
  refine (dat0 V c).arrAt_eq_of_covers 14 _ (by decide +kernel) fun t _ y => ?_
  blk_simp
  rw [after0_14]
  exact point14 V c t y
theorem final0_15 (c : Dev nD) : (dat0 V c).arrAt 15 cfg0.N = U0 V c := by
  refine (dat0 V c).arrAt_eq_of_covers 15 _ (by decide +kernel) fun t _ y => ?_
  blk_simp
  rw [after0_15]
  exact point15 V c t y
theorem final0_16 (c : Dev nD) : (dat0 V c).arrAt 16 cfg0.N = M0 V c := by
  refine (dat0 V c).arrAt_eq_of_covers 16 _ (by decide +kernel) fun t _ y => ?_
  blk_simp
  rw [after0_16]
  exact point16 V c t y
theorem final0_17 (c : Dev nD) : (dat0 V c).arrAt 17 cfg0.N = O0 V c := by
  refine (dat0 V c).arrAt_eq_of_covers 17 _ (by decide +kernel) fun t _ y => ?_
  blk_simp
  rw [after0_17]
  exact point17 V c t y
theorem final0_18 (c : Dev nD) : (dat0 V c).arrAt 18 cfg0.N = X0 V c := by
  refine (dat0 V c).arrAt_eq_of_covers 18 _ (by decide +kernel) fun t _ y => ?_
  blk_simp
  rw [after0_18]
  exact point18 V c t y
theorem final0_19 (c : Dev nD) : (dat0 V c).arrAt 19 cfg0.N = H0 V c := by
  refine (dat0 V c).arrAt_eq_of_covers 19 _ (by decide +kernel) fun t _ y => ?_
  blk_simp
  rw [after0_19]
  exact point19 V c t y
theorem final1_9 (c : Dev nD) : (dat1 V c).arrAt 9 cfg1.N = DY1 V c := by
  refine (dat1 V c).arrAt_eq_of_covers 9 _ (by decide +kernel) fun t _ y => ?_
  blk_simp
  rw [after1_9]
  exact point1_9 V c t y
theorem final1_10 (c : Dev nD) : (dat1 V c).arrAt 10 cfg1.N = DG1 V c := by
  refine (dat1 V c).arrAt_eq_of_covers 10 _ (by decide +kernel) fun t _ y => ?_
  blk_simp
  rw [after1_10]
  exact point1_10 V c t y
theorem final1_11 (c : Dev nD) : (dat1 V c).arrAt 11 cfg1.N = DZ1 V c := by
  refine (dat1 V c).arrAt_eq_of_covers 11 _ (by decide +kernel) fun t _ y => ?_
  blk_simp
  rw [after1_11]
  exact point1_11 V c t y
end Final

/-- A weight stored with a leading axis of length one, without it. -/
def squeeze {a b : ℕ} (w : FVec Ideal ⟨3, ![1, a, b]⟩ .f32) : FVec Ideal ⟨2, ![a, b]⟩ .bf16 := fun i => w (ix3 0 (i 0) (i 1))

variable (m : (ℓ : Loc nD τ sig) → Buf (Elt Ideal) ℓ) (ρ : Dev nD → PrngReg)

/-- The host lines before the first region hand it the arguments. -/
theorem v0_eq (c : Dev nD) : (V1 m ρ c main_v0 : FVec Ideal S4096x3584 .bf16) = (m ((c : Thread nD τ).loc main_arg2) : FVec Ideal S4096x3584 .f32) := by
  funext i
  unfold_abbrev_sides
  after_reads_at
theorem v2_eq (c : Dev nD) : (V1 m ρ c main_v2 : FVec Ideal S1024x1024 .bf16) = squeeze (m ((c : Thread nD τ).loc main_arg6)) := by
  funext i
  unfold squeeze
  unfold_abbrev_sides
  after_reads_at
theorem v3_eq (c : Dev nD) : (V1 m ρ c main_v3 : FVec Ideal S4096x512 .bf16) = (m ((c : Thread nD τ).loc main_arg0) : FVec Ideal S4096x512 .f32) := by
  funext i
  unfold_abbrev_sides
  after_reads_at
theorem v4_eq (c : Dev nD) : (V1 m ρ c main_v4 : FVec Ideal S4096x512 .bf16) = (m ((c : Thread nD τ).loc main_arg1) : FVec Ideal S4096x512 .f32) := by
  funext i
  unfold_abbrev_sides
  after_reads_at
theorem v6_eq (c : Dev nD) : (V1 m ρ c main_v6 : FVec Ideal S512x1024 .bf16) = squeeze (m ((c : Thread nD τ).loc main_arg4)) := by
  funext i
  unfold squeeze
  unfold_abbrev_sides
  after_reads_at
theorem v8_eq (c : Dev nD) : (V1 m ρ c main_v8 : FVec Ideal S512x2048 .bf16) = squeeze (m ((c : Thread nD τ).loc main_arg5)) := by
  funext i
  unfold squeeze
  unfold_abbrev_sides
  after_reads_at
theorem v10_eq (c : Dev nD) : (V3 m ρ c main_v10 : FVec Ideal S4096x1024 .bf16) = (m ((c : Thread nD τ).loc main_arg11) : FVec Ideal S4096x1024 .f32) := by
  funext i
  rw [← W2_args m ρ c main_arg11 (by decide)]
  unfold_abbrev_sides
  after_reads_at

/-- The two branches' projections and the merged rows of the arguments. -/
abbrev yA (c : Dev nD) : FVec Ideal S4096x1024 .bf16 := yc (m ((c : Thread nD τ).loc main_arg0)) (squeeze (m ((c : Thread nD τ).loc main_arg4)))
abbrev uA (c : Dev nD) : FVec Ideal S4096x2048 .bf16 := zz (m ((c : Thread nD τ).loc main_arg1)) (squeeze (m ((c : Thread nD τ).loc main_arg5)))
abbrev mA (c : Dev nD) : FVec Ideal S4096x1024 .bf16 := merged (m ((c : Thread nD τ).loc main_arg2)) (yA m c) (uA m c)
abbrev oA (c : Dev nD) : FVec Ideal S4096x1024 .bf16 := proj (mA m c) (squeeze (m ((c : Thread nD τ).loc main_arg6)))
abbrev xA (c : Dev nD) : FVec Ideal S4096x1024 .f32 :=
  resid (m ((c : Thread nD τ).loc main_arg3)) (m ((c : Thread nD τ).loc main_arg7)) (oA m c)
abbrev hA (c : Dev nD) : FVec Ideal S4096x1024 .bf16 :=
  normed (xA m c) (m ((c : Thread nD τ).loc main_arg8)) (m ((c : Thread nD τ).loc main_arg9)) (m ((c : Thread nD τ).loc main_arg10))
abbrev dA (c : Dev nD) (i : Fin 4096) (j : Fin 1024) : EReal :=
  dm (m ((c : Thread nD τ).loc main_arg11)) (squeeze (m ((c : Thread nD τ).loc main_arg6))) i j

theorem Y0_eq (c : Dev nD) : Y0 (V1 m ρ) c = yA m c := by unfold Y0 yA; rw [v3_eq, v6_eq]
theorem U0_eq (c : Dev nD) : U0 (V1 m ρ) c = uA m c := by unfold U0 uA; rw [v4_eq, v8_eq]
theorem M0_eq (c : Dev nD) : M0 (V1 m ρ) c = mA m c := by unfold M0 mA; rw [Y0_eq, U0_eq, v0_eq]
theorem O0_eq (c : Dev nD) : O0 (V1 m ρ) c = oA m c := by unfold O0 oA; rw [M0_eq, v2_eq]
theorem X0_eq (c : Dev nD) : X0 (V1 m ρ) c = xA m c := by
  unfold X0 xA; rw [O0_eq]; exact congrArg₂ (fun a b => resid a b _) (W1_args m ρ c main_arg3 (by decide)) (W1_args m ρ c main_arg7 (by decide))
theorem H0_eq (c : Dev nD) : H0 (V1 m ρ) c = hA m c := by
  unfold H0 hA; rw [X0_eq]
  exact (congrArg₂ (fun a b => normed _ a b _) (W1_args m ρ c main_arg8 (by decide)) (W1_args m ρ c main_arg9 (by decide))).trans
    (congrArg (normed _ _ _) (W1_args m ρ c main_arg10 (by decide)))

/-- The first region's results, at the end. -/
theorem merged_res (c : Dev nD) : W4 m ρ c (Proc.devRef .tc main_v9_2) = mA m c :=
  ((W4_of m ρ c main_v9_2 (by decide)).trans ((W3_of m ρ c main_v9_2 (by decide)).trans (W2_arr m ρ c 16))).trans
    ((final0_16 (V1 m ρ) c).trans (M0_eq m ρ c))
theorem proj_res (c : Dev nD) : W4 m ρ c (Proc.devRef .tc main_v9_3) = oA m c :=
  ((W4_of m ρ c main_v9_3 (by decide)).trans ((W3_of m ρ c main_v9_3 (by decide)).trans (W2_arr m ρ c 17))).trans
    ((final0_17 (V1 m ρ) c).trans (O0_eq m ρ c))
theorem resid_res (c : Dev nD) : W4 m ρ c (Proc.devRef .tc main_v9_4) = xA m c :=
  ((W4_of m ρ c main_v9_4 (by decide)).trans ((W3_of m ρ c main_v9_4 (by decide)).trans (W2_arr m ρ c 18))).trans
    ((final0_18 (V1 m ρ) c).trans (X0_eq m ρ c))
theorem normed_res (c : Dev nD) : W4 m ρ c (Proc.devRef .tc main_v9_5) = hA m c :=
  ((W4_of m ρ c main_v9_5 (by decide)).trans ((W3_of m ρ c main_v9_5 (by decide)).trans (W2_arr m ρ c 19))).trans
    ((final0_19 (V1 m ρ) c).trans (H0_eq m ρ c))

/-- What the second region finds of the first's results and of the host lines. -/
theorem y_found (c : Dev nD) : V3 m ρ c main_v9_0 = yA m c :=
  ((W3_of m ρ c main_v9_0 (by decide)).trans (W2_arr m ρ c 14)).trans ((final0_14 (V1 m ρ) c).trans (Y0_eq m ρ c))
theorem u_found (c : Dev nD) : V3 m ρ c main_v9_1 = uA m c :=
  ((W3_of m ρ c main_v9_1 (by decide)).trans (W2_arr m ρ c 15)).trans ((final0_15 (V1 m ρ) c).trans (U0_eq m ρ c))
theorem z_found (c : Dev nD) : (V3 m ρ c main_v0 : FVec Ideal S4096x3584 .bf16) = (m ((c : Thread nD τ).loc main_arg2) : FVec Ideal S4096x3584 .f32) :=
  ((W3_of m ρ c main_v0 (by decide)).trans (W2_of m ρ c main_v0 (by decide))).trans (v0_eq m ρ c)
theorem w_found (c : Dev nD) : (V3 m ρ c main_v2 : FVec Ideal S1024x1024 .bf16) = squeeze (m ((c : Thread nD τ).loc main_arg6)) :=
  ((W3_of m ρ c main_v2 (by decide)).trans (W2_of m ρ c main_v2 (by decide))).trans (v2_eq m ρ c)

/-- The merged rows' cotangent as the second region computes it. -/
theorem D1_eq (c : Dev nD) : D1 (V3 m ρ) c = dA m c := by
  funext i j; unfold D1 dA; rw [v10_eq, w_found]

/-- The second region's results, at the end. -/
theorem dyc_res (c : Dev nD) : W4 m ρ c (Proc.devRef .tc main_v12_0)
    = fun i : S4096x1024.Idx => dycOf (dA m c (i 0) (i 1)) (gc (m ((c : Thread nD τ).loc main_arg2)) (i 0) (i 1)) :=
  (W4_arr m ρ c 9).trans ((final1_9 (V3 m ρ) c).trans (by unfold DY1; rw [D1_eq, z_found]))
theorem dgl_res (c : Dev nD) : W4 m ρ c (Proc.devRef .tc main_v12_1)
    = halves (fun i j => dgcOf (dA m c i j) (gc (m ((c : Thread nD τ).loc main_arg2)) i j) (yA m c (ix2 i j)))
        (fun i j => dgsOf (dA m c i j) (gs (m ((c : Thread nD τ).loc main_arg2)) i j) (za (uA m c) i j) (zb (uA m c) i j)) :=
  (W4_arr m ρ c 10).trans ((final1_10 (V3 m ρ) c).trans (by unfold DG1; rw [D1_eq, z_found, y_found, u_found]))
theorem dzz_res (c : Dev nD) : W4 m ρ c (Proc.devRef .tc main_v12_2)
    = halves (fun i j => dzaOf (dA m c i j) (gs (m ((c : Thread nD τ).loc main_arg2)) i j) (zb (uA m c) i j))
        (fun i j => dzbOf (dA m c i j) (gs (m ((c : Thread nD τ).loc main_arg2)) i j) (za (uA m c) i j) (zb (uA m c) i j)) :=
  (W4_arr m ρ c 11).trans ((final1_11 (V3 m ρ) c).trans (by unfold DZ1; rw [D1_eq, z_found, u_found]))

end Cert.Mix

end
-- ==== Proof.MixRef.lean ====
/- The gated mix's reference, in the terms of the program's results. -/
module

public import proofs.«01_k».proof.Proof.MixValue
public import proofs.«01_k».proof.Proof.Gen.Reference6Ideal.Read

@[expose] public section

set_option maxRecDepth 16384

noncomputable section

namespace Cert.Mix

open Idealize.ShloMosaic Idealize.ShloMosaic.TcCoe Idealize.SL.Sem
open Cert.Reference6Ideal Cert.Reference6Ideal.Gen Cert.Reference6Ideal.Read

variable (x0 x1 x2 x3 x4 x5 x6 x7 x8 x9 x10 x11)

/-- The two branches' projections. -/
theorem ref_y : val_main_v1 (F := Ideal) x0 x4 = yc x0 (squeeze x4) := by
  funext i
  pointwise [val_main_v1, val_main_v0, yc, squeeze]
theorem ref_u : val_main_v4 (F := Ideal) x1 x5 = zz x1 (squeeze x5) := by
  funext i
  pointwise [val_main_v4, val_main_v3, zz, squeeze]

/-- The gates' and the recurrence branch's logistic values. -/
theorem ref_sgc (i : S4096x1024.Idx) : val_main_v14 (F := Ideal) x2 i = Ideal.logistic (gc x2 (i 0) (i 1)) := by
  pointwise [val_main_v14, val_main_v13, val_main_v12, val_main_v11, val_main_v10, val_main_v9, val_main_v5, val_main_v2,
    val_main_cst, val_main_cst_0, gc]
  rfl
theorem ref_sgs (i : S4096x1024.Idx) : val_main_v24 (F := Ideal) x2 i = Ideal.logistic (gs x2 (i 0) (i 1)) := by
  pointwise [val_main_v24, val_main_v23, val_main_v22, val_main_v21, val_main_v20, val_main_v19, val_main_v6, val_main_v2,
    val_main_cst_2, val_main_cst_3, gs]
  exact congrArg (fun k => Ideal.logistic (x2 (ix2 (i 0) k))) (Fin.ext (by dsimp only; omega))
theorem ref_za (i : S4096x1024.Idx) : val_main_v7 (F := Ideal) x1 x5 i = za (val_main_v4 (F := Ideal) x1 x5) (i 0) (i 1) := by
  pointwise [val_main_v7, za]
theorem ref_szb (i : S4096x1024.Idx) :
    val_main_v33 (F := Ideal) x1 x5 i = Ideal.logistic (zb (val_main_v4 (F := Ideal) x1 x5) (i 0) (i 1)) := by
  pointwise [val_main_v33, val_main_v32, val_main_v31, val_main_v30, val_main_v29, val_main_v28, val_main_v8,
    val_main_cst_5, val_main_cst_6, zb]
  rfl

/-- The merged rows. -/
theorem ref_m : val_main_v39 (F := Ideal) x0 x1 x2 x4 x5 = merged x2 (yc x0 (squeeze x4)) (zz x1 (squeeze x5)) := by
  rw [← ref_y, ← ref_u]
  funext i
  pointwise [val_main_v39, val_main_v38, val_main_v37, val_main_v18, ref_sgc, ref_sgs, ref_za, ref_szb, merged, mergeOf]

/-- Their projection. -/
theorem ref_o : val_main_v41 (F := Ideal) x0 x1 x2 x4 x5 x6
    = proj (merged x2 (yc x0 (squeeze x4)) (zz x1 (squeeze x5))) (squeeze x6) := by
  rw [← ref_m]
  funext i
  pointwise [val_main_v41, val_main_v40, proj, squeeze]

/-- The residual sum. -/
theorem ref_x : val_main_v44 (F := Ideal) x0 x1 x2 x3 x4 x5 x6 x7
    = resid x3 x7 (proj (merged x2 (yc x0 (squeeze x4)) (zz x1 (squeeze x5))) (squeeze x6)) := by
  rw [← ref_o]
  funext i
  pointwise [val_main_v44, val_main_v43, val_main_v42, resid]

/-- Its normalised rows. -/
theorem ref_h : val_main_v62 (F := Ideal) x0 x1 x2 x3 x4 x5 x6 x7 x8 x9 x10
    = normed (resid x3 x7 (proj (merged x2 (yc x0 (squeeze x4)) (zz x1 (squeeze x5))) (squeeze x6))) x8 x9 x10 := by
  rw [← ref_x]
  funext i
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_cst_8, val_main_cst_9, val_main_cst_10, val_main_cst_11, normed, Norms.rms, Norms.msq]
  exact congrArg (· + _) (mul_assoc _ _ _)

/-- The merged rows' cotangent. -/
theorem ref_d (i : S4096x1024.Idx) : val_main_v63 (F := Ideal) x6 x11 i = dm x11 (squeeze x6) (i 0) (i 1) := by
  pointwise [val_main_v63, val_main_v40, dm, squeeze]

/-- The convolution branch's gradient. -/
theorem ref_dyc (i : S4096x1024.Idx) : val_main_v70 (F := Ideal) x2 x6 x11 i
    = dycOf (dm x11 (squeeze x6) (i 0) (i 1)) (gc x2 (i 0) (i 1)) := by
  pointwise [val_main_v70, ref_sgc, ref_d, dycOf]
  exact mul_comm _ _

/-- The two gates' gradients. -/
theorem ref_dgc (i : S4096x1024.Idx) : val_main_v72 (F := Ideal) x0 x2 x4 x6 x11 i
    = dgcOf (dm x11 (squeeze x6) (i 0) (i 1)) (gc x2 (i 0) (i 1)) (yc x0 (squeeze x4) i) := by
  rw [← ref_y]
  pointwise [val_main_v72, val_main_v71, val_main_v17, val_main_v16, val_main_v15, val_main_cst_1, ref_sgc, ref_d, dgcOf]
  ac_rfl
theorem ref_dgs (i : S4096x1024.Idx) : val_main_v69 (F := Ideal) x1 x2 x5 x6 x11 i
    = dgsOf (dm x11 (squeeze x6) (i 0) (i 1)) (gs x2 (i 0) (i 1)) (za (zz x1 (squeeze x5)) (i 0) (i 1)) (zb (zz x1 (squeeze x5)) (i 0) (i 1)) := by
  rw [← ref_u]
  pointwise [val_main_v69, val_main_v65, val_main_v37, val_main_v27, val_main_v26, val_main_v25, val_main_cst_4, ref_sgs, ref_za,
    ref_szb, ref_d, dgsOf]
  ac_rfl

/-- The recurrence branch's two gradients. -/
theorem ref_dza (i : S4096x1024.Idx) : val_main_v67 (F := Ideal) x1 x2 x5 x6 x11 i
    = dzaOf (dm x11 (squeeze x6) (i 0) (i 1)) (gs x2 (i 0) (i 1)) (zb (zz x1 (squeeze x5)) (i 0) (i 1)) := by
  rw [← ref_u]
  pointwise [val_main_v67, val_main_v64, ref_sgs, ref_szb, ref_d, dzaOf]
  ac_rfl
theorem ref_dzb (i : S4096x1024.Idx) : val_main_v68 (F := Ideal) x1 x2 x5 x6 x11 i
    = dzbOf (dm x11 (squeeze x6) (i 0) (i 1)) (gs x2 (i 0) (i 1)) (za (zz x1 (squeeze x5)) (i 0) (i 1)) (zb (zz x1 (squeeze x5)) (i 0) (i 1)) := by
  rw [← ref_u]
  pointwise [val_main_v68, val_main_v66, val_main_v64, val_main_v36, val_main_v35, val_main_v34, val_main_cst_7, ref_sgs, ref_za,
    ref_szb, ref_d, dzbOf]
  ac_rfl

/-- The gates' gradients side by side, and the recurrence branch's. -/
theorem ref_dgl : val_main_v74 (F := Ideal) x0 x1 x2 x4 x5 x6 x11
    = halves (fun i j => dgcOf (dm x11 (squeeze x6) i j) (gc x2 i j) (yc x0 (squeeze x4) (ix2 i j)))
        (fun i j => dgsOf (dm x11 (squeeze x6) i j) (gs x2 i j) (za (zz x1 (squeeze x5)) i j) (zb (zz x1 (squeeze x5)) i j)) := by
  funext i
  pointwise [val_main_v74, halves]
  split
  · exact ref_dgc _ _ _ _ _ _
  · exact ref_dgs _ _ _ _ _ _
theorem ref_dzz : val_main_v73 (F := Ideal) x1 x2 x5 x6 x11
    = halves (fun i j => dzaOf (dm x11 (squeeze x6) i j) (gs x2 i j) (zb (zz x1 (squeeze x5)) i j))
        (fun i j => dzbOf (dm x11 (squeeze x6) i j) (gs x2 i j) (za (zz x1 (squeeze x5)) i j) (zb (zz x1 (squeeze x5)) i j)) := by
  funext i
  pointwise [val_main_v73, halves]
  split
  · exact ref_dza _ _ _ _ _ _
  · exact ref_dzb _ _ _ _ _ _

end Cert.Mix

end
-- ==== Proof.MixClaim.lean ====
/- The claims of the gated mix and its backward: the two runs joined to the values. -/
module

public import proofs.«01_k».proof.Proof.MixRun
public import proofs.«01_k».proof.Proof.MixValue
public import proofs.«01_k».proof.Proof.MixRef
public import proofs.«01_k».proof.Proof.Gen.Reference6Ideal.Run
public import proofs.«01_k».proof.Defs
public import Idealize.ShloMosaic.Adequacy

@[expose] public section

set_option maxRecDepth 16384

noncomputable section

namespace Cert.Mix

open Idealize.ShloMosaic Idealize.ShloMosaic.TcCoe Idealize.SL.Sem

/-- The reference runs, changes no argument, and has no semaphore to leave raised. -/
theorem ref_frame : Cert.quiescent_Reference6Ideal (hReference6Ideal := Cert.Reference6Ideal.Gen.facts) := fun m ρ _ =>
  (θ_run Cert.Reference6Ideal.defs _ _).mono (fun r h => ⟨fun c => (h c).2.2.2.2.2.2.2, sem_eq_zero_of_no_sems (by decide) r.2⟩)
    (Cert.Reference6Ideal.Value.run m ρ)

section Values
open Cert.Kernel6Ideal Cert.Kernel6Ideal.Gen Cert.Reference6Ideal.Read

variable (m : (ℓ : Loc nD τ sig) → Buf (Elt Ideal) ℓ) (ρ : Dev nD → PrngReg)

/-- The program's results are the reference's values of the arguments. -/
theorem merged_val (c : Dev nD) : W4 m ρ c (Proc.devRef .tc main_v9_2)
    = val_main_v75 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (merged_res m ρ c).trans (ref_m _ _ _ _ _).symm
theorem proj_val (c : Dev nD) : W4 m ρ c (Proc.devRef .tc main_v9_3)
    = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (proj_res m ρ c).trans (ref_o _ _ _ _ _ _).symm
theorem resid_val (c : Dev nD) : W4 m ρ c (Proc.devRef .tc main_v9_4)
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (resid_res m ρ c).trans (ref_x _ _ _ _ _ _ _ _).symm
theorem normed_val (c : Dev nD) : W4 m ρ c (Proc.devRef .tc main_v9_5)
    = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (normed_res m ρ c).trans (ref_h _ _ _ _ _ _ _ _ _ _ _).symm
theorem dyc_val (c : Dev nD) : W4 m ρ c (Proc.devRef .tc main_v12_0)
    = val_main_v78 (F := Ideal) (m ((c : Thread nD τ).loc main_arg2)) (m ((c : Thread nD τ).loc main_arg6)) (m ((c : Thread nD τ).loc main_arg11)) :=
  (dyc_res m ρ c).trans (funext fun i => (ref_dyc _ _ _ i).symm)
theorem dgl_val (c : Dev nD) : W4 m ρ c (Proc.devRef .tc main_v12_1)
    = val_main_v79 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg11)) :=
  (dgl_res m ρ c).trans (ref_dgl _ _ _ _ _ _ _).symm
theorem dzz_val (c : Dev nD) : W4 m ρ c (Proc.devRef .tc main_v12_2)
    = val_main_v80 (F := Ideal) (m ((c : Thread nD τ).loc main_arg1)) (m ((c : Thread nD τ).loc main_arg2)) (m ((c : Thread nD τ).loc main_arg5)) (m ((c : Thread nD τ).loc main_arg6)) (m ((c : Thread nD τ).loc main_arg11)) :=
  (dzz_res m ρ c).trans (ref_dzz _ _ _ _ _).symm

end Values

set_option maxHeartbeats 2000000 in
/-- The program and the reference return the same seven values. -/
theorem algebraic : Cert.algebraic_Kernel6Ideal_Reference6Ideal (hKernel6Ideal := Cert.Kernel6Ideal.Gen.facts)
    (hReference6Ideal := Cert.Reference6Ideal.Gen.facts) := fun m ρ m' ρ' _ hag =>
  ⟨_, _, _, _, _, _, _, (θ_run Cert.Kernel6Ideal.defs _ _).mono (fun _ h c => by
      obtain ⟨r0, r1, r2, r3, r4, r5, r6, rest⟩ := h c
      exact ⟨r0.trans (merged_val m ρ c), r1.trans (proj_val m ρ c), r2.trans (resid_val m ρ c), r3.trans (normed_val m ρ c), r4.trans (dyc_val m ρ c), r5.trans (dgl_val m ρ c), r6.trans (dzz_val m ρ c), rest⟩) (run m ρ),
    (θ_run Cert.Reference6Ideal.defs _ _).mono (fun _ h c => by
      obtain ⟨e0, e1, e2, e3, e4, e5, e6, e7, e8, e9, e10, e11⟩ := hag c
      obtain ⟨r0, r1, r2, r3, r4, r5, r6, rest⟩ := h c
      refine ⟨r0.trans ?_, r1.trans ?_, r2.trans ?_, r3.trans ?_, r4.trans ?_, r5.trans ?_, r6.trans ?_, rest⟩
      · rw [e0, e1, e2, e4, e5]; exact Cert.Reference6Ideal.Read.val_main_v75_eq _ _ _ _ _
      · rw [e0, e1, e2, e4, e5, e6]; exact Cert.Reference6Ideal.Read.val_main_v76_eq _ _ _ _ _ _
      · rw [e0, e1, e2, e3, e4, e5, e6, e7]; exact Cert.Reference6Ideal.Read.val_main_v44_eq _ _ _ _ _ _ _ _
      · refine (Cert.Reference6Ideal.Read.val_main_v77_eq m' c).trans ?_; rw [e0, e1, e2, e3, e4, e5, e6, e7, e8, e9, e10]
      · rw [e2, e6, e11]; exact Cert.Reference6Ideal.Read.val_main_v78_eq _ _ _
      · rw [e0, e1, e2, e4, e5, e6, e11]; exact Cert.Reference6Ideal.Read.val_main_v79_eq _ _ _ _ _ _ _
      · rw [e1, e2, e5, e6, e11]; exact Cert.Reference6Ideal.Read.val_main_v80_eq _ _ _ _ _) (Cert.Reference6Ideal.Value.run m' ρ')⟩

end Cert.Mix

end
-- ==== Proof.Norm3Pay.lean ====
/- What the body of the backward of the first modulated norm computes from its blocks, row by row; the cotangent comes in
   three parts. -/
module

public import proofs.«01_k».proof.Proof.Gen.Kernel7Ideal.Skeleton
public import proofs.«01_k».proof.Proof.Norms
public import Idealize.ShloMosaic.Lib.Pipeline.ValueKit

@[expose] public section

set_option maxRecDepth 16384

noncomputable section

namespace Cert.Norm3

open Idealize.ShloMosaic Idealize.ShloMosaic.TcCoe Idealize.SL.Sem
open Cert.Kernel7Ideal Cert.Kernel7Ideal.Gen Cert.Norms

/-- The normalised row. -/
def nrm (u : Fin 1024 → EReal) (j : Fin 1024) : EReal := u j * rms u
/-- One plus the scale. -/
def one (s : Fin 1024 → EReal) (j : Fin 1024) : EReal := 1 + s j
/-- The cotangent of the normalised row, as the kernel multiplies it out. -/
def dn (h g s : Fin 1024 → EReal) (j : Fin 1024) : EReal := h j * (g j * one s j)

variable (a : FVec Ideal S512x1024 .bf16) (b : FVec Ideal S512x512 .bf16) (e : FVec Ideal S512x2048 .bf16)
  (wa : FVec Ideal S1024x1024 .bf16) (wb : FVec Ideal S1024x512 .bf16) (we : FVec Ideal S1024x2048 .bf16)
  (x r : FVec Ideal S512x1024 .f32) (g s : FVec Ideal S1x1024 .f32) (acc : FVec Ideal S8x1024 .f32)

/-- Row `i` of the cotangent of the modulated norm: each part of it times its columns of the weight. -/
def bh (i : Fin 512) (j : Fin 1024) : EReal :=
  (∑ k : Fin 1024, a (ix2 i k) * wa (ix2 j k)) + (∑ k : Fin 512, b (ix2 i k) * wb (ix2 j k)) + ∑ k : Fin 2048, e (ix2 i k) * we (ix2 j k)
/-- Row `i` of a block. -/
def bx (x : FVec Ideal S512x1024 .f32) (i : Fin 512) (j : Fin 1024) : EReal := x (ix2 i j)
/-- A one-row parameter as a row. -/
def par (g : FVec Ideal S1x1024 .f32) (j : Fin 1024) : EReal := g (ix2 0 j)

theorem pay8 (j : Fin 1024) : k0_pay8 (F := Ideal) s (ix2 0 j) = one (par s) j := by
  pointwise [k0_pay8]; rfl
theorem pay9 (i : Fin 512) (j : Fin 1) : k0_pay9 (F := Ideal) x (ix2 i j) = rms (bx x i) := by
  pointwise [k0_pay9]; rfl
theorem pay10 (i : Fin 512) (j : Fin 1024) : k0_pay10 (F := Ideal) x (ix2 i j) = nrm (bx x i) j := by
  pointwise [k0_pay10, pay9]; rfl
theorem pay13 (i : Fin 512) (j : Fin 1024) :
    k0_pay13 (F := Ideal) (k0_pay11 a wa b wb) (k0_pay12 e) we (ix2 i j) = bh a b e wa wb we i j := by
  pointwise [k0_pay13, k0_pay12, k0_pay11]; rfl

/-- The cotangent of the norm's input, as a block's row has it. -/
def bdx (i : Fin 512) (j : Fin 1024) : EReal := bx r i j + dClosed (bx x i) (dn (bh a b e wa wb we i) (par g) (par s)) j

theorem pay14 (i : Fin 512) (j : Fin 1024) :
    k0_pay14 (F := Ideal) g (k0_pay8 s) (k0_pay9 x) (k0_pay10 x) (k0_pay11 a wa b wb) (k0_pay12 e) we r (ix2 i j)
      = bdx a b e wa wb we x r g s i j := by
  pointwise [k0_pay14, pay8, pay9, pay10, pay13]; rfl

/-- The row of a block that group `p` and lane row `r` name. -/
abbrev rowOf (p : Fin 64) (r : Fin 8) : Fin 512 := ⟨p * 8 + r, by omega⟩

theorem pay17 (r : Fin 8) (l : Fin 1024) : k0_pay17 (F := Ideal) (k0_pay11 a wa b wb) (k0_pay12 e) we acc (ix2 r l)
    = acc (ix2 r l) + ∑ p : Fin 64, bh a b e wa wb we (rowOf p r) l := by
  pointwise [k0_pay17, pay13]
theorem pay1 (r : Fin 8) (l : Fin 1024) :
    k0_pay1 (F := Ideal) (k0_pay18 acc) (k0_pay19 g (k0_pay10 x) (k0_pay11 a wa b wb) (k0_pay12 e) we) (ix2 r l)
      = acc (ix2 r l) + (∑ p : Fin 64, bh a b e wa wb we (rowOf p r) l * nrm (bx x (rowOf p r)) l) * par g l := by
  pointwise [k0_pay1, k0_pay18, k0_pay19, k0_pay16, pay13, pay10]; rfl
theorem pay2 (r : Fin 8) (l : Fin 1024) :
    k0_pay2 (F := Ideal) (k0_pay8 s) (k0_pay16 (k0_pay10 x) (k0_pay11 a wa b wb) (k0_pay12 e) we) acc (ix2 r l)
      = acc (ix2 r l) + (∑ p : Fin 64, bh a b e wa wb we (rowOf p r) l * nrm (bx x (rowOf p r)) l) * one (par s) l := by
  pointwise [k0_pay2, k0_pay16, pay13, pay10, pay8]
theorem pay4 (i : S8x1024.Idx) : k0_pay4 (F := Ideal) i = 0 := by pointwise [k0_pay4]
theorem pay5 (i : S8x1024.Idx) : k0_pay5 (F := Ideal) i = 0 := by pointwise [k0_pay5]
theorem pay6 (i : S8x1024.Idx) : k0_pay6 (F := Ideal) i = 0 := by pointwise [k0_pay6]

end Cert.Norm3

end
-- ==== Proof.Norm3Value.lean ====
/- What the backward of the first modulated norm leaves in each of its results, as sums over the rows of its arguments. -/
module

public import proofs.«01_k».proof.Proof.Gen.Kernel7Ideal.Frame
public import proofs.«01_k».proof.Proof.Norm3Pay
public import Idealize.ShloMosaic.Lib.StableHlo.ReadAt

@[expose] public section

set_option maxRecDepth 16384

noncomputable section

namespace Cert.Norm3

open Idealize.ShloMosaic Idealize.ShloMosaic.TcCoe Idealize.SL.Sem
open Cert.Kernel7Ideal Cert.Kernel7Ideal.Gen Cert.Norms
open Idealize.ShloMosaic.Pipeline (Dat)

/-- Row `i` of the cotangent of the norm's output. -/
def hAt (a : FVec Ideal S4096x1024 .f32) (b : FVec Ideal S4096x512 .f32) (e : FVec Ideal S4096x2048 .f32) (w : FVec Ideal S1x1024x3584 .f32)
    (i : Fin 4096) (j : Fin 1024) : EReal :=
  (∑ k : Fin 1024, a (ix2 i k) * w (ix3 0 j ⟨k, by omega⟩)) + (∑ k : Fin 512, b (ix2 i k) * w (ix3 0 j ⟨1024 + k, by omega⟩))
    + ∑ k : Fin 2048, e (ix2 i k) * w (ix3 0 j ⟨1536 + k, by omega⟩)
/-- Row `i` of an array. -/
def rAt (r : FVec Ideal S4096x1024 .f32) (i : Fin 4096) (j : Fin 1024) : EReal := r (ix2 i j)

variable (m : (ℓ : Loc nD τ sig) → Buf (Elt Ideal) ℓ)

/-- The row windows walk the rows; the others are one block. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ win0_10.index t = ![t.val, 0] :=
  (by decide +kernel : ∀ t : Fin grid0.N, _)

/-- The arguments of the program. -/
abbrev X (c : Dev nD) : FVec Ideal S4096x1024 .f32 := m ((c : Thread nD τ).loc main_arg0)
abbrev Gn (c : Dev nD) : FVec Ideal S1x1024 .f32 := m ((c : Thread nD τ).loc main_arg1)
abbrev Sc (c : Dev nD) : FVec Ideal S1x1024 .f32 := m ((c : Thread nD τ).loc main_arg2)
abbrev W (c : Dev nD) : FVec Ideal S1x1024x3584 .f32 := m ((c : Thread nD τ).loc main_arg3)
abbrev R (c : Dev nD) : FVec Ideal S4096x1024 .f32 := m ((c : Thread nD τ).loc main_arg4)
abbrev A (c : Dev nD) : FVec Ideal S4096x1024 .f32 := m ((c : Thread nD τ).loc main_arg5)
abbrev B (c : Dev nD) : FVec Ideal S4096x512 .f32 := m ((c : Thread nD τ).loc main_arg6)
abbrev E (c : Dev nD) : FVec Ideal S4096x2048 .f32 := m ((c : Thread nD τ).loc main_arg7)

/-- The row of the array that row `i` of block `t` is. -/
abbrev rw512 (t : Fin cfg0.N) (i : Fin 512) : Fin 4096 := ⟨t.val * 512 + i, by have := lt_of_lt_of_eq t.isLt N_0; omega⟩

/-- What the host lines before the region hand the kernel. -/
theorem v1_at (c : Dev nD) (i : S4096x1024.Idx) : (V m c main_v1 : FVec Ideal S4096x1024 .bf16) i = A m c i := by
  unfold_abbrev_sides
  after_reads_at
theorem v2_at (c : Dev nD) (i : S4096x512.Idx) : (V m c main_v2 : FVec Ideal S4096x512 .bf16) i = B m c i := by
  unfold_abbrev_sides
  after_reads_at
theorem v3_at (c : Dev nD) (i : S4096x2048.Idx) : (V m c main_v3 : FVec Ideal S4096x2048 .bf16) i = E m c i := by
  unfold_abbrev_sides
  after_reads_at
theorem v5_at (c : Dev nD) (i : S1024x3584.Idx) : (V m c main_v5 : FVec Ideal S1024x3584 .bf16) i = W m c (ix3 0 (i 0) (i 1)) := by
  unfold_abbrev_sides
  after_reads_at

/-- The blocks of the cotangent's parts, and a range of columns of the weight's block, at an entry. -/
theorem blk_a (c : Dev nD) (t : Fin cfg0.N) (i : Fin 512) (k : Fin 1024) :
    (iblk m c 0 t : FVec Ideal S512x1024 .bf16) (ix2 i k) = A m c (ix2 (rw512 t i) k) := by
  refine Eq.trans ?_ (v1_at m c (ix2 (rw512 t i) k))
  blk_ext [iblk, idx t]
theorem blk_b (c : Dev nD) (t : Fin cfg0.N) (i : Fin 512) (k : Fin 512) :
    (iblk m c 1 t : FVec Ideal S512x512 .bf16) (ix2 i k) = B m c (ix2 (rw512 t i) k) := by
  refine Eq.trans ?_ (v2_at m c (ix2 (rw512 t i) k))
  blk_ext [iblk, idx t]
theorem blk_e (c : Dev nD) (t : Fin cfg0.N) (i : Fin 512) (k : Fin 2048) :
    (iblk m c 2 t : FVec Ideal S512x2048 .bf16) (ix2 i k) = E m c (ix2 (rw512 t i) k) := by
  refine Eq.trans ?_ (v3_at m c (ix2 (rw512 t i) k))
  blk_ext [iblk, idx t]
theorem blk_w (c : Dev nD) (t : Fin cfg0.N) (j : Fin 1024) (k : Fin 3584) :
    (iblk m c 3 t : FVec Ideal S1024x3584 .bf16) (ix2 j k) = W m c (ix3 0 j k) := by
  refine Eq.trans ?_ (v5_at m c (ix2 j k))
  blk_ext [iblk, idx t]
theorem ld_w (c : Dev nD) (t : Fin cfg0.N) (o n : ℕ) (h) (j : Fin 1024) (k : Fin n) (hk : o + k < 3584) :
    View.ld (iblk m c 3 t : FVec Ideal S1024x3584 .bf16) (Rect.unit ![0, o] ![1024, n] h) (ix2 j k) = W m c (ix3 0 j ⟨o + k, hk⟩) := by
  refine (View.ld_unit_apply_of _ _ _ _ _ (ix2 j ⟨o + k, hk⟩) fun a => ?_).trans (blk_w m c t j _)
  fin_cases a
  · exact (zero_add _).symm
  · rfl

/-- The three ranges of columns of the weight's block. -/
def wA (c : Dev nD) (t : Fin cfg0.N) : FVec Ideal S1024x1024 .bf16 :=
  View.ld (iblk m c 3 t) (Rect.unit ![0, 0] ![1024, 1024] inb_S1024x3584_S1024x1024_0_0)
def wB (c : Dev nD) (t : Fin cfg0.N) : FVec Ideal S1024x512 .bf16 :=
  View.ld (iblk m c 3 t) (Rect.unit ![0, 1024] ![1024, 512] inb_S1024x3584_S1024x512_0_1024)
def wE (c : Dev nD) (t : Fin cfg0.N) : FVec Ideal S1024x2048 .bf16 :=
  View.ld (iblk m c 3 t) (Rect.unit ![0, 1536] ![1024, 2048] inb_S1024x3584_S1024x2048_0_1536)
/-- A row of the cotangent of the norm's output, as the blocks hold it. -/
def hB (c : Dev nD) (t : Fin cfg0.N) (i : Fin 512) : Fin 1024 → EReal :=
  bh (iblk m c 0 t) (iblk m c 1 t) (iblk m c 2 t) (wA m c t) (wB m c t) (wE m c t) i

/-- The rows of the blocks are the rows of the arrays. -/
theorem blk_h (c : Dev nD) (t : Fin cfg0.N) (i : Fin 512) : hB m c t i = hAt (A m c) (B m c) (E m c) (W m c) (rw512 t i) := by
  funext j; unfold hB bh hAt
  refine congrArg₂ (· + ·) (congrArg₂ (· + ·) (Fin.sum_fin_congr fun k => congrArg₂ (· * ·) ?_ ?_)
    (Fin.sum_fin_congr fun k => congrArg₂ (· * ·) ?_ ?_)) (Fin.sum_fin_congr fun k => congrArg₂ (· * ·) ?_ ?_)
  · exact blk_a m c t i k
  · exact (ld_w m c t 0 1024 _ j k (by omega)).trans (by simp only [zero_add])
  · exact blk_b m c t i k
  · exact ld_w m c t 1024 512 _ j k (by omega)
  · exact blk_e m c t i k
  · exact ld_w m c t 1536 2048 _ j k (by omega)
theorem blk_u (c : Dev nD) (t : Fin cfg0.N) (i : Fin 512) : bx (iblk m c 4 t) i = rAt (X m c) (rw512 t i) := by
  funext j; unfold bx rAt
  blk_point [iblk, V, idx t]
theorem blk_r (c : Dev nD) (t : Fin cfg0.N) (i : Fin 512) : bx (iblk m c 5 t) i = rAt (R m c) (rw512 t i) := by
  funext j; unfold bx rAt
  blk_point [iblk, V, idx t]
theorem blk_g (c : Dev nD) (t : Fin cfg0.N) : par (iblk m c 6 t) = par (Gn m c) := by
  funext j; unfold par
  blk_point [iblk, V, idx t]
theorem blk_s (c : Dev nD) (t : Fin cfg0.N) : par (iblk m c 7 t) = par (Sc m c) := by
  funext j; unfold par
  blk_point [iblk, V, idx t]

/-- The cotangent of the norm's input, row by row. -/
def dxAt (c : Dev nD) (i : Fin 4096) (j : Fin 1024) : EReal :=
  rAt (R m c) i j + dClosed (rAt (X m c) i) (dn (hAt (A m c) (B m c) (E m c) (W m c) i) (par (Gn m c)) (par (Sc m c))) j

/-- A point leaves its block of the cotangent. -/
theorem out10 (c : Dev nD) (t : Fin cfg0.N) (p : Fin 512) (q : Fin 1024) :
    (outsAt0 m c t.val t.isLt).1 (ix2 p q) = dxAt m c (rw512 t p) q := by
  unfold dxAt
  rw [← blk_h, ← blk_u, ← blk_r, ← blk_g m c t, ← blk_s m c t]
  by_cases h : t.val % 8 = 0
  · rw [outsAt0_A m c t h]; frame_out; exact pay14 (iblk m c 0 t) (iblk m c 1 t) (iblk m c 2 t) (wA m c t) (wB m c t) (wE m c t) (iblk m c 4 t) (iblk m c 5 t) (iblk m c 6 t) (iblk m c 7 t) p q
  · rw [outsAt0_B m c t h]; frame_out; exact pay14 (iblk m c 0 t) (iblk m c 1 t) (iblk m c 2 t) (wA m c t) (wB m c t) (wE m c t) (iblk m c 4 t) (iblk m c 5 t) (iblk m c 6 t) (iblk m c 7 t) p q

/-- The kernel leaves the cotangent of the norm's input in its first result. -/
theorem final10 (c : Dev nD) : (dats m 0 c).arrAt 10 (cfgs 0).N = fun i : S4096x1024.Idx => dxAt m c (i 0) (i 1) := by
  refine (dats m 0 c).arrAt_eq_of_covers 10 _ (by decide +kernel) fun t _ y => ?_
  blk_simp
  rw [after0_10]
  obtain ⟨p, q, rfl⟩ : ∃ (p : Fin 512) (q : Fin 1024), y = ix2 p q := ⟨y 0, y 1, eq_ix2 y⟩
  refine (out10 m c t p q).trans (congrArg₂ (dxAt m c) (Fin.ext ?_) (Fin.ext ?_))
  · blk_simp [idx t]
  · blk_simp [idx t]; try omega

/-- What point `t` adds to the accumulator of the shift's cotangent, and the sum over the points. -/
def ptSh (c : Dev nD) (t : Fin cfg0.N) (r : Fin 8) (l : Fin 1024) : EReal :=
  ∑ p : Fin 64, hAt (A m c) (B m c) (E m c) (W m c) (rw512 t (rowOf p r)) l
def sumSh (c : Dev nD) : FVec Ideal S8x1024 .f32 := fun i => ∑ t : Fin cfg0.N, ptSh m c t (i 0) (i 1)
theorem stSh (c : Dev nD) (t : Fin cfg0.N) (r : Fin 8) (l : Fin 1024) :
    ∑ p : Fin 64, hB m c t (rowOf p r) l = ptSh m c t r l :=
  Finset.sum_congr rfl fun p _ => congrFun (blk_h m c t _) l

theorem final12 (c : Dev nD) : (dats m 0 c).arrAt 12 (cfgs 0).N = sumSh m c := by
  refine (dats m 0 c).arrAt_eq_of_after_last 12 t0_7 (by decide +kernel) _ fun j => ?_
  blk_simp
  obtain ⟨r, l, rfl⟩ : ∃ (r : Fin 8) (l : Fin 1024), j = ix2 r l := ⟨j 0, j 1, eq_ix2 j⟩
  rw [after0_12]
  refine (Pipeline.eq_sum_fin_of_reset_step_apply_last (fun n h => (outsAt0 m c n h).2.2.1) 8 (fun _ => (0 : EReal))
    (fun t (i : S8x1024.Idx) => ptSh m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out
    exact (pay17 (iblk m c 0 t) (iblk m c 1 t) (iblk m c 2 t) (wA m c t) (wB m c t) (wE m c t) _ r l).trans (congrArg₂ (· + ·) (pay4 _) (stSh m c t r l))
  · intro t h j
    obtain ⟨r, l, rfl⟩ : ∃ (r : Fin 8) (l : Fin 1024), j = ix2 r l := ⟨j 0, j 1, eq_ix2 j⟩
    rw [outsAt0_B m c t h]; frame_out
    exact (pay17 (iblk m c 0 t) (iblk m c 1 t) (iblk m c 2 t) (wA m c t) (wB m c t) (wE m c t) _ r l).trans (congrArg₂ (· + ·) rfl (stSh m c t r l))

/-- What point `t` adds to the accumulator of the scale's cotangent, and the sum over the points. -/
def ptSc (c : Dev nD) (t : Fin cfg0.N) (r : Fin 8) (l : Fin 1024) : EReal :=
  (∑ p : Fin 64, hAt (A m c) (B m c) (E m c) (W m c) (rw512 t (rowOf p r)) l * nrm (rAt (X m c) (rw512 t (rowOf p r))) l) * par (Gn m c) l
def sumSc (c : Dev nD) : FVec Ideal S8x1024 .f32 := fun i => ∑ t : Fin cfg0.N, ptSc m c t (i 0) (i 1)
theorem stSc (c : Dev nD) (t : Fin cfg0.N) (r : Fin 8) (l : Fin 1024) :
    (∑ p : Fin 64, hB m c t (rowOf p r) l * nrm (bx (iblk m c 4 t) (rowOf p r)) l) * par (iblk m c 6 t) l = ptSc m c t r l :=
  congrArg₂ (· * ·) (Finset.sum_congr rfl fun p _ => congrArg₂ (· * ·) (congrFun (blk_h m c t _) l) (congrArg (nrm · l) (blk_u m c t _))) (congrFun (blk_g m c t) l)

theorem final13 (c : Dev nD) : (dats m 0 c).arrAt 13 (cfgs 0).N = sumSc m c := by
  refine (dats m 0 c).arrAt_eq_of_after_last 13 t0_7 (by decide +kernel) _ fun j => ?_
  blk_simp
  obtain ⟨r, l, rfl⟩ : ∃ (r : Fin 8) (l : Fin 1024), j = ix2 r l := ⟨j 0, j 1, eq_ix2 j⟩
  rw [after0_13]
  refine (Pipeline.eq_sum_fin_of_reset_step_apply_last (fun n h => (outsAt0 m c n h).2.2.2.1) 8 (fun _ => (0 : EReal))
    (fun t (i : S8x1024.Idx) => ptSc m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out
    exact (pay1 (iblk m c 0 t) (iblk m c 1 t) (iblk m c 2 t) (wA m c t) (wB m c t) (wE m c t) (iblk m c 4 t) (iblk m c 6 t) _ r l).trans (congrArg₂ (· + ·) (pay5 _) (stSc m c t r l))
  · intro t h j
    obtain ⟨r, l, rfl⟩ : ∃ (r : Fin 8) (l : Fin 1024), j = ix2 r l := ⟨j 0, j 1, eq_ix2 j⟩
    rw [outsAt0_B m c t h]; frame_out
    exact (pay1 (iblk m c 0 t) (iblk m c 1 t) (iblk m c 2 t) (wA m c t) (wB m c t) (wE m c t) (iblk m c 4 t) (iblk m c 6 t) _ r l).trans (congrArg₂ (· + ·) rfl (stSc m c t r l))

/-- What point `t` adds to the accumulator of the gain's cotangent, and the sum over the points. -/
def ptGn (c : Dev nD) (t : Fin cfg0.N) (r : Fin 8) (l : Fin 1024) : EReal :=
  (∑ p : Fin 64, hAt (A m c) (B m c) (E m c) (W m c) (rw512 t (rowOf p r)) l * nrm (rAt (X m c) (rw512 t (rowOf p r))) l) * one (par (Sc m c)) l
def sumGn (c : Dev nD) : FVec Ideal S8x1024 .f32 := fun i => ∑ t : Fin cfg0.N, ptGn m c t (i 0) (i 1)
theorem stGn (c : Dev nD) (t : Fin cfg0.N) (r : Fin 8) (l : Fin 1024) :
    (∑ p : Fin 64, hB m c t (rowOf p r) l * nrm (bx (iblk m c 4 t) (rowOf p r)) l) * one (par (iblk m c 7 t)) l = ptGn m c t r l :=
  congrArg₂ (· * ·) (Finset.sum_congr rfl fun p _ => congrArg₂ (· * ·) (congrFun (blk_h m c t _) l) (congrArg (nrm · l) (blk_u m c t _))) (congrArg (one · l) (blk_s m c t))

theorem final14 (c : Dev nD) : (dats m 0 c).arrAt 14 (cfgs 0).N = sumGn m c := by
  refine (dats m 0 c).arrAt_eq_of_after_last 14 t0_7 (by decide +kernel) _ fun j => ?_
  blk_simp
  obtain ⟨r, l, rfl⟩ : ∃ (r : Fin 8) (l : Fin 1024), j = ix2 r l := ⟨j 0, j 1, eq_ix2 j⟩
  rw [after0_14]
  refine (Pipeline.eq_sum_fin_of_reset_step_apply_last (fun n h => (outsAt0 m c n h).2.2.2.2.1) 8 (fun _ => (0 : EReal))
    (fun t (i : S8x1024.Idx) => ptGn m c t (i 0) (i 1)) ?_ ?_ (le_of_eq N_0) t0_7 rfl _).trans (zero_add _)
  · intro t h j
    obtain ⟨r, l, rfl⟩ : ∃ (r : Fin 8) (l : Fin 1024), j = ix2 r l := ⟨j 0, j 1, eq_ix2 j⟩
    rw [outsAt0_A m c t h]; frame_out
    exact (pay2 (iblk m c 0 t) (iblk m c 1 t) (iblk m c 2 t) (wA m c t) (wB m c t) (wE m c t) (iblk m c 4 t) (iblk m c 7 t) _ r l).trans (congrArg₂ (· + ·) (pay6 _) (stGn m c t r l))
  · intro t h j
    obtain ⟨r, l, rfl⟩ : ∃ (r : Fin 8) (l : Fin 1024), j = ix2 r l := ⟨j 0, j 1, eq_ix2 j⟩
    rw [outsAt0_B m c t h]; frame_out
    exact (pay2 (iblk m c 0 t) (iblk m c 1 t) (iblk m c 2 t) (wA m c t) (wB m c t) (wE m c t) (iblk m c 4 t) (iblk m c 7 t) _ r l).trans (congrArg₂ (· + ·) rfl (stGn m c t r l))

end Cert.Norm3

end
-- ==== Proof.Norm3Algebra.lean ====
/- The backward of the first modulated norm: what the kernel's program returns is the reference's gradient, for finite
   arguments. -/
module

public import proofs.«01_k».proof.Proof.Norm3Value
public import proofs.«01_k».proof.Proof.Sums
public import proofs.«01_k».proof.Proof.Gen.Reference7Ideal.Read
public import proofs.«01_k».proof.Defs

@[expose] public section

set_option maxRecDepth 16384

noncomputable section

namespace Cert.Norm3

open Idealize.ShloMosaic Idealize.ShloMosaic.TcCoe Idealize.SL.Sem
open Cert.Reals Cert.Norms

/-! ### The reference, row by row -/

/-- A sum over the columns of the weight is the sum over its three ranges. -/
theorem sum_parts (f : Fin 3584 → EReal) : ∑ k, f k
    = (∑ k : Fin 1024, f ⟨k, by omega⟩) + (∑ k : Fin 512, f ⟨1024 + k, by omega⟩) + ∑ k : Fin 2048, f ⟨1536 + k, by omega⟩ :=
  (Fin.sum_univ_add (a := 1024 + 512) (b := 2048) f).trans
    (congrArg (· + _) (Fin.sum_univ_add (a := 1024) (b := 512) fun k => f (Fin.castAdd 2048 k)))

section Reference
open Cert.Reference7Ideal Cert.Reference7Ideal.Gen Cert.Reference7Ideal.Read

variable (x : FVec Ideal S4096x1024 .f32) (g s : FVec Ideal S1x1024 .f32) (w : FVec Ideal S1x1024x3584 .f32)
  (r a : FVec Ideal S4096x1024 .f32) (b : FVec Ideal S4096x512 .f32) (e : FVec Ideal S4096x2048 .f32)

theorem r_msq (i : Fin 4096) (j : Fin 1) : val_main_v8 (F := Ideal) x (ix2 i j) = msq (rAt x i) := by
  pointwise [val_main_v8, val_main_v7, val_main_v6, val_main_v5, val_main_v4, val_main_v3, val_main_v2, val_main_cst_0, val_main_cst_1,
    val_main_cst_2]
  rfl
theorem r_rms (i : Fin 4096) (j : Fin 1) : val_main_v9 (F := Ideal) x (ix2 i j) = rms (rAt x i) := by
  pointwise [val_main_v9, r_msq]; rfl
theorem r_nrm (i : Fin 4096) (j : Fin 1024) : val_main_v14 (F := Ideal) x (ix2 i j) = nrm (rAt x i) j := by
  pointwise [val_main_v14, val_main_v13, r_rms]; rfl
/-- The three parts of the cotangent side by side. -/
theorem r_a (i : Fin 4096) (k : Fin 1024) : val_main_v0 (F := Ideal) a b e (ix2 i ⟨k, by omega⟩) = a (ix2 i k) := by
  pointwise [val_main_v0]
theorem r_b (i : Fin 4096) (k : Fin 512) : val_main_v0 (F := Ideal) a b e (ix2 i ⟨1024 + k, by omega⟩) = b (ix2 i k) := by
  pointwise [val_main_v0]
theorem r_e (i : Fin 4096) (k : Fin 2048) : val_main_v0 (F := Ideal) a b e (ix2 i ⟨1536 + k, by omega⟩) = e (ix2 i k) := by
  pointwise [val_main_v0]
  rw [dif_neg (by omega), dif_neg (by omega)]
  exact congrArg (fun q => e (ix2 i q)) (Fin.ext (by simp only; omega))
theorem r_h (i : Fin 4096) (j : Fin 1024) : val_main_v25 (F := Ideal) w a b e (ix2 i j) = hAt a b e w i j := by
  pointwise [val_main_v25, val_main_v23]
  rw [sum_parts]
  simp only [r_a, r_b, r_e]
  rfl
theorem r_hs (i : Fin 4096) (j : Fin 1024) : val_main_v32 (F := Ideal) s w a b e (ix2 i j) = hAt a b e w i j * one (par s) j := by
  pointwise [val_main_v32, val_main_v31, val_main_v18, val_main_v17, val_main_cst_4, r_h]; rfl
theorem r_dn (i : Fin 4096) (j : Fin 1024) :
    val_main_v37 (F := Ideal) g s w a b e (ix2 i j) = dn (hAt a b e w i) (par g) (par s) j := by
  pointwise [val_main_v37, val_main_v36, r_hs]
  exact (mul_assoc _ _ _).trans (congrArg _ (mul_comm _ _))
theorem r_mean (i : Fin 4096) (j : Fin 1) :
    val_main_v46 (F := Ideal) x g s w a b e (ix2 i j) = dMean (rAt x i) (dn (hAt a b e w i) (par g) (par s)) := by
  pointwise [val_main_v46, val_main_v45, val_main_v44, val_main_v40, val_main_v39, val_main_v38, val_main_v12, val_main_v11,
    val_main_v10, val_main_cst_3, val_main_cst_8, val_main_cst_9, r_rms, r_msq, r_dn]
  rfl
theorem r_dx (i : Fin 4096) (j : Fin 1024) : val_main_v52 (F := Ideal) x g s w r a b e (ix2 i j)
    = rAt r i j + dChain (rAt x i) (dn (hAt a b e w i) (par g) (par s)) j := by
  pointwise [val_main_v52, val_main_v51, val_main_v50, val_main_v49, val_main_v48, val_main_v47, val_main_v43, val_main_v42, val_main_v41,
    val_main_cst_10, r_rms, r_mean, r_dn]
  rw [Fin.sum_univ_one]
  exact (add_assoc _ _ _).trans ((add_assoc _ _ _).trans (congrArg _ (add_assoc _ _ _).symm))

end Reference

/-! ### The results of the kernel's program -/

section Kernel
open Cert.Kernel7Ideal Cert.Kernel7Ideal.Gen

variable (m : (ℓ : Loc nD τ sig) → Buf (Elt Ideal) ℓ)

/-- The three accumulators' eight partial rows, which the host lines sum. -/
theorem host10 (c : Dev nD) (o : Fin 1) (j : Fin 1024) :
    (Pipeline.afterTail₀ cfgs (dats m) 0 (V0 m) [hostOps1] c main_v10 : FVec Ideal S1x1024 .f32) (ix2 o j)
      = ∑ r : Fin 8, sumSh m c (ix2 r j) := by
  unfold Pipeline.afterTail₀
  after_reads_at
  erw [Pipeline.withArrays_arr (cfgs 0).spec launch0.win.arr_inj c _ _ 12]
  rw [final12]
theorem host12 (c : Dev nD) (o : Fin 1) (j : Fin 1024) :
    (Pipeline.afterTail₀ cfgs (dats m) 0 (V0 m) [hostOps1] c main_v12 : FVec Ideal S1x1024 .f32) (ix2 o j)
      = ∑ r : Fin 8, sumSc m c (ix2 r j) := by
  unfold Pipeline.afterTail₀
  after_reads_at
  erw [Pipeline.withArrays_arr (cfgs 0).spec launch0.win.arr_inj c _ _ 13]
  rw [final13]
theorem host14 (c : Dev nD) (o : Fin 1) (j : Fin 1024) :
    (Pipeline.afterTail₀ cfgs (dats m) 0 (V0 m) [hostOps1] c main_v14 : FVec Ideal S1x1024 .f32) (ix2 o j)
      = ∑ r : Fin 8, sumGn m c (ix2 r j) := by
  unfold Pipeline.afterTail₀
  after_reads_at
  erw [Pipeline.withArrays_arr (cfgs 0).spec launch0.win.arr_inj c _ _ 14]
  rw [final14]

end Kernel

/-! ### The results agree -/

section Agree
open Cert.Reference7Ideal.Read

variable (m : (ℓ : Loc Cert.Kernel7Ideal.nD Cert.Kernel7Ideal.τ Cert.Kernel7Ideal.sig) → Buf (Elt Ideal) ℓ)
  (c : Dev Cert.Kernel7Ideal.nD)

/-- The gradient of the norm's shift. -/
theorem res_sh (o : Fin 1) (j : Fin 1024) : ∑ r : Fin 8, sumSh m c (ix2 r j)
    = val_main_v27 (F := Ideal) (W m c) (A m c) (B m c) (E m c) (ix2 o j) := by
  refine (Sums.sum_rows (N := Cert.Kernel7Ideal.cfg0.N) (P := 64) (L := 512) (fun i => hAt (A m c) (B m c) (E m c) (W m c) i j) rfl rfl).trans ?_
  pointwise [val_main_v27, val_main_v26, val_main_cst_5, r_h]

variable (hX : ∀ i, IsReal (X m c i)) (hGn : ∀ i, IsReal (Gn m c i)) (hSc : ∀ i, IsReal (Sc m c i)) (hW : ∀ i, IsReal (W m c i))
  (hR : ∀ i, IsReal (R m c i)) (hA : ∀ i, IsReal (A m c i)) (hB : ∀ i, IsReal (B m c i)) (hE : ∀ i, IsReal (E m c i))
include hX hGn hSc hW hR hA hB hE

theorem row_u (i : Fin 4096) : IsRow (rAt (X m c) i) := isRow_of fun j => hX _
theorem real_h (i : Fin 4096) (j : Fin 1024) : IsReal (hAt (A m c) (B m c) (E m c) (W m c) i j) :=
  ((IsReal.sum _ fun k _ => (hA _).mul (hW _)).add (IsReal.sum _ fun k _ => (hB _).mul (hW _))).add
    (IsReal.sum _ fun k _ => (hE _).mul (hW _))
theorem real_one (j : Fin 1024) : IsReal (one (par (Sc m c)) j) := IsReal.one.add (hSc _)
theorem row_dn (i : Fin 4096) : IsRow (dn (hAt (A m c) (B m c) (E m c) (W m c) i) (par (Gn m c)) (par (Sc m c))) :=
  isRow_of fun j => (real_h m c hX hGn hSc hW hR hA hB hE i j).mul ((hGn _).mul (real_one m c hX hGn hSc hW hR hA hB hE j))

/-- The gradient of the norm's input. -/
theorem res_dx : (fun i : Cert.Kernel7Ideal.S4096x1024.Idx => dxAt m c (i 0) (i 1)) = val_main_v52 (F := Ideal) (X m c) (Gn m c) (Sc m c) (W m c) (R m c) (A m c) (B m c) (E m c) := by
  funext y
  obtain ⟨p, q, rfl⟩ : ∃ (p : Fin 4096) (q : Fin 1024), y = ix2 p q := ⟨y 0, y 1, eq_ix2 y⟩
  rw [r_dx]
  exact congrArg _ (closed_eq_chain (row_u m c hX hGn hSc hW hR hA hB hE p) (row_dn m c hX hGn hSc hW hR hA hB hE p) q)

/-- A parameter's gradient, its factor taken out of the sum over each block. -/
theorem sum_factor (f : Fin 1024 → EReal) (hf : ∀ j, IsReal (f j)) (j : Fin 1024) :
    ∑ r : Fin 8, ∑ t : Fin Cert.Kernel7Ideal.cfg0.N,
      (∑ p : Fin 64, hAt (A m c) (B m c) (E m c) (W m c) (rw512 t (rowOf p r)) j * nrm (rAt (X m c) (rw512 t (rowOf p r))) j) * f j
    = ∑ i : Fin 4096, hAt (A m c) (B m c) (E m c) (W m c) i j * nrm (rAt (X m c) i) j * f j := by
  refine Eq.trans (Finset.sum_congr rfl fun r _ => Finset.sum_congr rfl fun t _ => sum_mul_real _ _ _ (hf j)
    fun p _ => (real_h m c hX hGn hSc hW hR hA hB hE _ j).mul (((row_u m c hX hGn hSc hW hR hA hB hE _).real j).mul (isReal_rms (row_u m c hX hGn hSc hW hR hA hB hE _)))) ?_
  exact Sums.sum_rows (N := Cert.Kernel7Ideal.cfg0.N) (P := 64) (L := 512)
    (fun i => hAt (A m c) (B m c) (E m c) (W m c) i j * nrm (rAt (X m c) i) j * f j) rfl rfl

/-- The gradient of the norm's scale. -/
theorem res_sc (o : Fin 1) (j : Fin 1024) : ∑ r : Fin 8, sumSc m c (ix2 r j)
    = val_main_v30 (F := Ideal) (X m c) (Gn m c) (W m c) (A m c) (B m c) (E m c) (ix2 o j) := by
  refine (sum_factor m c hX hGn hSc hW hR hA hB hE (par (Gn m c)) (fun j => hGn _) j).trans ?_
  pointwise [val_main_v30, val_main_v29, val_main_v28, val_main_v16, val_main_v15, val_main_cst_6, r_nrm, r_h]
  exact Finset.sum_congr rfl fun i _ => (mul_assoc _ _ _).trans (mul_comm _ _)

/-- The gradient of the norm's gain. -/
theorem res_gn (o : Fin 1) (j : Fin 1024) : ∑ r : Fin 8, sumGn m c (ix2 r j)
    = val_main_v35 (F := Ideal) (X m c) (Sc m c) (W m c) (A m c) (B m c) (E m c) (ix2 o j) := by
  refine (sum_factor m c hX hGn hSc hW hR hA hB hE (one (par (Sc m c))) (real_one m c hX hGn hSc hW hR hA hB hE) j).trans ?_
  pointwise [val_main_v35, val_main_v34, val_main_v33, val_main_cst_7, r_nrm, r_hs]
  exact Finset.sum_congr rfl fun i _ => (congrArg (· * _) (mul_comm _ _)).trans (mul_assoc _ _ _)

end Agree

/-! ### Finite arguments are real -/

theorem isReal_args [Cert.Pre_finite7.Facts] {x0 x1 x2 x3 x4 x5 x6 x7}
    (h : (Cert.Pre_finite7.fn (F := Ideal) x0 x1 x2 x3 x4 x5 x6 x7).1 = (fun _ => 1#1)
      ∧ (Cert.Pre_finite7.fn (F := Ideal) x0 x1 x2 x3 x4 x5 x6 x7).2.1 = (fun _ => 1#1)
      ∧ (Cert.Pre_finite7.fn (F := Ideal) x0 x1 x2 x3 x4 x5 x6 x7).2.2.1 = (fun _ => 1#1)
      ∧ (Cert.Pre_finite7.fn (F := Ideal) x0 x1 x2 x3 x4 x5 x6 x7).2.2.2.1 = (fun _ => 1#1)
      ∧ (Cert.Pre_finite7.fn (F := Ideal) x0 x1 x2 x3 x4 x5 x6 x7).2.2.2.2.1 = (fun _ => 1#1)
      ∧ (Cert.Pre_finite7.fn (F := Ideal) x0 x1 x2 x3 x4 x5 x6 x7).2.2.2.2.2.1 = (fun _ => 1#1)
      ∧ (Cert.Pre_finite7.fn (F := Ideal) x0 x1 x2 x3 x4 x5 x6 x7).2.2.2.2.2.2.1 = (fun _ => 1#1)
      ∧ (Cert.Pre_finite7.fn (F := Ideal) x0 x1 x2 x3 x4 x5 x6 x7).2.2.2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) := by
  obtain ⟨h0, h1, h2, h3, h4, h5, h6, h7⟩ := h
  unfold Cert.Pre_finite7.fn at h0 h1 h2 h3 h4 h5 h6 h7
  refine ⟨fun i => ?_, fun i => ?_, fun i => ?_, fun i => ?_, fun i => ?_, fun i => ?_, fun i => ?_, fun i => ?_⟩
  · have := congrFun h0 i; pointwise at this; exact isReal_of_abs_lt this
  · have := congrFun h1 i; pointwise at this; exact isReal_of_abs_lt this
  · have := congrFun h2 i; pointwise at this; exact isReal_of_abs_lt this
  · have := congrFun h3 i; pointwise at this; exact isReal_of_abs_lt this
  · have := congrFun h4 i; pointwise at this; exact isReal_of_abs_lt this
  · have := congrFun h5 i; pointwise at this; exact isReal_of_abs_lt this
  · have := congrFun h6 i; pointwise at this; exact isReal_of_abs_lt this
  · have := congrFun h7 i; pointwise at this; exact isReal_of_abs_lt this

end Cert.Norm3

end
-- ==== Proof.Norm3Claim.lean ====
/- The claims of the backward of the first modulated norm: the two runs joined to the values. -/
module

public import proofs.«01_k».proof.Proof.Norm3Algebra
public import proofs.«01_k».proof.Proof.Gen.Reference7Ideal.Run
public import proofs.«01_k».proof.Proof.Gen.Pre_finite7
public import Idealize.ShloMosaic.Adequacy

@[expose] public section

set_option maxRecDepth 16384

noncomputable section

namespace Cert.Norm3

open Idealize.ShloMosaic Idealize.ShloMosaic.TcCoe Idealize.SL.Sem
open Cert.Reals Cert.Reference7Ideal.Read

section Kernel
open Cert.Kernel7Ideal Cert.Kernel7Ideal.Gen

variable (m : (ℓ : Loc nD τ sig) → Buf (Elt Ideal) ℓ) (ρ : Dev nD → PrngReg)

/-- From finite arguments the kernel's program ends with the reference's values and its arguments unchanged. -/
theorem run (hX : ∀ c i, IsReal (X m c i)) (hGn : ∀ c i, IsReal (Gn m c i)) (hSc : ∀ c i, IsReal (Sc m c i)) (hW : ∀ c i, IsReal (W m c i)) (hR : ∀ c i, IsReal (R m c i)) (hA : ∀ c i, IsReal (A m c i)) (hB : ∀ c i, IsReal (B m c i)) (hE : ∀ c i, IsReal (E m c i)) :
    θ_run defs (onTc (τ := τ) (main (F := Ideal))) ⟨m, fun _ => 0, ρ⟩ (fun r => ∀ c : Dev nD,
      r.2.mem (c.tc.loc main_v8_0) = val_main_v52 (F := Ideal) (X m c) (Gn m c) (Sc m c) (W m c) (R m c) (A m c) (B m c) (E m c)
      ∧ r.2.mem (c.tc.loc main_v10) = val_main_v27 (F := Ideal) (W m c) (A m c) (B m c) (E m c)
      ∧ r.2.mem (c.tc.loc main_v12) = val_main_v30 (F := Ideal) (X m c) (Gn m c) (W m c) (A m c) (B m c) (E m c)
      ∧ r.2.mem (c.tc.loc main_v14) = val_main_v35 (F := Ideal) (X m c) (Sc m c) (W m c) (A m c) (B m c) (E m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) := by
  refine (θ_run defs _ _).mono (fun r h c => ⟨?_, ?_, ?_, ?_, ?_, ?_, ?_, ?_, ?_, ?_, ?_, ?_⟩) (run_main m ρ)
  · exact ((h c).1 10).trans ((final10 m c).trans (res_dx m c (hX c) (hGn c) (hSc c) (hW c) (hR c) (hA c) (hB c) (hE c)))
  · refine ((h c).2 main_v10 (Pipeline.mem_restRefs_of main_v10 (by decide) (by decide))).trans (funext fun (y : S1x1024.Idx) => ?_)
    obtain ⟨o, j, rfl⟩ : ∃ (o : Fin 1) (j : Fin 1024), y = ix2 o j := ⟨y 0, y 1, eq_ix2 y⟩
    exact (host10 m c o j).trans (res_sh m c o j)
  · refine ((h c).2 main_v12 (Pipeline.mem_restRefs_of main_v12 (by decide) (by decide))).trans (funext fun (y : S1x1024.Idx) => ?_)
    obtain ⟨o, j, rfl⟩ : ∃ (o : Fin 1) (j : Fin 1024), y = ix2 o j := ⟨y 0, y 1, eq_ix2 y⟩
    exact (host12 m c o j).trans (res_sc m c (hX c) (hGn c) (hSc c) (hW c) (hR c) (hA c) (hB c) (hE c) o j)
  · refine ((h c).2 main_v14 (Pipeline.mem_restRefs_of main_v14 (by decide) (by decide))).trans (funext fun (y : S1x1024.Idx) => ?_)
    obtain ⟨o, j, rfl⟩ : ∃ (o : Fin 1) (j : Fin 1024), y = ix2 o j := ⟨y 0, y 1, eq_ix2 y⟩
    exact (host14 m c o j).trans (res_gn m c (hX c) (hGn c) (hSc c) (hW c) (hR c) (hA c) (hB c) (hE c) o j)
  · exact ((h c).1 4).trans (((dats m 0 c).arrAt_in 4 rfl _).trans ((A_eq m c 4).trans (V_main_arg0 m c)))
  · exact ((h c).1 6).trans (((dats m 0 c).arrAt_in 6 rfl _).trans ((A_eq m c 6).trans (V_main_arg1 m c)))
  · exact ((h c).1 7).trans (((dats m 0 c).arrAt_in 7 rfl _).trans ((A_eq m c 7).trans (V_main_arg2 m c)))
  · exact ((h c).2 main_arg3 (Pipeline.mem_restRefs_of main_arg3 (by decide) (by decide))).trans (W_main_arg3 m (dats m) c)
  · exact ((h c).1 5).trans (((dats m 0 c).arrAt_in 5 rfl _).trans ((A_eq m c 5).trans (V_main_arg4 m c)))
  · exact ((h c).2 main_arg5 (Pipeline.mem_restRefs_of main_arg5 (by decide) (by decide))).trans (W_main_arg5 m (dats m) c)
  · exact ((h c).2 main_arg6 (Pipeline.mem_restRefs_of main_arg6 (by decide) (by decide))).trans (W_main_arg6 m (dats m) c)
  · exact ((h c).2 main_arg7 (Pipeline.mem_restRefs_of main_arg7 (by decide) (by decide))).trans (W_main_arg7 m (dats m) c)

end Kernel

/-- The reference runs, changes no argument, and has no semaphore to leave raised. -/
theorem ref_frame : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩)
    (Cert.Reference7Ideal.Value.run m ρ)

/-- The program and the reference return the same values at finite arguments. -/
theorem algebraic : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := fun m ρ m' ρ' hpre hag =>
  have real := fun c => isReal_args (hpre c)
  ⟨_, _, _, _, run m ρ (fun c => (real c).1) (fun c => (real c).2.1) (fun c => (real c).2.2.1) (fun c => (real c).2.2.2.1) (fun c => (real c).2.2.2.2.1) (fun c => (real c).2.2.2.2.2.1) (fun c => (real c).2.2.2.2.2.2.1) (fun c => (real c).2.2.2.2.2.2.2),
    (θ_run Cert.Reference7Ideal.defs _ _).mono (fun _ h c => by
      obtain ⟨e0, e1, e2, e3, e4, e5, e6, e7⟩ := hag c
      obtain ⟨r0, r1, r2, r3, rest⟩ := h c
      refine ⟨r0.trans ?_, r1.trans ?_, r2.trans ?_, r3.trans ?_, rest⟩
      · refine (val_main_v52_eq m' c).trans ?_; rw [e0, e1, e2, e3, e4, e5, e6, e7]
      · rw [e3, e5, e6, e7]; exact val_main_v27_eq _ _ _ _
      · rw [e0, e1, e3, e5, e6, e7]; exact val_main_v30_eq _ _ _ _ _ _
      · rw [e0, e2, e3, e5, e6, e7]; exact val_main_v35_eq _ _ _ _ _ _) (Cert.Reference7Ideal.Value.run m' ρ')⟩

end Cert.Norm3

end
-- ==== Proof.AdaValue.lean ====
/- What the call for the gradient of the conditioning weights leaves in its result, and the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Ada

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ)

/-- The conditioning's window is one block; the others walk the columns. -/
theorem idx : ∀ t : Fin cfg0.N, win0_0.index t = ![0, 0] ∧ win0_1.index t = ![0, t.val] ∧ win0_2.index t = ![0, t.val] :=
  (by decide +kernel : ∀ t : Fin grid0.N, _)

/-- The arguments of the program. -/
abbrev C (c : Dev nD) : FVec Ideal S8x1024 .f32 := m ((c : Thread nD τ).loc main_arg0)
abbrev D (c : Dev nD) : FVec Ideal S8x1536 .f32 := m ((c : Thread nD τ).loc main_arg1)

/-- The gradient at a weight: over the rows, `silu` of the conditioning times the modulation's cotangent. -/
def grad (x : FVec Ideal S8x1024 .f32) (d : Fin 8 → EReal) (i : Fin 1024) : EReal :=
  ∑ b : Fin 8, x (ix2 b i) * Ideal.logistic (x (ix2 b i)) * d b

theorem pay (x : FVec Ideal S8x1024 .f32) (d : FVec Ideal S8x512 .f32) (i : Fin 1024) (j : Fin 512) :
    k0_pay1 (F := Ideal) x d (ix2 i j) = grad x (fun b => d (ix2 b j)) i := by
  pointwise [k0_pay1]; rfl

/-- The column of the array that column `j` of block `t` is. -/
abbrev col (t : Fin cfg0.N) (j : Fin 512) : Fin 1536 := ⟨t.val * 512 + j, by have := lt_of_lt_of_eq t.isLt N_0; omega⟩

theorem blk_c (c : Dev nD) (t : Fin cfg0.N) (i : S8x1024.Idx) : (iblk m c 0 t : FVec Ideal S8x1024 .f32) i = C m c i := by
  blk_point [iblk, V, idx t]
theorem blk_d (c : Dev nD) (t : Fin cfg0.N) (b : Fin 8) (j : Fin 512) :
    (iblk m c 1 t : FVec Ideal S8x512 .f32) (ix2 b j) = D m c (ix2 b (col t j)) := by
  blk_point [iblk, V, idx t]

/-- What the program leaves at weight `(i, j)`. -/
def out (x : FVec Ideal S8x1024 .f32) (d : FVec Ideal S8x1536 .f32) : FVec Ideal S1024x1536 .f32 := fun i =>
  grad x (fun b => d (ix2 b (i 1))) (i 0)

theorem final2 (c : Dev nD) : (dats m 0 c).arrAt 2 (cfgs 0).N = out (C m c) (D m c) := by
  refine (dats m 0 c).arrAt_eq_of_covers 2 _ (by decide +kernel) fun t _ y => ?_
  blk_simp
  rw [after0_2]
  obtain ⟨p, q, rfl⟩ : ∃ (p : Fin 1024) (q : Fin 512), y = ix2 p q := ⟨y 0, y 1, eq_ix2 y⟩
  have e : outsAt0 m c t (ix2 p q) = grad (C m c) (fun b => D m c (ix2 b (col t q))) p := by
    unfold outsAt0; frame_out; rw [pay]
    unfold grad
    simp only [blk_c, blk_d]
  refine e.trans (congrArg₂ (fun (j : Fin 1536) (i : Fin 1024) => grad (C m c) (fun b => D m c (ix2 b j)) i) (Fin.ext ?_) (Fin.ext ?_))
  · blk_simp [idx t]
  · blk_simp [idx t]; try omega

/-- The reference's gradient is the same. -/
theorem ref_out (x : FVec Ideal S8x1024 .f32) (d : FVec Ideal S8x1536 .f32) :
    Reference8Ideal.Read.val_main_v4 (F := Ideal) x d = out x d := by
  funext y
  obtain ⟨p, q, rfl⟩ : ∃ (p : Fin 1024) (q : Fin 1536), y = ix2 p q := ⟨y 0, y 1, eq_ix2 y⟩
  open Reference8Ideal.Read in
  pointwise [val_main_v4, val_main_v3, val_main_v1, val_main_call0_v0, val_main_call0_v1, val_main_call0_v2, val_main_call0_v3,
    val_main_call0_v4, val_main_call0_v5, val_main_call0_cst, val_main_call0_cst_0]
  exact Finset.sum_congr rfl fun b _ => mul_comm _ _

end Cert.Ada

end
-- ==== Proof.AdaClaim.lean ====
/- The claims of the call for the gradient of the conditioning weights: the two runs joined to the values. -/
module

public import proofs.«01_k».proof.Proof.AdaValue
public import proofs.«01_k».proof.Proof.Gen.Reference8Ideal.Run
public import proofs.«01_k».proof.Defs
public import Idealize.ShloMosaic.Adequacy

@[expose] public section

set_option maxRecDepth 16384

noncomputable section

namespace Cert.Ada

open Idealize.ShloMosaic Idealize.ShloMosaic.TcCoe Idealize.SL.Sem

/-- The reference runs, changes no argument, and has no semaphore to leave raised. -/
theorem ref_frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

/-- The program and the reference return the same gradient, at any arguments. -/
theorem algebraic : Cert.algebraic_Kernel8Ideal_Reference8Ideal (hKernel8Ideal := Cert.Kernel8Ideal.Gen.facts)
    (hReference8Ideal := Cert.Reference8Ideal.Gen.facts) := fun m ρ m' ρ' _ hag =>
  ⟨_, (θ_run Cert.Kernel8Ideal.defs _ _).mono (fun _ h c => ⟨(h c).1.trans (final2 m c), (h c).2⟩) (Cert.Kernel8Ideal.Value.run_blocks m ρ),
    (θ_run Cert.Reference8Ideal.defs _ _).mono (fun _ h c => by
      obtain ⟨e0, e1⟩ := hag c
      obtain ⟨r0, rest⟩ := h c
      refine ⟨r0.trans ?_, rest⟩
      rw [e0, e1]
      exact (Cert.Reference8Ideal.Read.val_main_v4_eq _ _).trans (ref_out _ _)) (Cert.Reference8Ideal.Value.run m' ρ')⟩

end Cert.Ada

end
-- ==== Proof.ConvRun.lean ====
module

public import proofs.«01_k».proof.Proof.Gen.Kernel9Ideal.Frame
public import Idealize.ShloMosaic.Lib.WindowSumWrites
public import Idealize.ShloMosaic.Lib.WritesUnit

/-! What one run of the convolution kernel's body writes, as recursions instead of lists of hundreds of stores.

The body puts the gated input, with the 32 rows before it, in one scratch and the cotangent, with the 32 rows after it, in
another, and keeps seven copies of each shifted down by 1 to 7 rows, so that every window it needs starts at a multiple of
eight rows of one of the copies. For each of the four strips of 32 rows and each of the 31 taps it then adds
`w[k] * window` to the strip's gradient and `dy * window` folded to eight rows to the tap's eight rows of the weight
gradient. -/

@[expose] public section
set_option maxRecDepth 16384
noncomputable section

namespace Cert.Conv

open Idealize.ShloMosaic Idealize.ShloMosaic.TcCoe Idealize.SL.Sem
open Cert.Kernel9Ideal Cert.Kernel9Ideal.Gen

variable {F : FTy → Type} [FloatOps F]

theorem inb2 {off : ℕ} (h : off ≤ 128) : ∀ a, (![off, 0] : Fin 2 → ℕ) a + S32x512.size a ≤ S160x512.size a := by
  intro a
  match a with
  | ⟨0, _⟩ => show off + 32 ≤ 160; omega
  | ⟨1, _⟩ => show 0 + 512 ≤ 512; omega

theorem inb3 {off : ℕ} (h : off ≤ 128) :
    ∀ a, (![off % 8, off - off % 8, 0] : Fin 3 → ℕ) a + S1x32x512.size a ≤ S8x160x512.size a := by
  intro a
  match a with
  | ⟨0, _⟩ => show off % 8 + 1 ≤ 8; omega
  | ⟨1, _⟩ => show off - off % 8 + 32 ≤ 160; omega
  | ⟨2, _⟩ => show 0 + 512 ≤ 512; omega

theorem inbS {s : ℕ} (h : s ≤ 7) : ∀ a, (![s, 0, 0] : Fin 3 → ℕ) a + S1x152x512.size a ≤ S8x160x512.size a := by
  intro a
  match a with
  | ⟨0, _⟩ => show s + 1 ≤ 8; omega
  | ⟨1, _⟩ => show 0 + 152 ≤ 160; omega
  | ⟨2, _⟩ => show 0 + 512 ≤ 512; omega

theorem inbT {s : ℕ} (h : s ≤ 7) : ∀ a, (![s, 0] : Fin 2 → ℕ) a + S152x512.size a ≤ S160x512.size a := by
  intro a
  match a with
  | ⟨0, _⟩ => show s + 152 ≤ 160; omega
  | ⟨1, _⟩ => show 0 + 512 ≤ 512; omega

theorem inbQ (rb : Fin 4) {o : ℕ} (h : o ≤ 512) :
    ∀ a, (![32 * rb.val, o] : Fin 2 → ℕ) a + S32x512.size a ≤ S128x1024.size a := by
  intro a
  have := rb.isLt
  match a with
  | ⟨0, _⟩ => show 32 * rb.val + 32 ≤ 128; omega
  | ⟨1, _⟩ => show o + 512 ≤ 1024; omega

theorem inbD {k : ℕ} (h : k < 31) : ∀ a, (![8 * k, 0] : Fin 2 → ℕ) a + S8x512.size a ≤ S248x512.size a := by
  intro a
  match a with
  | ⟨0, _⟩ => show 8 * k + 8 ≤ 248; omega
  | ⟨1, _⟩ => show 0 + 512 ≤ 512; omega

theorem slicesQ (rb : Fin 4) : S128x512.Slices ![32 * rb.val, 0] S32x512 := by
  have := rb.isLt
  refine ⟨rfl, fun a => ?_⟩
  match a with
  | ⟨0, _⟩ => show 32 * rb.val + 32 ≤ 128; omega
  | ⟨1, _⟩ => show 0 + 512 ≤ 512; omega

/-- The stores of the gated input's scratch: 128 rows of this block below the 32 rows before it. -/
def ugP (i : grid0.Coords) (x2 x3 : Vec F S128x512 .bf16) (x4 x5 : Vec F S32x512 .bf16) :
    List (View.Piece (Elt F) S160x512 .f32) :=
  [⟨Rect.unit ![32, 0] S128x512.size inb_S160x512_S128x512_32_0, k0_pay4 x2 x3⟩,
   ⟨Rect.unit ![0, 0] S32x512.size inb_S160x512_S32x512_0_0, k0_pay1 i x4 x5⟩]

/-- The stores of the cotangent's scratch: the 32 rows after this block below its 128 rows. -/
def dyP (i : grid0.Coords) (x0 : Vec F S128x512 .f32) (x1 : Vec F S32x512 .f32) :
    List (View.Piece (Elt F) S160x512 .f32) :=
  [⟨Rect.unit ![128, 0] S32x512.size inb_S160x512_S32x512_128_0,
      shapeCast S32x512 (k0_pay6 i x1) shapeCasts_S32x512_S32x512⟩,
   ⟨Rect.unit ![0, 0] S128x512.size inb_S160x512_S128x512_0_0, k0_pay5 x0⟩]

/-- The store of the copy shifted by `s` rows. -/
def shP (v : View sig .tc .vmem S160x512 .f32) (L : List (View.Piece (Elt F) S160x512 .f32)) (s : ℕ) (h : s ≤ 7) :
    View.Piece (Elt F) S8x160x512 .f32 :=
  ⟨Rect.unit ![s, 0, 0] S1x152x512.size (inbS h),
    shapeCast S1x152x512 (v.readCov L (Rect.unit (s := S160x512) ![s, 0] S152x512.size (inbT h)).toLoadRect)
      shapeCasts_S152x512_S1x152x512⟩

/-- The stores of the seven shifted copies, newest first. -/
def shL (v : View sig .tc .vmem S160x512 .f32) (L : List (View.Piece (Elt F) S160x512 .f32)) :
    List (View.Piece (Elt F) S8x160x512 .f32) :=
  [shP v L 7 (by decide), shP v L 6 (by decide), shP v L 5 (by decide), shP v L 4 (by decide), shP v L 3 (by decide),
   shP v L 2 (by decide), shP v L 1 (by decide)]

/-- The window of 32 rows from row `off` of a scratch, read from the scratch or from the copy shifted by `off % 8`. -/
def win (v : View sig .tc .vmem S160x512 .f32) (vs : View sig .tc .vmem S8x160x512 .f32)
    (L : List (View.Piece (Elt F) S160x512 .f32)) (off : ℕ) (h : off ≤ 128) : FVec F S32x512 .f32 :=
  if off % 8 = 0 then v.readCov L (Rect.unit (s := S160x512) ![off, 0] S32x512.size (inb2 h)).toLoadRect
  else shapeCast S32x512
    (vs.readCov (shL v L) (Rect.unit (s := S8x160x512) ![off % 8, off - off % 8, 0] S1x32x512.size (inb3 h)).toLoadRect)
    shapeCasts_S1x32x512_S32x512

/-- The gradient of one strip after its first `k` taps. -/
def dzAcc (wr : Fin 31 → Vec F S1x512 .f32) (v : View sig .tc .vmem S160x512 .f32)
    (vs : View sig .tc .vmem S8x160x512 .f32) (L : List (View.Piece (Elt F) S160x512 .f32)) (rb : Fin 4) :
    (k : ℕ) → k ≤ 31 → FVec F S32x512 .f32
  | 0, _ => broadcast S32x512 (Scalar.ofBits .f32 0x00000000#32)
  | k + 1, hk => addf (dzAcc wr v vs L rb k (Nat.le_of_succ_le hk))
      (mulf (broadcastTo S32x512 (wr ⟨k, hk⟩) broadcasts_S1x512_S32x512)
        (win v vs L (32 * rb.val + 30 - k) (by have := rb.isLt; omega)))

/-- The first half of a strip's result: the accumulated gradient times the gate. -/
def qA (acc : Fin 4 → FVec F S32x512 .f32) (sg : FVec F S128x512 .f32) (rb : Fin 4) :
    View.Piece (Elt F) S128x1024 .bf16 :=
  ⟨Rect.unit ![32 * rb.val, 0] S32x512.size (inbQ rb (by decide)),
    truncf .bf16 (mulf (acc rb) (extractStridedSlice S32x512 ![32 * rb.val, 0] sg (slicesQ rb))) bitsLt_bf16_f32⟩

/-- The second half of a strip's result: the accumulated gradient times the derivative of the gate. -/
def qB (acc : Fin 4 → FVec F S32x512 .f32) (a sg : FVec F S128x512 .f32) (rb : Fin 4) :
    View.Piece (Elt F) S128x1024 .bf16 :=
  ⟨Rect.unit ![32 * rb.val, 512] S32x512.size (inbQ rb (by decide)),
    truncf .bf16 (mulf
      (mulf (mulf (acc rb) (extractStridedSlice S32x512 ![32 * rb.val, 0] a (slicesQ rb)))
        (extractStridedSlice S32x512 ![32 * rb.val, 0] sg (slicesQ rb)))
      (subf (broadcast S32x512 (Scalar.ofBits .f32 0x3F800000#32))
        (extractStridedSlice S32x512 ![32 * rb.val, 0] sg (slicesQ rb)))) bitsLt_bf16_f32⟩

/-- All eight stores of the input gradient, newest first. -/
def qL (acc : Fin 4 → FVec F S32x512 .f32) (a sg : FVec F S128x512 .f32) : List (View.Piece (Elt F) S128x1024 .bf16) :=
  [qB acc a sg 3, qA acc sg 3, qB acc a sg 2, qA acc sg 2, qB acc a sg 1, qA acc sg 1, qB acc a sg 0, qA acc sg 0]

/-- What the `n`-th update adds to a tap's eight rows of the weight gradient: strip `n / 31`, tap `n % 31`. -/
def dwX (vu : View sig .tc .vmem S160x512 .f32) (vus : View sig .tc .vmem S8x160x512 .f32)
    (LU : List (View.Piece (Elt F) S160x512 .f32)) (vd : View sig .tc .vmem S160x512 .f32)
    (LD : List (View.Piece (Elt F) S160x512 .f32)) (n : Fin 124) (acc : FVec F S8x512 .f32) : FVec F S8x512 .f32 :=
  addf (shapeCast S8x512 acc shapeCasts_S8x512_S8x512)
    (multiReduction .add [0] S8x512 (shapeCast S4x8x512
      (mulf (vd.readCov LD (Rect.unit (s := S160x512) ![32 * (n.val / 31), 0] S32x512.size (inb2 (by have := n.isLt; omega))).toLoadRect)
        (win vu vus LU (32 * (n.val / 31) + 2 + n.val % 31) (by have := n.isLt; omega)))
      shapeCasts_S32x512_S4x8x512) 0x00000000#32 reduces_S4x8x512_S8x512 (.inl rfl) rfl)

section Run

variable (c : Dev nD)
  (i : grid0.Coords)
  (arg1 : Memref sig .tc .vmem S128x512 .f32)
  (harg1 : arg1.IsWhole)
  (arg2 : Memref sig .tc .vmem S32x512 .f32)
  (harg2 : arg2.IsWhole)
  (arg3 : Memref sig .tc .vmem S128x512 .bf16)
  (harg3 : arg3.IsWhole)
  (arg4 : Memref sig .tc .vmem S128x512 .bf16)
  (harg4 : arg4.IsWhole)
  (arg5 : Memref sig .tc .vmem S32x512 .bf16)
  (harg5 : arg5.IsWhole)
  (arg6 : Memref sig .tc .vmem S32x512 .bf16)
  (harg6 : arg6.IsWhole)
  (arg7 : Memref sig .tc .vmem S31x512 .f32)
  (harg7 : arg7.IsWhole)
  (arg8 : Memref sig .tc .vmem S128x1024 .bf16)
  (harg8 : arg8.IsWhole)
  (arg9 : Memref sig .tc .vmem S248x512 .f32)
  (harg9 : arg9.IsWhole)
  (arg10 : Memref sig .tc .vmem S160x512 .f32)
  (harg10 : arg10.IsWhole)
  (arg11 : Memref sig .tc .vmem S160x512 .f32)
  (harg11 : arg11.IsWhole)
  (arg12 : Memref sig .tc .vmem S8x160x512 .f32)
  (harg12 : arg12.IsWhole)
  (arg13 : Memref sig .tc .vmem S8x160x512 .f32)
  (harg13 : arg13.IsWhole)
  (x0 : Vec F S128x512 .f32) (x1 : Vec F S32x512 .f32) (x2 : Vec F S128x512 .bf16) (x3 : Vec F S128x512 .bf16) (x4 : Vec F S32x512 .bf16) (x5 : Vec F S32x512 .bf16) (x6 : Vec F S31x512 .f32)

/-- The rows of the weights as the body loads them. -/
def wrow (arg7 : Memref sig .tc .vmem S31x512 .f32) (harg7 : arg7.IsWhole) (x6 : Vec F S31x512 .f32) (k : Fin 31) :
    Vec F S1x512 .f32 :=
  View.readAt (Elt F) arg7.view (Rect.unit (s := S31x512) ![k.val, 0] S1x512.size (by
    intro a
    have := k.isLt
    match a with
    | ⟨0, _⟩ => show k.val + 1 ≤ 31; omega
    | ⟨1, _⟩ => show 0 + 512 ≤ 512; omega)).toLoadRect (harg7.unread x6)

/-- The stores of the input gradient at the first grid point. -/
theorem run7_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1
      = qL (fun rb => dzAcc (wrow arg7 harg7 x6) arg11.view arg13.view (dyP i (View.readAt (Elt F) arg1.view (Rect.unit (s := S128x512) ![0, 0] S128x512.size inb_S128x512_S128x512_0_0).toLoadRect (harg1.unread x0))
        (View.readAt (Elt F) arg2.view (Rect.unit (s := S32x512) ![0, 0] S32x512.size inb_S32x512_S32x512_0_0).toLoadRect (harg2.unread x1))) rb 31 le_rfl)
        (k0_pay2 (View.readAt (Elt F) arg3.view (Rect.unit (s := S128x512) ![0, 0] S128x512.size inb_S128x512_S128x512_0_0).toLoadRect (harg3.unread x2))) (k0_pay3 (View.readAt (Elt F) arg4.view (Rect.unit (s := S128x512) ![0, 0] S128x512.size inb_S128x512_S128x512_0_0).toLoadRect (harg4.unread x3))) := by
  sl_kernel_rfl

/-- The stores of the input gradient at the later grid points. -/
theorem run7_B (hc0 : ¬cond0_0 i) (xo8 : Vec F S248x512 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8).1
      = qL (fun rb => dzAcc (wrow arg7 harg7 x6) arg11.view arg13.view (dyP i (View.readAt (Elt F) arg1.view (Rect.unit (s := S128x512) ![0, 0] S128x512.size inb_S128x512_S128x512_0_0).toLoadRect (harg1.unread x0))
        (View.readAt (Elt F) arg2.view (Rect.unit (s := S32x512) ![0, 0] S32x512.size inb_S32x512_S32x512_0_0).toLoadRect (harg2.unread x1))) rb 31 le_rfl)
        (k0_pay2 (View.readAt (Elt F) arg3.view (Rect.unit (s := S128x512) ![0, 0] S128x512.size inb_S128x512_S128x512_0_0).toLoadRect (harg3.unread x2))) (k0_pay3 (View.readAt (Elt F) arg4.view (Rect.unit (s := S128x512) ![0, 0] S128x512.size inb_S128x512_S128x512_0_0).toLoadRect (harg4.unread x3))) := by
  sl_kernel_rfl

/-- The stores of the weight gradient at the first grid point: zeros, then the 124 updates. -/
theorem run8_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1
      = View.accPieces arg9.view arg9.view.junk
          [⟨Rect.unit (s := S248x512) ![0, 0] S248x512.size inb_S248x512_S248x512_0_0, k0_pay22⟩] S8x512.size
          (fun n : Fin 124 => ![8 * (n.val % 31), 0]) (fun n => inbD (Nat.mod_lt _ (by decide)))
          (dwX arg10.view arg12.view (ugP i (View.readAt (Elt F) arg3.view (Rect.unit (s := S128x512) ![0, 0] S128x512.size inb_S128x512_S128x512_0_0).toLoadRect (harg3.unread x2))
        (View.readAt (Elt F) arg4.view (Rect.unit (s := S128x512) ![0, 0] S128x512.size inb_S128x512_S128x512_0_0).toLoadRect (harg4.unread x3))
        (View.readAt (Elt F) arg5.view (Rect.unit (s := S32x512) ![0, 0] S32x512.size inb_S32x512_S32x512_0_0).toLoadRect (harg5.unread x4))
        (View.readAt (Elt F) arg6.view (Rect.unit (s := S32x512) ![0, 0] S32x512.size inb_S32x512_S32x512_0_0).toLoadRect (harg6.unread x5))) arg11.view
        (dyP i (View.readAt (Elt F) arg1.view (Rect.unit (s := S128x512) ![0, 0] S128x512.size inb_S128x512_S128x512_0_0).toLoadRect (harg1.unread x0))
        (View.readAt (Elt F) arg2.view (Rect.unit (s := S32x512) ![0, 0] S32x512.size inb_S32x512_S32x512_0_0).toLoadRect (harg2.unread x1)))) 124 le_rfl := by
  sl_kernel_rfl

/-- The stores of the weight gradient at a later grid point: the first 31 updates add to what the point before left, the
others to the stores before them. -/
theorem run8_B (hc0 : ¬cond0_0 i) (xo8 : Vec F S248x512 .f32) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xo8).2.1
      = View.accPieces arg9.view arg9.view.junk
          (View.tilePieces S8x512.size (fun k : Fin 31 => ![8 * k.val, 0]) (fun k => inbD k.isLt)
            (fun k => (dwX arg10.view arg12.view (ugP i (View.readAt (Elt F) arg3.view (Rect.unit (s := S128x512) ![0, 0] S128x512.size inb_S128x512_S128x512_0_0).toLoadRect (harg3.unread x2))
        (View.readAt (Elt F) arg4.view (Rect.unit (s := S128x512) ![0, 0] S128x512.size inb_S128x512_S128x512_0_0).toLoadRect (harg4.unread x3))
        (View.readAt (Elt F) arg5.view (Rect.unit (s := S32x512) ![0, 0] S32x512.size inb_S32x512_S32x512_0_0).toLoadRect (harg5.unread x4))
        (View.readAt (Elt F) arg6.view (Rect.unit (s := S32x512) ![0, 0] S32x512.size inb_S32x512_S32x512_0_0).toLoadRect (harg6.unread x5))) arg11.view
        (dyP i (View.readAt (Elt F) arg1.view (Rect.unit (s := S128x512) ![0, 0] S128x512.size inb_S128x512_S128x512_0_0).toLoadRect (harg1.unread x0))
        (View.readAt (Elt F) arg2.view (Rect.unit (s := S32x512) ![0, 0] S32x512.size inb_S32x512_S32x512_0_0).toLoadRect (harg2.unread x1))))
              ⟨k.val, by have := k.isLt; omega⟩
              (View.readAt (Elt F) arg9.view (Rect.unit (s := S248x512) ![8 * k.val, 0] S8x512.size (inbD k.isLt)).toLoadRect
                (harg9.unread xo8))) 31 le_rfl) S8x512.size
          (fun n : Fin 93 => ![8 * (n.val % 31), 0]) (fun n => inbD (Nat.mod_lt _ (by decide)))
          (fun n => (dwX arg10.view arg12.view (ugP i (View.readAt (Elt F) arg3.view (Rect.unit (s := S128x512) ![0, 0] S128x512.size inb_S128x512_S128x512_0_0).toLoadRect (harg3.unread x2))
        (View.readAt (Elt F) arg4.view (Rect.unit (s := S128x512) ![0, 0] S128x512.size inb_S128x512_S128x512_0_0).toLoadRect (harg4.unread x3))
        (View.readAt (Elt F) arg5.view (Rect.unit (s := S32x512) ![0, 0] S32x512.size inb_S32x512_S32x512_0_0).toLoadRect (harg5.unread x4))
        (View.readAt (Elt F) arg6.view (Rect.unit (s := S32x512) ![0, 0] S32x512.size inb_S32x512_S32x512_0_0).toLoadRect (harg6.unread x5))) arg11.view
        (dyP i (View.readAt (Elt F) arg1.view (Rect.unit (s := S128x512) ![0, 0] S128x512.size inb_S128x512_S128x512_0_0).toLoadRect (harg1.unread x0))
        (View.readAt (Elt F) arg2.view (Rect.unit (s := S32x512) ![0, 0] S32x512.size inb_S32x512_S32x512_0_0).toLoadRect (harg2.unread x1))))
            ⟨n.val + 31, by have := n.isLt; omega⟩) 93 le_rfl := by
  sl_kernel_rfl

end Run

end Cert.Conv
-- ==== Proof.ConvRead.lean ====
/- What the stores of one run of the convolution kernel's body hold, read row by row. -/
module

public import proofs.«01_k».proof.Proof.ConvRun
public import Idealize.ShloMosaic.Lib.Pipeline.ValueKit
public import Idealize.ShloMosaic.Lib.Pipeline.CanonAppend
public import Idealize.ShloMosaic.Lib.ValueLayout

@[expose] public section

set_option maxRecDepth 16384

noncomputable section

namespace Cert.Conv

open Idealize.ShloMosaic Idealize.ShloMosaic.TcCoe Idealize.SL.Sem
open Cert.Kernel9Ideal Cert.Kernel9Ideal.Gen

section Windows

variable (v : View sig .tc .vmem S160x512 .f32) (vs : View sig .tc .vmem S8x160x512 .f32)
  (L : List (View.Piece (Elt Ideal) S160x512 .f32)) (G : ℕ → Fin 512 → EReal)
  (hG : ∀ (r : Fin 160) (l : Fin 512), View.canon L (ix2 r l) = G r.val l)

include hG

/-- A load of rows of a scratch reads those rows. -/
theorem read_rows (n off : ℕ) (inb : ∀ a, (![off, 0] : Fin 2 → ℕ) a + (⟨2, ![n, 512]⟩ : Shape).size a ≤ S160x512.size a)
    (p : Fin n) (l : Fin 512) :
    v.readCov L (Rect.unit (s := S160x512) ![off, 0] (⟨2, ![n, 512]⟩ : Shape).size inb).toLoadRect (ix2 p l)
      = G (off + p.val) l := by
  have h0 : off + n ≤ 160 := inb 0
  rw [View.readCov_eq_canon']
  refine Eq.trans (congrArg (View.canon L) ?_) (hG ⟨off + p.val, by omega⟩ l)
  funext a
  match a with
  | ⟨0, _⟩ => exact Fin.ext (show off + 1 * p.val = off + p.val by omega)
  | ⟨1, _⟩ => exact Fin.ext (show 0 + 1 * l.val = l.val by omega)

/-- The copy shifted by `s` rows holds at row `r` the scratch's row `s + r`. -/
theorem read_shift (s : Fin 8) (r : Fin 160) (l : Fin 512) (hs : 1 ≤ s.val) (hr : r.val < 152) :
    View.canon (shL v L) (ix3 s r l) = G (s.val + r.val) l := by
  have key : ∀ (s' : ℕ) (h : s' ≤ 7) (x : (shP v L s' h).1.shape.Idx),
      (shP v L s' h).2 x = (fun y : S8x160x512.Idx => G ((y 0).val + (y 1).val) (y 2)) ((shP v L s' h).1.emb x) := by
    intro s' h x
    obtain ⟨z, p, l, rfl⟩ : ∃ (z : Fin 1) (p : Fin 152) (l : Fin 512), x = ix3 z p l := ⟨x 0, x 1, x 2, eq_ix3 x⟩
    refine ((ValueIdx.shapeCast_ab_1ab_apply _ shapeCasts_S152x512_S1x152x512 z p l).trans
      (read_rows v L G hG 152 s' (inbT h) p l)).trans ?_
    · show G (s' + p.val) l = G ((s' + 1 * z.val) + (0 + 1 * p.val)) ⟨0 + 1 * l.val, _⟩
      congr 1
      · omega
      · exact Fin.ext (by show l.val = 0 + 1 * l.val; omega)
  have hmem : ∀ (s' : ℕ) (h : s' ≤ 7), s.val = s' → ix3 s r l ∈ (shP v L s' h).1.set := by
    intro s' h e
    show ix3 s r l ∈ (Rect.unit (s := S8x160x512) ![s', 0, 0] S1x152x512.size (inbS h)).set
    rw [Rect.mem_set_unit]
    intro a
    match a with
    | ⟨0, _⟩ => exact ⟨by show s' ≤ s.val; omega, by show s.val < s' + 1; omega⟩
    | ⟨1, _⟩ => exact ⟨by show 0 ≤ r.val; omega, by show r.val < 0 + 152; omega⟩
    | ⟨2, _⟩ => exact ⟨by show 0 ≤ l.val; omega, by show l.val < 0 + 512; omega⟩
  have := View.canon_append_of_pieces (fun y : S8x160x512.Idx => G ((y 0).val + (y 1).val) (y 2)) [] (shL v L)
    (by
      intro p hp
      simp only [shL, List.mem_cons, List.not_mem_nil, or_false] at hp
      rcases hp with rfl | rfl | rfl | rfl | rfl | rfl | rfl <;> exact key _ _)
    (ix3 s r l) (by
      obtain ⟨s, hs'⟩ := s
      have : s = 1 ∨ s = 2 ∨ s = 3 ∨ s = 4 ∨ s = 5 ∨ s = 6 ∨ s = 7 := by simp only at hs; omega
      rcases this with h | h | h | h | h | h | h
      · exact ⟨shP v L 1 (by decide), by simp [shL], hmem 1 _ h⟩
      · exact ⟨shP v L 2 (by decide), by simp [shL], hmem 2 _ h⟩
      · exact ⟨shP v L 3 (by decide), by simp [shL], hmem 3 _ h⟩
      · exact ⟨shP v L 4 (by decide), by simp [shL], hmem 4 _ h⟩
      · exact ⟨shP v L 5 (by decide), by simp [shL], hmem 5 _ h⟩
      · exact ⟨shP v L 6 (by decide), by simp [shL], hmem 6 _ h⟩
      · exact ⟨shP v L 7 (by decide), by simp [shL], hmem 7 _ h⟩)
  rw [List.append_nil] at this
  exact this

/-- A window read through the copies is the rows of the scratch. -/
theorem win_at (off : ℕ) (h : off ≤ 128) (p : Fin 32) (l : Fin 512) :
    win v vs L off h (ix2 p l) = G (off + p.val) l := by
  unfold win
  split
  · exact read_rows v L G hG 32 off (inb2 h) p l
  · rename_i h8
    refine (ValueIdx.shapeCast_1ab_ab_apply _ shapeCasts_S1x32x512_S32x512 p l).trans ?_
    · have hs : off % 8 < 8 := Nat.mod_lt _ (by decide)
      rw [View.readCov_eq_canon']
      refine (congrArg (View.canon (shL v L)) ?_).trans ((read_shift v L G hG ⟨off % 8, hs⟩
        ⟨off - off % 8 + p.val, by omega⟩ l (by show 1 ≤ off % 8; omega) (by show off - off % 8 + p.val < 152; omega)).trans ?_)
      · funext a
        match a with
        | ⟨0, _⟩ => exact Fin.ext (show off % 8 + 1 * 0 = off % 8 by omega)
        | ⟨1, _⟩ => exact Fin.ext (show off - off % 8 + 1 * p.val = off - off % 8 + p.val by omega)
        | ⟨2, _⟩ => exact Fin.ext (show 0 + 1 * l.val = l.val by omega)
      · congr 1
        show off % 8 + (off - off % 8 + p.val) = off + p.val
        omega

/-- A strip's gradient after `k` taps, as a sum. -/
theorem dzAcc_at (wr : Fin 31 → Vec Ideal S1x512 .f32) (rb : Fin 4) (p : Fin 32) (l : Fin 512) :
    ∀ (k : ℕ) (hk : k ≤ 31), dzAcc wr v vs L rb k hk (ix2 p l)
      = ∑ j : Fin k, wr ⟨j.val, by omega⟩ (ix2 0 l) * G (32 * rb.val + 30 - j.val + p.val) l
  | 0, _ => by
    show (broadcast S32x512 (Scalar.ofBits (F := Ideal) .f32 0x00000000#32) : FVec Ideal S32x512 .f32) (ix2 p l) = _
    rw [Finset.univ_eq_empty, Finset.sum_empty]
    pointwise []
  | k + 1, hk => by
    rw [Fin.sum_univ_castSucc]
    refine congrArg₂ (· + ·) (dzAcc_at wr rb p l k (Nat.le_of_succ_le hk)) ?_
    refine congrArg₂ (· * ·) ?_ (win_at v vs L G hG _ _ p l)
    pointwise []
    rfl

end Windows

section Weights

variable (vu : View sig .tc .vmem S160x512 .f32) (vus : View sig .tc .vmem S8x160x512 .f32)
  (LU : List (View.Piece (Elt Ideal) S160x512 .f32)) (U : ℕ → Fin 512 → EReal)
  (hU : ∀ (r : Fin 160) (l : Fin 512), View.canon LU (ix2 r l) = U r.val l)
  (vd : View sig .tc .vmem S160x512 .f32)
  (LD : List (View.Piece (Elt Ideal) S160x512 .f32)) (D : ℕ → Fin 512 → EReal)
  (hD : ∀ (r : Fin 160) (l : Fin 512), View.canon LD (ix2 r l) = D r.val l)

/-- What strip `rb` adds to row `p` of tap `k`'s eight rows: the products of every eighth row of the strip. -/
def strip (D U : ℕ → Fin 512 → EReal) (rb k : ℕ) (p : Fin 8) (l : Fin 512) : EReal :=
  ∑ q : Fin 4, D (32 * rb + (8 * q.val + p.val)) l * U (32 * rb + 2 + k + (8 * q.val + p.val)) l

/-- A product of two strips folded to eight rows. -/
theorem fold8 (A B : FVec Ideal S32x512 .f32) (p : Fin 8) (l : Fin 512) :
    (multiReduction .add [0] S8x512 (shapeCast S4x8x512 (mulf A B) shapeCasts_S32x512_S4x8x512) 0x00000000#32
      reduces_S4x8x512_S8x512 (.inl rfl) rfl : FVec Ideal S8x512 .f32) (ix2 p l)
      = ∑ q : Fin 4, A (ix2 ⟨8 * q.val + p.val, by omega⟩ l) * B (ix2 ⟨8 * q.val + p.val, by omega⟩ l) := by
  pointwise []
  rfl

include hU hD in
/-- One update of the weight gradient. -/
theorem dwX_at (n : Fin 124) (acc : FVec Ideal S8x512 .f32) (p : Fin 8) (l : Fin 512) :
    dwX vu vus LU vd LD n acc (ix2 p l) = acc (ix2 p l) + strip D U (n.val / 31) (n.val % 31) p l := by
  have hn := n.isLt
  refine congrArg₂ (· + ·) ?_ ?_
  · pointwise []
  · refine (fold8 _ _ p l).trans (Fin.sum_fin_congr fun q => congrArg₂ (· * ·) ?_ ?_)
    · exact read_rows vd LD D hD 32 _ _ _ l
    · exact win_at vu vus LU U hU _ _ _ l

end Weights

/-- The rows of the weights. -/
theorem wrow_at (arg7 : Memref sig .tc .vmem S31x512 .f32) (harg7 : arg7.IsWhole) (x6 : FVec Ideal S31x512 .f32)
    (k : Fin 31) (l : Fin 512) : wrow (F := Ideal) arg7 harg7 x6 k (ix2 0 l) = x6 (ix2 k l) := by
  unfold wrow
  rw [View.readAt_eq_ld, Memref.IsWhole.read_unread]
  refine View.ld_unit_apply_of _ _ _ _ _ _ fun a => ?_
  match a with
  | ⟨0, _⟩ => rfl
  | ⟨1, _⟩ => exact (Nat.zero_add _).symm

end Cert.Conv

end
-- ==== Proof.ConvOut.lean ====
/- What one run of the convolution kernel's body leaves in its two results, from the blocks it reads. -/
module

public import proofs.«01_k».proof.Proof.ConvRead
public import Idealize.ShloMosaic.Lib.WindowSum

@[expose] public section

set_option maxRecDepth 16384

noncomputable section

namespace Cert.Conv

open Idealize.ShloMosaic Idealize.ShloMosaic.TcCoe Idealize.SL.Sem
open Cert.Kernel9Ideal Cert.Kernel9Ideal.Gen
open Idealize.ShloMosaic.WindowSum (windowSum windowAcc windowAcc_all)

/-- The cotangent of the convolution's input at row `r`: the cotangents of the 31 rows from `r` on, each times its tap. -/
def accRow (w : Fin 31 → Fin 512 → EReal) (D : ℕ → Fin 512 → EReal) (r : ℕ) (l : Fin 512) : EReal :=
  ∑ j : Fin 31, w j l * D (r + 30 - j.val) l

/-- The gradient of the two halves of the gated input at row `r`. -/
def dzOf (w : Fin 31 → Fin 512 → EReal) (D : ℕ → Fin 512 → EReal) (a g : Fin 512 → EReal) (r : ℕ) (q : Fin 1024) : EReal :=
  if h : q.val < 512 then accRow w D r ⟨q, h⟩ * Ideal.logistic (g ⟨q, h⟩)
  else accRow w D r ⟨q.val - 512, by omega⟩ * a ⟨q.val - 512, by omega⟩ * Ideal.logistic (g ⟨q.val - 512, by omega⟩)
    * (1 - Ideal.logistic (g ⟨q.val - 512, by omega⟩))

theorem dzOf_left (w : Fin 31 → Fin 512 → EReal) (D : ℕ → Fin 512 → EReal) (a g : Fin 512 → EReal) (r : ℕ) (q : Fin 1024)
    (l : Fin 512) (h : q.val = l.val) : dzOf w D a g r q = accRow w D r l * Ideal.logistic (g l) := by
  have hl : ∀ h' : q.val < 512, (⟨q.val, h'⟩ : Fin 512) = l := fun _ => Fin.ext h
  unfold dzOf
  rw [dif_pos (by omega)]
  simp only [hl]

theorem dzOf_right (w : Fin 31 → Fin 512 → EReal) (D : ℕ → Fin 512 → EReal) (a g : Fin 512 → EReal) (r : ℕ) (q : Fin 1024)
    (l : Fin 512) (h : q.val = 512 + l.val) :
    dzOf w D a g r q = accRow w D r l * a l * Ideal.logistic (g l) * (1 - Ideal.logistic (g l)) := by
  have hl : (⟨q.val - 512, by omega⟩ : Fin 512) = l := Fin.ext (by show q.val - 512 = l.val; omega)
  unfold dzOf
  rw [dif_neg (by omega)]
  simp only [hl]

/-- The block of the input gradient as a function of its index. -/
def dzBlock (x6 : FVec Ideal S31x512 .f32) (D : ℕ → Fin 512 → EReal) (x2 x3 : FVec Ideal S128x512 .bf16) :
    S128x1024.Idx → EReal :=
  fun y => dzOf (fun k l => x6 (ix2 k l)) D (fun l => x2 (ix2 (y 0) l)) (fun l => x3 (ix2 (y 0) l)) (y 0).val (y 1)

theorem qA_at (acc : Fin 4 → FVec Ideal S32x512 .f32) (sg : FVec Ideal S128x512 .f32) (rb : Fin 4) (p : Fin 32) (l : Fin 512) :
    (qA acc sg rb).2 (ix2 p l) = acc rb (ix2 p l) * sg (ix2 ⟨32 * rb.val + p.val, by omega⟩ l) := by
  unfold qA
  pointwise []

theorem qB_at (acc : Fin 4 → FVec Ideal S32x512 .f32) (a sg : FVec Ideal S128x512 .f32) (rb : Fin 4) (p : Fin 32) (l : Fin 512) :
    (qB acc a sg rb).2 (ix2 p l) = acc rb (ix2 p l) * a (ix2 ⟨32 * rb.val + p.val, by omega⟩ l)
      * sg (ix2 ⟨32 * rb.val + p.val, by omega⟩ l) * (1 - sg (ix2 ⟨32 * rb.val + p.val, by omega⟩ l)) := by
  unfold qB
  pointwise []

theorem sg_at (x3 : FVec Ideal S128x512 .bf16) (r : Fin 128) (l : Fin 512) :
    k0_pay3 (F := Ideal) x3 (ix2 r l) = Ideal.logistic (x3 (ix2 r l)) := by
  pointwise [k0_pay3]
theorem a_at (x2 : FVec Ideal S128x512 .bf16) (r : Fin 128) (l : Fin 512) :
    k0_pay2 (F := Ideal) x2 (ix2 r l) = x2 (ix2 r l) := by
  pointwise [k0_pay2]

/-- The eight stores of the input gradient cover its block. -/
theorem qL_cover (acc : Fin 4 → FVec Ideal S32x512 .f32) (a sg : FVec Ideal S128x512 .f32) (y : S128x1024.Idx) :
    ∃ p ∈ qL acc a sg, y ∈ p.1.set :=
  View.cover_of_tiledL (s := S128x1024) (qL acc a sg) S32x512.size (by sl_kernel_rfl) y

section Input

variable (arg7 : Memref sig .tc .vmem S31x512 .f32) (harg7 : arg7.IsWhole) (x6 : FVec Ideal S31x512 .f32)
  (v : View sig .tc .vmem S160x512 .f32) (vs : View sig .tc .vmem S8x160x512 .f32)
  (L : List (View.Piece (Elt Ideal) S160x512 .f32)) (D : ℕ → Fin 512 → EReal)
  (hD : ∀ (r : Fin 160) (l : Fin 512), View.canon L (ix2 r l) = D r.val l)

include hD in
/-- The strips' gradients are the rows' cotangents. -/
theorem acc_at (rb : Fin 4) (p : Fin 32) (l : Fin 512) :
    dzAcc (wrow arg7 harg7 x6) v vs L rb 31 le_rfl (ix2 p l)
      = accRow (fun k l => x6 (ix2 k l)) D (32 * rb.val + p.val) l := by
  rw [dzAcc_at v vs L D hD]
  refine Fin.sum_fin_congr fun j => congrArg₂ (· * ·) (wrow_at arg7 harg7 x6 _ l) ?_
  congr 1
  omega

include hD in
theorem qA_block (x2 x3 : FVec Ideal S128x512 .bf16) (rb : Fin 4) (x : S32x512.Idx) :
    (qA (fun rb => dzAcc (wrow arg7 harg7 x6) v vs L rb 31 le_rfl) (k0_pay3 x3) rb).2 x
      = dzBlock x6 D x2 x3 ((qA (fun rb => dzAcc (wrow arg7 harg7 x6) v vs L rb 31 le_rfl) (k0_pay3 x3) rb).1.emb x) := by
  obtain ⟨p, l, rfl⟩ : ∃ (p : Fin 32) (l : Fin 512), x = ix2 p l := ⟨x 0, x 1, eq_ix2 x⟩
  have he : (qA (fun rb => dzAcc (wrow arg7 harg7 x6) v vs L rb 31 le_rfl) (k0_pay3 x3) rb).1.emb (ix2 p l)
      = ix2 (⟨32 * rb.val + p.val, by omega⟩ : Fin 128) (⟨l.val, by omega⟩ : Fin 1024) := by
    funext a
    match a with
    | ⟨0, _⟩ => exact Fin.ext (show 32 * rb.val + 1 * p.val = 32 * rb.val + p.val by omega)
    | ⟨1, _⟩ => exact Fin.ext (show 0 + 1 * l.val = l.val by omega)
  rw [he, qA_at, acc_at arg7 harg7 x6 v vs L D hD]
  refine Eq.trans ?_ (dzOf_left _ _ _ _ _ _ l rfl).symm
  exact congrArg₂ (· * ·) rfl (sg_at x3 _ l)

include hD in
theorem qB_block (x2 x3 : FVec Ideal S128x512 .bf16) (rb : Fin 4) (x : S32x512.Idx) :
    (qB (fun rb => dzAcc (wrow arg7 harg7 x6) v vs L rb 31 le_rfl) (k0_pay2 x2) (k0_pay3 x3) rb).2 x
      = dzBlock x6 D x2 x3
        ((qB (fun rb => dzAcc (wrow arg7 harg7 x6) v vs L rb 31 le_rfl) (k0_pay2 x2) (k0_pay3 x3) rb).1.emb x) := by
  obtain ⟨p, l, rfl⟩ : ∃ (p : Fin 32) (l : Fin 512), x = ix2 p l := ⟨x 0, x 1, eq_ix2 x⟩
  have he : (qB (fun rb => dzAcc (wrow arg7 harg7 x6) v vs L rb 31 le_rfl) (k0_pay2 x2) (k0_pay3 x3) rb).1.emb (ix2 p l)
      = ix2 (⟨32 * rb.val + p.val, by omega⟩ : Fin 128) (⟨512 + l.val, by omega⟩ : Fin 1024) := by
    funext a
    match a with
    | ⟨0, _⟩ => exact Fin.ext (show 32 * rb.val + 1 * p.val = 32 * rb.val + p.val by omega)
    | ⟨1, _⟩ => exact Fin.ext (show 512 + 1 * l.val = 512 + l.val by omega)
  rw [he, qB_at, acc_at arg7 harg7 x6 v vs L D hD, sg_at, a_at]
  exact (dzOf_right (fun k l => x6 (ix2 k l)) D (fun l => x2 (ix2 ⟨32 * rb.val + p.val, by omega⟩ l))
    (fun l => x3 (ix2 ⟨32 * rb.val + p.val, by omega⟩ l)) (32 * rb.val + p.val) (⟨512 + l.val, by omega⟩ : Fin 1024) l rfl).symm

include hD in
/-- The block of the input gradient. -/
theorem qL_at (x2 x3 : FVec Ideal S128x512 .bf16) (r : Fin 128) (q : Fin 1024) :
    View.canon (qL (fun rb => dzAcc (wrow arg7 harg7 x6) v vs L rb 31 le_rfl) (k0_pay2 x2) (k0_pay3 x3)) (ix2 r q)
      = dzOf (fun k l => x6 (ix2 k l)) D (fun l => x2 (ix2 r l)) (fun l => x3 (ix2 r l)) r.val q := by
  have := View.canon_append_of_pieces (dzBlock x6 D x2 x3) []
    (qL (fun rb => dzAcc (wrow arg7 harg7 x6) v vs L rb 31 le_rfl) (k0_pay2 x2) (k0_pay3 x3))
    (by
      intro p hp
      simp only [qL, List.mem_cons, List.not_mem_nil, or_false] at hp
      rcases hp with rfl | rfl | rfl | rfl | rfl | rfl | rfl | rfl
      · exact qB_block arg7 harg7 x6 v vs L D hD x2 x3 3
      · exact qA_block arg7 harg7 x6 v vs L D hD x2 x3 3
      · exact qB_block arg7 harg7 x6 v vs L D hD x2 x3 2
      · exact qA_block arg7 harg7 x6 v vs L D hD x2 x3 2
      · exact qB_block arg7 harg7 x6 v vs L D hD x2 x3 1
      · exact qA_block arg7 harg7 x6 v vs L D hD x2 x3 1
      · exact qB_block arg7 harg7 x6 v vs L D hD x2 x3 0
      · exact qA_block arg7 harg7 x6 v vs L D hD x2 x3 0)
    (ix2 r q) (qL_cover _ _ _ _)
  rw [List.append_nil] at this
  exact this

end Input

section Taps

/-- The windows of `B` strips of 31 taps: at row `R` the strips' windows of tap `R / 8` meet. -/
theorem windowSum_taps {NB : ℕ} (B : ℕ) (hNB : NB = B * 31) (E : ℕ → ℕ → Fin 8 → EReal) (R : ℕ) (hR : R < 248) :
    windowSum 8 (fun n : Fin NB => 8 * (n.val % 31)) Finset.univ (fun n p => E (n.val / 31) (n.val % 31) p) R
      = ∑ b : Fin B, E b.val (R / 8) ⟨R % 8, Nat.mod_lt _ (by decide)⟩ := by
  unfold windowSum
  rw [← Fin.sum_mul_add_fin B 31 (fun n : Fin NB => if h : 8 * (n.val % 31) ≤ R ∧ R < 8 * (n.val % 31) + 8 then
    E (n.val / 31) (n.val % 31) ⟨R - 8 * (n.val % 31), by omega⟩ else 0) hNB]
  refine Finset.sum_congr rfl fun b _ => ?_
  have h31 : ∀ k : Fin 31, (b.val * 31 + k.val) % 31 = k.val ∧ (b.val * 31 + k.val) / 31 = b.val := by
    intro k; have := k.isLt; omega
  rw [Finset.sum_eq_single (⟨R / 8, by omega⟩ : Fin 31)]
  · obtain ⟨h1, h2⟩ := h31 ⟨R / 8, by omega⟩
    simp only at h1 h2
    rw [dif_pos (by simp only [h1]; omega)]
    simp only [h1, h2]
    congr 1
    exact Fin.ext (by show R - 8 * (R / 8) = R % 8; omega)
  · intro k _ hk
    rw [dif_neg]
    rw [(h31 k).1]
    intro h
    exact hk (Fin.ext (by show k.val = R / 8; omega))
  · intro h; exact absurd (Finset.mem_univ _) h

end Taps

section Weights

variable (arg9 : Memref sig .tc .vmem S248x512 .f32)
  (vu : View sig .tc .vmem S160x512 .f32) (vus : View sig .tc .vmem S8x160x512 .f32)
  (LU : List (View.Piece (Elt Ideal) S160x512 .f32)) (U : ℕ → Fin 512 → EReal)
  (hU : ∀ (r : Fin 160) (l : Fin 512), View.canon LU (ix2 r l) = U r.val l)
  (vd : View sig .tc .vmem S160x512 .f32)
  (LD : List (View.Piece (Elt Ideal) S160x512 .f32)) (D : ℕ → Fin 512 → EReal)
  (hD : ∀ (r : Fin 160) (l : Fin 512), View.canon LD (ix2 r l) = D r.val l)

include hU hD in
/-- The first point's block of the weight gradient. -/
theorem dw_first (R : Fin 248) (c : Fin 512) :
    VO0_8.read (Elt Ideal) (VO0_8.writes (Elt Ideal) VO0_8.junk (View.accPieces arg9.view arg9.view.junk
          [⟨Rect.unit (s := S248x512) ![0, 0] S248x512.size inb_S248x512_S248x512_0_0, k0_pay22 (F := Ideal)⟩] S8x512.size
          (fun n : Fin 124 => ![8 * (n.val % 31), 0]) (fun n => inbD (Nat.mod_lt _ (by decide)))
          (dwX vu vus LU vd LD) 124 le_rfl)) (ix2 R c)
      = ∑ b : Fin 4, strip D U b.val (R.val / 8) ⟨R.val % 8, Nat.mod_lt _ (by decide)⟩ c := by
  refine (View.read_accPieces_cov_ix2 arg9.view arg9.view.junk _ _ _ _ (fun n => 8 * (n.val % 31)) (fun _ => rfl)
    (fun n p c => strip D U (n.val / 31) (n.val % 31) p c) (fun n acc p c => dwX_at vu vus LU U hU vd LD D hD n acc p c)
    (fun _ _ => 0) (fun R c => ?_) VO0_8 VO0_8.junk (fun y => ⟨_, List.mem_singleton.mpr rfl, ?_⟩) 124 le_rfl R c).trans ?_
  · rw [View.read_writes_junk_eq_canon, View.canon_cons_unit_lit' _ _ _ (by decide)]
    pointwise [k0_pay22]
  · rw [Rect.mem_set_unit]
    intro a
    match a with
    | ⟨0, _⟩ => exact ⟨Nat.zero_le _, by have := (y 0).isLt; show (y 0).val < 0 + 248; simpa using this⟩
    | ⟨1, _⟩ => exact ⟨Nat.zero_le _, by have := (y 1).isLt; show (y 1).val < 0 + 512; simpa using this⟩
  · rw [windowAcc_all, zero_add]
    exact windowSum_taps 4 rfl (fun b k p => strip D U b k p c) R.val R.isLt

include hU hD in
/-- A later point's block of the weight gradient. -/
theorem dw_next (x : FVec Ideal S248x512 .f32) (R : Fin 248) (c : Fin 512) :
    VO0_8.read (Elt Ideal) (VO0_8.writes (Elt Ideal) VO0_8.junk (View.accPieces arg9.view arg9.view.junk
          (View.tilePieces S8x512.size (fun k : Fin 31 => ![8 * k.val, 0]) (fun k => inbD k.isLt)
            (fun k => dwX vu vus LU vd LD
              ⟨k.val, by have := k.isLt; omega⟩
              (View.ld (Val := Elt Ideal) (e' := .f32) x (Rect.unit (s := S248x512) ![8 * k.val, 0] S8x512.size (inbD k.isLt)))) 31 le_rfl) S8x512.size
          (fun n : Fin 93 => ![8 * (n.val % 31), 0]) (fun n => inbD (Nat.mod_lt _ (by decide)))
          (fun n => dwX vu vus LU vd LD ⟨n.val + 31, by have := n.isLt; omega⟩) 93 le_rfl)) (ix2 R c)
      = x (ix2 R c) + ∑ b : Fin 4, strip D U b.val (R.val / 8) ⟨R.val % 8, Nat.mod_lt _ (by decide)⟩ c := by
  refine (View.read_accPieces_cov_ix2 arg9.view arg9.view.junk _ _ _ _ (fun n => 8 * (n.val % 31)) (fun _ => rfl)
    (fun n p c => strip D U (n.val / 31 + 1) (n.val % 31) p c) (fun n acc p c => ?_)
    (fun R c => if h : R < 248 then x (ix2 ⟨R, h⟩ c) + strip D U 0 (R / 8) ⟨R % 8, Nat.mod_lt _ (by decide)⟩ c else 0)
    (fun R c => ?_) VO0_8 VO0_8.junk (fun y => View.cover_of_tiledL (s := S248x512) (View.tilePieces S8x512.size (fun k : Fin 31 => ![8 * k.val, 0])
      (fun k => inbD k.isLt) _ 31 le_rfl) S8x512.size (by sl_kernel_rfl) y) 93 le_rfl R c).trans ?_
  · refine (dwX_at vu vus LU U hU vd LD D hD _ acc p c).trans ?_
    show _ + strip D U ((n.val + 31) / 31) ((n.val + 31) % 31) p c = _
    rw [Nat.add_div_right _ (by decide), Nat.add_mod_right]
    rfl
  · have hR := R.isLt
    rw [dif_pos hR]
    refine (View.read_tilePieces arg9.view arg9.view.junk S8x512.size _ _ _ 31 le_rfl (ix2 R c) ⟨R.val / 8, by omega⟩
      (by show R.val / 8 < 31; omega) (ix2 (⟨R.val % 8, Nat.mod_lt _ (by decide)⟩ : Fin 8) c) (fun a => ?_) 0
      (fun i' hi' => ?_)).trans ?_
    · match a with
      | ⟨0, _⟩ => show R.val = 8 * (R.val / 8) + R.val % 8; omega
      | ⟨1, _⟩ => show c.val = 0 + c.val; omega
    · show R.val < 8 * i'.val ∨ 8 * i'.val + 8 ≤ R.val
      have : i'.val ≠ R.val / 8 := fun h => hi' (Fin.ext h)
      omega
    · refine (dwX_at vu vus LU U hU vd LD D hD _ _ _ c).trans ?_
      refine congrArg₂ (· + ·) ?_ ?_
      · refine View.ld_unit_apply_of _ _ _ _ _ _ fun a => ?_
        match a with
        | ⟨0, _⟩ => show R.val = 8 * (R.val / 8) + R.val % 8; omega
        | ⟨1, _⟩ => show c.val = 0 + c.val; omega
      · show strip D U (R.val / 8 / 31) (R.val / 8 % 31) _ c = _
        rw [show R.val / 8 / 31 = 0 by omega, show R.val / 8 % 31 = R.val / 8 by omega]
  · rw [windowAcc_all, windowSum_taps 3 rfl (fun b k p => strip D U (b + 1) k p c) R.val R.isLt, dif_pos R.isLt,
      Fin.sum_univ_succ, add_assoc]
    rfl

end Weights

end Cert.Conv

end
-- ==== Proof.ConvValue.lean ====
/- What the backward of the gated depthwise convolution leaves in each of its results, as sums over the rows of its
   arguments. -/
module

public import proofs.«01_k».proof.Proof.ConvOut
public import Idealize.ShloMosaic.Lib.StableHlo.ReadAt
public import Idealize.ShloMosaic.Lib.Pipeline.ReadBack

@[expose] public section

set_option maxRecDepth 16384

noncomputable section

namespace Cert.Conv

open Idealize.ShloMosaic Idealize.ShloMosaic.TcCoe Idealize.SL.Sem
open Cert.Kernel9Ideal Cert.Kernel9Ideal.Gen
open Idealize.ShloMosaic.Pipeline (Dat)

/-- The gated input at row `n` of the rows with 32 rows of zeros before them. -/
def uz (z : FVec Ideal S4096x3584 .f32) (n : ℕ) (l : Fin 512) : EReal :=
  if h : 32 ≤ n ∧ n < 4128 then z (ix2 ⟨n - 32, by omega⟩ ⟨l.val, by omega⟩)
    * Ideal.logistic (z (ix2 ⟨n - 32, by omega⟩ ⟨512 + l.val, by omega⟩)) else 0
/-- The cotangent at row `n`, zero past the last row. -/
def dz (d : FVec Ideal S4096x512 .f32) (n : ℕ) (l : Fin 512) : EReal :=
  if h : n < 4096 then d (ix2 ⟨n, h⟩ l) else 0

variable (m : (ℓ : Loc nD τ sig) → Buf (Elt Ideal) ℓ)

/-- Where each window stands at a point: the row windows walk the rows, the two halos stand 32 rows before and after. -/
theorem idx : ∀ t : Fin cfg0.N, win0_0.index t = ![t.val, 0] ∧ win0_1.index t = ![min (4 * t.val + 4) 127, 0]
    ∧ win0_2.index t = ![t.val, 0] ∧ win0_3.index t = ![t.val, 1] ∧ win0_4.index t = ![4 * t.val - 1, 0]
    ∧ win0_5.index t = ![4 * t.val - 1, 1] ∧ win0_6.index t = ![0, 0] ∧ win0_7.index t = ![t.val, 0]
    ∧ win0_8.index t = ![0, 0] :=
  (by decide +kernel : ∀ t : Fin grid0.N, _)

/-- The point's comparisons of its position with the first and the last. -/
theorem first_last : ∀ t : Fin cfg0.N,
    Scalar.cmpi .eq (BitVec.ofNat 32 ((grid0.coords t) 0).val) 0#32 = (if t.val = 0 then 1#1 else 0#1)
    ∧ Scalar.cmpi .eq (BitVec.ofNat 32 ((grid0.coords t) 0).val) 31#32 = (if t.val = 31 then 1#1 else 0#1) :=
  (by decide +kernel : ∀ t : Fin grid0.N, _)

/-- The arguments of the program. -/
abbrev D (c : Dev nD) : FVec Ideal S4096x512 .f32 := m ((c : Thread nD τ).loc main_arg0)
abbrev Z (c : Dev nD) : FVec Ideal S4096x3584 .f32 := m ((c : Thread nD τ).loc main_arg1)
abbrev W (c : Dev nD) : FVec Ideal S31x512 .f32 := m ((c : Thread nD τ).loc main_arg2)

/-- What the host line before the region hands the kernel. -/
theorem v0_at (c : Dev nD) (i : S4096x3584.Idx) : (V m c main_v0 : FVec Ideal S4096x3584 .bf16) i = Z m c i := by
  unfold_abbrev_sides
  after_reads_at

theorem pay1_at (t : Fin cfg0.N) (x4 x5 : FVec Ideal S32x512 .bf16) (p : Fin 32) (l : Fin 512) :
    k0_pay1 (F := Ideal) (grid0.coords t) x4 x5 (ix2 p l)
      = if t.val = 0 then 0 else x4 (ix2 p l) * Ideal.logistic (x5 (ix2 p l)) := by
  by_cases h : t.val = 0
  · have := (first_last t).1; rw [if_pos h] at this
    rw [if_pos h]
    pointwise [k0_pay1, this]
  · have := (first_last t).1; rw [if_neg h] at this
    rw [if_neg h]
    pointwise [k0_pay1, this]

theorem pay6_at (t : Fin cfg0.N) (x1 : FVec Ideal S32x512 .f32) (p : Fin 32) (l : Fin 512) :
    (shapeCast S32x512 (k0_pay6 (F := Ideal) (grid0.coords t) x1) shapeCasts_S32x512_S32x512) (ix2 p l)
      = if t.val = 31 then 0 else x1 (ix2 p l) := by
  by_cases h : t.val = 31
  · have := (first_last t).2; rw [if_pos h] at this
    rw [if_pos h]
    pointwise [k0_pay6, this]
  · have := (first_last t).2; rw [if_neg h] at this
    rw [if_neg h]
    pointwise [k0_pay6, this]

theorem pay4_at (x2 x3 : FVec Ideal S128x512 .bf16) (p : Fin 128) (l : Fin 512) :
    k0_pay4 (F := Ideal) x2 x3 (ix2 p l) = x2 (ix2 p l) * Ideal.logistic (x3 (ix2 p l)) := by
  pointwise [k0_pay4, k0_pay2, k0_pay3]
theorem pay5_at (x0 : FVec Ideal S128x512 .f32) (p : Fin 128) (l : Fin 512) :
    k0_pay5 (F := Ideal) x0 (ix2 p l) = x0 (ix2 p l) := by
  pointwise [k0_pay5]

/-- The rows of the blocks are the rows of the arrays. -/
theorem blk0 (c : Dev nD) (t : Fin cfg0.N) (p : Fin 128) (l : Fin 512) :
    (iblk m c 0 t : FVec Ideal S128x512 .f32) (ix2 p l) = dz (D m c) (t.val * 128 + p.val) l := by
  have ht := lt_of_lt_of_eq t.isLt N_0
  unfold dz
  rw [dif_pos (by omega)]
  blk_point [iblk, V, idx t]
theorem blk1 (c : Dev nD) (t : Fin cfg0.N) (h : t.val ≠ 31) (p : Fin 32) (l : Fin 512) :
    (iblk m c 1 t : FVec Ideal S32x512 .f32) (ix2 p l) = dz (D m c) (t.val * 128 + (128 + p.val)) l := by
  have ht := lt_of_lt_of_eq t.isLt N_0
  unfold dz
  rw [dif_pos (by omega)]
  have e : min (4 * t.val + 4) 127 = 4 * t.val + 4 := by omega
  blk_point [iblk, V, idx t, e]
theorem blk2 (c : Dev nD) (t : Fin cfg0.N) (p : Fin 128) (l : Fin 512) :
    (iblk m c 2 t : FVec Ideal S128x512 .bf16) (ix2 p l)
      = Z m c (ix2 ⟨t.val * 128 + p.val, by have := lt_of_lt_of_eq t.isLt N_0; omega⟩ ⟨l.val, by omega⟩) := by
  refine Eq.trans ?_ (v0_at m c _)
  blk_ext [iblk, idx t]
theorem blk3 (c : Dev nD) (t : Fin cfg0.N) (p : Fin 128) (l : Fin 512) :
    (iblk m c 3 t : FVec Ideal S128x512 .bf16) (ix2 p l)
      = Z m c (ix2 ⟨t.val * 128 + p.val, by have := lt_of_lt_of_eq t.isLt N_0; omega⟩ ⟨512 + l.val, by omega⟩) := by
  refine Eq.trans ?_ (v0_at m c _)
  blk_ext [iblk, idx t]
theorem blk4 (c : Dev nD) (t : Fin cfg0.N) (h : t.val ≠ 0) (p : Fin 32) (l : Fin 512) :
    (iblk m c 4 t : FVec Ideal S32x512 .bf16) (ix2 p l)
      = Z m c (ix2 ⟨t.val * 128 + p.val - 32, by have := lt_of_lt_of_eq t.isLt N_0; omega⟩ ⟨l.val, by omega⟩) := by
  refine Eq.trans ?_ (v0_at m c _)
  blk_ext [iblk, idx t]
theorem blk5 (c : Dev nD) (t : Fin cfg0.N) (h : t.val ≠ 0) (p : Fin 32) (l : Fin 512) :
    (iblk m c 5 t : FVec Ideal S32x512 .bf16) (ix2 p l)
      = Z m c (ix2 ⟨t.val * 128 + p.val - 32, by have := lt_of_lt_of_eq t.isLt N_0; omega⟩ ⟨512 + l.val, by omega⟩) := by
  refine Eq.trans ?_ (v0_at m c _)
  blk_ext [iblk, idx t]
theorem blk6 (c : Dev nD) (t : Fin cfg0.N) (k : Fin 31) (l : Fin 512) :
    (iblk m c 6 t : FVec Ideal S31x512 .f32) (ix2 k l) = W m c (ix2 k l) := by
  blk_point [iblk, V, idx t]

/-- The cotangent's scratch at point `t` holds the rows from row `128 t` on. -/
theorem dyP_at (c : Dev nD) (t : Fin cfg0.N) (r : Fin 160) (l : Fin 512) :
    View.canon (dyP (grid0.coords t) (iblk m c 0 t) (iblk m c 1 t)) (ix2 r l) = dz (D m c) (t.val * 128 + r.val) l := by
  have ht := lt_of_lt_of_eq t.isLt N_0
  have := View.canon_append_of_piecesOf (fun y : S160x512.Idx => dz (D m c) (t.val * 128 + (y 0).val) (y 1)) []
    (dyP (grid0.coords t) (iblk m c 0 t) (iblk m c 1 t)) ⟨fun x => ?_, fun x => ?_, trivial⟩ (ix2 r l) ?_
  · rw [List.append_nil] at this; exact this
  · obtain ⟨p, l, rfl⟩ : ∃ (p : Fin 32) (l : Fin 512), x = ix2 p l := ⟨x 0, x 1, eq_ix2 x⟩
    refine (pay6_at t _ p l).trans ?_
    have he : (Rect.unit (s := S160x512) ![128, 0] S32x512.size inb_S160x512_S32x512_128_0).emb (ix2 p l)
        = ix2 (⟨128 + p.val, by omega⟩ : Fin 160) l := by
      funext a
      match a with
      | ⟨0, _⟩ => exact Fin.ext (show 128 + 1 * p.val = 128 + p.val by omega)
      | ⟨1, _⟩ => exact Fin.ext (show 0 + 1 * l.val = l.val by omega)
    refine Eq.trans ?_ (congrArg (fun y : S160x512.Idx => dz (D m c) (t.val * 128 + (y 0).val) (y 1)) he).symm
    by_cases h : t.val = 31
    · rw [if_pos h]
      show 0 = dz (D m c) (t.val * 128 + (128 + p.val)) l
      unfold dz
      rw [dif_neg (by omega)]
    · rw [if_neg h]
      exact blk1 m c t h p l
  · obtain ⟨p, l, rfl⟩ : ∃ (p : Fin 128) (l : Fin 512), x = ix2 p l := ⟨x 0, x 1, eq_ix2 x⟩
    have he : (Rect.unit (s := S160x512) ![0, 0] S128x512.size inb_S160x512_S128x512_0_0).emb (ix2 p l)
        = ix2 (⟨p.val, by omega⟩ : Fin 160) l := by
      funext a
      match a with
      | ⟨0, _⟩ => exact Fin.ext (show 0 + 1 * p.val = p.val by omega)
      | ⟨1, _⟩ => exact Fin.ext (show 0 + 1 * l.val = l.val by omega)
    refine Eq.trans ?_ (congrArg (fun y : S160x512.Idx => dz (D m c) (t.val * 128 + (y 0).val) (y 1)) he).symm
    exact (pay5_at _ p l).trans (blk0 m c t p l)
  · by_cases h : r.val < 128
    · refine ⟨_, List.mem_cons_of_mem _ List.mem_cons_self, ?_⟩
      rw [Rect.mem_set_unit]
      intro a
      match a with
      | ⟨0, _⟩ => exact ⟨Nat.zero_le _, by show r.val < 0 + 128; omega⟩
      | ⟨1, _⟩ => exact ⟨Nat.zero_le _, by show l.val < 0 + 512; omega⟩
    · refine ⟨_, List.mem_cons_self, ?_⟩
      rw [Rect.mem_set_unit]
      intro a
      match a with
      | ⟨0, _⟩ => exact ⟨by show 128 ≤ r.val; omega, by show r.val < 128 + 32; omega⟩
      | ⟨1, _⟩ => exact ⟨Nat.zero_le _, by show l.val < 0 + 512; omega⟩

/-- The gated input's scratch at point `t` holds the rows from 32 before row `128 t` on. -/
theorem ugP_at (c : Dev nD) (t : Fin cfg0.N) (r : Fin 160) (l : Fin 512) :
    View.canon (ugP (grid0.coords t) (iblk m c 2 t) (iblk m c 3 t) (iblk m c 4 t) (iblk m c 5 t)) (ix2 r l)
      = uz (Z m c) (t.val * 128 + r.val) l := by
  have ht := lt_of_lt_of_eq t.isLt N_0
  have := View.canon_append_of_piecesOf (fun y : S160x512.Idx => uz (Z m c) (t.val * 128 + (y 0).val) (y 1)) []
    (ugP (grid0.coords t) (iblk m c 2 t) (iblk m c 3 t) (iblk m c 4 t) (iblk m c 5 t))
    ⟨fun x => ?_, fun x => ?_, trivial⟩ (ix2 r l) ?_
  · rw [List.append_nil] at this; exact this
  · obtain ⟨p, l, rfl⟩ : ∃ (p : Fin 128) (l : Fin 512), x = ix2 p l := ⟨x 0, x 1, eq_ix2 x⟩
    have he : (Rect.unit (s := S160x512) ![32, 0] S128x512.size inb_S160x512_S128x512_32_0).emb (ix2 p l)
        = ix2 (⟨32 + p.val, by omega⟩ : Fin 160) l := by
      funext a
      match a with
      | ⟨0, _⟩ => exact Fin.ext (show 32 + 1 * p.val = 32 + p.val by omega)
      | ⟨1, _⟩ => exact Fin.ext (show 0 + 1 * l.val = l.val by omega)
    refine Eq.trans ?_ (congrArg (fun y : S160x512.Idx => uz (Z m c) (t.val * 128 + (y 0).val) (y 1)) he).symm
    refine (pay4_at _ _ p l).trans ?_
    show _ = uz (Z m c) (t.val * 128 + (32 + p.val)) l
    unfold uz
    rw [dif_pos (by omega)]
    refine (congrArg₂ (fun a b : EReal => a * Ideal.logistic b) (blk2 m c t p l) (blk3 m c t p l)).trans ?_
    have e : (⟨t.val * 128 + p.val, by omega⟩ : Fin 4096) = ⟨t.val * 128 + (32 + p.val) - 32, by omega⟩ :=
      Fin.ext (by show t.val * 128 + p.val = t.val * 128 + (32 + p.val) - 32; omega)
    rw [e]
  · obtain ⟨p, l, rfl⟩ : ∃ (p : Fin 32) (l : Fin 512), x = ix2 p l := ⟨x 0, x 1, eq_ix2 x⟩
    have he : (Rect.unit (s := S160x512) ![0, 0] S32x512.size inb_S160x512_S32x512_0_0).emb (ix2 p l)
        = ix2 (⟨p.val, by omega⟩ : Fin 160) l := by
      funext a
      match a with
      | ⟨0, _⟩ => exact Fin.ext (show 0 + 1 * p.val = p.val by omega)
      | ⟨1, _⟩ => exact Fin.ext (show 0 + 1 * l.val = l.val by omega)
    refine Eq.trans ?_ (congrArg (fun y : S160x512.Idx => uz (Z m c) (t.val * 128 + (y 0).val) (y 1)) he).symm
    refine (pay1_at t _ _ p l).trans ?_
    show _ = uz (Z m c) (t.val * 128 + p.val) l
    unfold uz
    by_cases h : t.val = 0
    · rw [if_pos h, dif_neg (by omega)]
    · rw [if_neg h, dif_pos (by omega)]
      exact congrArg₂ (fun a b : EReal => a * Ideal.logistic b) (blk4 m c t h p l) (blk5 m c t h p l)
  · by_cases h : r.val < 32
    · refine ⟨_, List.mem_cons_of_mem _ List.mem_cons_self, ?_⟩
      rw [Rect.mem_set_unit]
      intro a
      match a with
      | ⟨0, _⟩ => exact ⟨Nat.zero_le _, by show r.val < 0 + 32; omega⟩
      | ⟨1, _⟩ => exact ⟨Nat.zero_le _, by show l.val < 0 + 512; omega⟩
    · refine ⟨_, List.mem_cons_self, ?_⟩
      rw [Rect.mem_set_unit]
      intro a
      match a with
      | ⟨0, _⟩ => exact ⟨by show 32 ≤ r.val; omega, by show r.val < 32 + 128; omega⟩
      | ⟨1, _⟩ => exact ⟨Nat.zero_le _, by show l.val < 0 + 512; omega⟩

/-- The input gradient at row `n`: the kernel's sums, in terms of the arguments. -/
def dzAt (c : Dev nD) (n : Fin 4096) (q : Fin 1024) : EReal :=
  dzOf (fun k l => W m c (ix2 k l)) (dz (D m c)) (fun l => Z m c (ix2 n ⟨l.val, by omega⟩))
    (fun l => Z m c (ix2 n ⟨512 + l.val, by omega⟩)) n.val q

/-- The row of the array that row `p` of block `t` is. -/
abbrev rw128 (t : Fin cfg0.N) (p : Fin 128) : Fin 4096 :=
  ⟨t.val * 128 + p.val, by have := lt_of_lt_of_eq t.isLt N_0; omega⟩

theorem dzOf_shift (w : Fin 31 → Fin 512 → EReal) (f : ℕ → Fin 512 → EReal) (a g : Fin 512 → EReal) (o r : ℕ) (q : Fin 1024) :
    dzOf w (fun n => f (o + n)) a g r q = dzOf w f a g (o + r) q := by
  have h : ∀ l, accRow w (fun n => f (o + n)) r l = accRow w f (o + r) l := by
    intro l
    unfold accRow
    refine Finset.sum_congr rfl fun j _ => ?_
    show _ * f (o + (r + 30 - j.val)) l = _
    rw [show o + (r + 30 - j.val) = o + r + 30 - j.val by omega]
  unfold dzOf
  simp only [h]

/-- A point leaves its block of the input gradient. -/
theorem out7 (c : Dev nD) (t : Fin cfg0.N) (p : Fin 128) (q : Fin 1024) :
    (outsAt0 m c t.val t.isLt).1 (ix2 p q) = dzAt m c (rw128 t p) q := by
  have key : dzOf (fun k l => (iblk m c 6 t : FVec Ideal S31x512 .f32) (ix2 k l)) (fun n => dz (D m c) (t.val * 128 + n))
      (fun l => (iblk m c 2 t : FVec Ideal S128x512 .bf16) (ix2 p l)) (fun l => (iblk m c 3 t : FVec Ideal S128x512 .bf16) (ix2 p l))
      p.val q = dzAt m c (rw128 t p) q := by
    rw [dzOf_shift]
    unfold dzAt
    simp only [blk2, blk3, blk6]
  refine Eq.trans ?_ key
  by_cases h : t.val % 32 = 0
  · rw [outsAt0_A m c t h]
    dsimp only
    unfold out0_A_7
    rw [run7_A, View.read_writes_junk_eq_canon]
    simp (disch := decide) only [View.readAt_eq_ld, Memref.IsWhole.read_unread, View.ld_unit_lit']
    exact qL_at _ _ _ _ _ _ _ (dyP_at m c t) _ _ p q
  · rw [outsAt0_B m c t h]
    dsimp only
    unfold out0_B_7
    rw [run7_B, View.read_writes_junk_eq_canon]
    simp (disch := decide) only [View.readAt_eq_ld, Memref.IsWhole.read_unread, View.ld_unit_lit']
    exact qL_at _ _ _ _ _ _ _ (dyP_at m c t) _ _ p q

/-- The kernel leaves the input gradient in its first result. -/
theorem final7 (c : Dev nD) : (dats m 0 c).arrAt 7 (cfgs 0).N = fun i : S4096x1024.Idx => dzAt m c (i 0) (i 1) := by
  refine (dats m 0 c).arrAt_eq_of_covers 7 _ (by decide +kernel) fun t _ y => ?_
  blk_simp
  rw [after0_7]
  obtain ⟨p, q, rfl⟩ : ∃ (p : Fin 128) (q : Fin 1024), y = ix2 p q := ⟨y 0, y 1, eq_ix2 y⟩
  refine (out7 m c t p q).trans (congrArg₂ (dzAt m c) (Fin.ext ?_) (Fin.ext ?_))
  · blk_simp [idx t]
  · blk_simp [idx t]; try omega

/-- The last point. -/
abbrev tLast : Fin cfg0.N := ⟨31, by rw [show cfg0.N = 32 from N_0]; decide⟩

/-- What point `t` adds to row `R` of the accumulator of the weight gradient, and the sum over the points. -/
def ptW (c : Dev nD) (t : Fin cfg0.N) (R : Fin 248) (l : Fin 512) : EReal :=
  ∑ b : Fin 4, strip (fun n => dz (D m c) (t.val * 128 + n)) (fun n => uz (Z m c) (t.val * 128 + n)) b.val (R.val / 8)
    ⟨R.val % 8, Nat.mod_lt _ (by decide)⟩ l
def sumW (c : Dev nD) : FVec Ideal S248x512 .f32 := fun i => ∑ t : Fin cfg0.N, ptW m c t (i 0) (i 1)

theorem out8_A (c : Dev nD) (t : Fin cfg0.N) (h : t.val % 32 = 0) (r : Fin 248) (l : Fin 512) :
    (outsAt0 m c t.val t.isLt).2 (ix2 r l) = ptW m c t r l := by
  rw [outsAt0_A m c t h]
  dsimp only
  unfold out0_A_8
  rw [run8_A]
  simp (disch := decide) only [View.readAt_eq_ld, Memref.IsWhole.read_unread, View.ld_unit_lit']
  unfold ptW
  exact dw_first (ms0_8 t) scM0_0.view scM0_2.view _ _ (ugP_at m c t) scM0_1.view _ _ (dyP_at m c t) r l

theorem out8_B (c : Dev nD) (t : Fin cfg0.N) (h : ¬t.val % 32 = 0) (r : Fin 248) (l : Fin 512) :
    (outsAt0 m c t.val t.isLt).2 (ix2 r l)
      = (outsAt0 m c (t.val - 1) (Nat.lt_of_le_of_lt (Nat.sub_le _ _) t.isLt)).2 (ix2 r l) + ptW m c t r l := by
  rw [outsAt0_B m c t h]
  dsimp only
  unfold out0_B_8
  rw [run8_B]
  generalize (outsAt0 m c (t.val - 1) (Nat.lt_of_le_of_lt (Nat.sub_le _ _) t.isLt)).2 = prev
  simp (disch := decide) only [View.readAt_eq_ld, Memref.IsWhole.read_unread, View.ld_unit_lit']
  unfold ptW
  exact dw_next (ms0_8 t) scM0_0.view scM0_2.view _ _ (ugP_at m c t) scM0_1.view _ _ (dyP_at m c t) prev r l

theorem final8 (c : Dev nD) : (dats m 0 c).arrAt 8 (cfgs 0).N = sumW m c := by
  refine (dats m 0 c).arrAt_eq_of_after_last 8 tLast (by decide +kernel) _ fun j => ?_
  blk_simp
  obtain ⟨r, l, rfl⟩ : ∃ (r : Fin 248) (l : Fin 512), j = ix2 r l := ⟨j 0, j 1, eq_ix2 j⟩
  rw [after0_8]
  refine (Pipeline.eq_sum_fin_of_reset_step_apply_last (fun n h => (outsAt0 m c n h).2) 32 (fun _ => (0 : EReal))
    (fun t (i : S248x512.Idx) => ptW m c t (i 0) (i 1)) ?_ ?_ (le_of_eq N_0) tLast rfl _).trans (zero_add _)
  · intro t h j
    obtain ⟨r, l, rfl⟩ : ∃ (r : Fin 248) (l : Fin 512), j = ix2 r l := ⟨j 0, j 1, eq_ix2 j⟩
    exact (out8_A m c t h r l).trans (zero_add _).symm
  · intro t h j
    obtain ⟨r, l, rfl⟩ : ∃ (r : Fin 248) (l : Fin 512), j = ix2 r l := ⟨j 0, j 1, eq_ix2 j⟩
    exact out8_B m c t h r l

end Cert.Conv

end
-- ==== Proof.ConvRef.lean ====
/- The gradient of the gated depthwise convolution as its reference computes it, row by row. -/
module

public import proofs.«01_k».proof.Proof.ConvValue
public import Idealize.ShloMosaic.Lib.KernelVsHost
public import proofs.«01_k».proof.Proof.Gen.Reference9Ideal.Read

@[expose] public section

set_option maxRecDepth 16384

noncomputable section

namespace Cert.Conv

open Idealize.ShloMosaic Idealize.ShloMosaic.TcCoe Idealize.SL.Sem

/-! ### The reference, row by row -/

section Reference
open Cert.Reference9Ideal Cert.Reference9Ideal.Gen Cert.Reference9Ideal.Read

variable (d : FVec Ideal S4096x512 .f32) (z : FVec Ideal S4096x3584 .f32) (w : FVec Ideal S31x512 .f32)

theorem r_a (n : Fin 4096) (l : Fin 512) : val_main_v1 (F := Ideal) z (ix2 n l) = z (ix2 n ⟨l.val, by omega⟩) := by
  pointwise [val_main_v1, val_main_v0]
theorem r_sig (n : Fin 4096) (l : Fin 512) :
    val_main_v8 (F := Ideal) z (ix2 n l) = Ideal.logistic (z (ix2 n ⟨512 + l.val, by omega⟩)) := by
  pointwise [val_main_v8, val_main_v7, val_main_v6, val_main_v5, val_main_v4, val_main_v3, val_main_v2, val_main_v0,
    val_main_cst, val_main_cst_0]
  rfl
theorem r_der (n : Fin 4096) (l : Fin 512) : val_main_v11 (F := Ideal) z (ix2 n l)
    = Ideal.logistic (z (ix2 n ⟨512 + l.val, by omega⟩)) * (1 - Ideal.logistic (z (ix2 n ⟨512 + l.val, by omega⟩))) := by
  pointwise [val_main_v11, val_main_v10, val_main_v9, val_main_cst_1, r_sig]
/-- The gated input with the rows of zeros before it. -/
theorem r_up (n : Fin 4126) (l : Fin 512) : val_main_v14 (F := Ideal) z (ix2 n l) = uz z (n.val + 2) l := by
  pointwise [val_main_v14, val_main_v13, val_main_v12, val_main_cst_2, r_a, r_sig]
  unfold uz
  have := n.isLt
  by_cases h : n.val < 30
  · rw [dif_pos h, dif_neg (by omega)]
  · have e : (⟨n.val - 30, by omega⟩ : Fin 4096) = ⟨n.val + 2 - 32, by omega⟩ := Fin.ext (by simp only; omega)
    rw [dif_neg h, dif_pos (by omega)]
    simp only [e]

/-! ### The windows -/

theorem slicesW {k : ℕ} (h : k < 31) : S4126x512.Slices ![k, 0] S4096x512 := by
  refine ⟨rfl, fun a => ?_⟩
  match a with
  | ⟨0, _⟩ => show k + 4096 ≤ 4126; omega
  | ⟨1, _⟩ => show 0 + 512 ≤ 512; omega

/-- The rows under tap `k`. -/
def winRow (x : FVec Ideal S4126x512 .f32) (k : ℕ) (h : k < 31) : FVec Ideal S4096x512 .f32 :=
  extractStridedSlice S4096x512 ![k, 0] x (slicesW h)

theorem winRow_at (x : FVec Ideal S4126x512 .f32) (k : ℕ) (h : k < 31) (n : Fin 4096) (l : Fin 512) :
    winRow x k h (ix2 n l) = x (ix2 ⟨k + n.val, by omega⟩ l) := by
  unfold winRow
  refine extractStridedSlice_apply ![k, 0] x (slicesW h) (ix2 n l) (ix2 ⟨k + n.val, by omega⟩ l) fun a => ?_
  match a with
  | ⟨0, _⟩ => rfl
  | ⟨1, _⟩ => show l.val = 0 + l.val; omega

theorem concatW16 {f : Fin 16 → S4096x512.Idx → EReal} : Shape.Concatenates
    ((List.ofFn fun k : Fin 16 => (⟨S4096x512, f k⟩ : (s : Shape) × (s.Idx → EReal))).map (·.1)) S65536x512 0 := by
  rw [List.map_ofFn]
  exact concatenates_S4096x512_S4096x512_S4096x512_S4096x512_S4096x512_S4096x512_S4096x512_S4096x512_S4096x512_S4096x512_S4096x512_S4096x512_S4096x512_S4096x512_S4096x512_S4096x512_S65536x512_d0
theorem concatW15 {f : Fin 15 → S4096x512.Idx → EReal} : Shape.Concatenates
    ((List.ofFn fun k : Fin 15 => (⟨S4096x512, f k⟩ : (s : Shape) × (s.Idx → EReal))).map (·.1)) S61440x512 0 := by
  rw [List.map_ofFn]
  exact concatenates_S4096x512_S4096x512_S4096x512_S4096x512_S4096x512_S4096x512_S4096x512_S4096x512_S4096x512_S4096x512_S4096x512_S4096x512_S4096x512_S4096x512_S4096x512_S61440x512_d0
theorem v47_ofFn : val_main_v47 (F := Ideal) z = concatenate S65536x512 0
    (List.ofFn fun k : Fin 16 => (⟨S4096x512, winRow (val_main_v14 (F := Ideal) z) k.val (by omega)⟩ : (s : Shape) × (s.Idx → EReal)))
    concatW16 := rfl
theorem v48_ofFn : val_main_v48 (F := Ideal) z = concatenate S61440x512 0
    (List.ofFn fun k : Fin 15 => (⟨S4096x512, winRow (val_main_v14 (F := Ideal) z) (16 + k.val) (by omega)⟩ : (s : Shape) × (s.Idx → EReal)))
    concatW15 := rfl

theorem v47_at (r : Fin 65536) (k : Fin 16) (n : Fin 4096) (l : Fin 512) (hr : r.val = 4096 * k.val + n.val) :
    val_main_v47 (F := Ideal) z (ix2 r l) = winRow (val_main_v14 (F := Ideal) z) k.val (by omega) (ix2 n l) := by
  rw [v47_ofFn]
  refine concatenate_ofFn_apply (0 : Fin S65536x512.rank) (fun k : Fin 16 => winRow (val_main_v14 (F := Ideal) z) k.val (by omega)) _ rfl 4096 rfl
    (ix2 r l) k ?_ (ix2 n l) ?_ fun b hb => ?_
  · show r.val / 4096 = k.val; omega
  · show n.val = r.val % 4096; omega
  · match b with
    | ⟨0, _⟩ => exact absurd rfl hb
    | ⟨1, _⟩ => rfl
theorem v48_at (r : Fin 61440) (k : Fin 15) (n : Fin 4096) (l : Fin 512) (hr : r.val = 4096 * k.val + n.val) :
    val_main_v48 (F := Ideal) z (ix2 r l) = winRow (val_main_v14 (F := Ideal) z) (16 + k.val) (by omega) (ix2 n l) := by
  rw [v48_ofFn]
  refine concatenate_ofFn_apply (0 : Fin S61440x512.rank) (fun k : Fin 15 => winRow (val_main_v14 (F := Ideal) z) (16 + k.val) (by omega)) _ rfl 4096 rfl
    (ix2 r l) k ?_ (ix2 n l) ?_ fun b hb => ?_
  · show r.val / 4096 = k.val; omega
  · show n.val = r.val % 4096; omega
  · match b with
    | ⟨0, _⟩ => exact absurd rfl hb
    | ⟨1, _⟩ => rfl

/-- The windows as the reference stacks them: row `n` under tap `k`. -/
theorem r_win (k : Fin 31) (n : Fin 4096) (l : Fin 512) :
    val_main_v50 (F := Ideal) z (ix3 k n l) = uz z (k.val + n.val + 2) l := by
  have hk := k.isLt
  have hn := n.isLt
  refine Eq.trans ?_ ((winRow_at (val_main_v14 (F := Ideal) z) k.val k.isLt n l).trans (r_up z ⟨k.val + n.val, by omega⟩ l))
  pointwise [val_main_v50, val_main_v49]
  by_cases h : k.val * 4096 + n.val < 65536
  · rw [dif_pos h]
    exact v47_at z _ ⟨k.val, by omega⟩ n l (by simp only; omega)
  · have e : (⟨16 + (k.val - 16) + n.val, by omega⟩ : Fin 4126) = ⟨k.val + n.val, by omega⟩ := Fin.ext (by simp only; omega)
    rw [dif_neg h, v48_at z _ ⟨k.val - 16, by omega⟩ n l (by simp only; omega), winRow_at, winRow_at]
    simp only [e]

/-! ### The gradient of the taps -/

theorem r_v58 (k : Fin 31) (n : Fin 4096) (l : Fin 512) :
    val_main_v58 (F := Ideal) d z (ix3 k n l) = dz d n.val l * uz z (k.val + n.val + 2) l := by
  pointwise [val_main_v58, val_main_v55, r_win]
  unfold dz
  rw [dif_pos n.isLt]
theorem r_v59 (k : Fin 31) (l : Fin 512) : val_main_v59 (F := Ideal) d z (ix2 k l)
    = ∑ n : Fin 4096, dz d n.val l * uz z (k.val + n.val + 2) l := by
  rw [val_main_v59_apply]
  refine (congrArg (· + _) (show val_main_cst_5 (F := Ideal) _ = (0 : EReal) by pointwise [val_main_cst_5])).trans ((zero_add _).trans ?_)
  refine Finset.sum_congr rfl fun n _ => Eq.trans (congrArg (val_main_v58 (F := Ideal) d z) (funext fun a => ?_)) (r_v58 d z k n l)
  match a with
  | ⟨0, _⟩ => rfl
  | ⟨1, _⟩ => rfl
  | ⟨2, _⟩ => rfl
theorem r_v60 (k : Fin 31) (o : Fin 1) (l : Fin 512) :
    val_main_v60 (F := Ideal) d z (ix3 k o l) = val_main_v59 (F := Ideal) d z (ix2 k l) := by
  pointwise [val_main_v60]
theorem r_dw (k : Fin 31) (l : Fin 512) : val_main_v61 (F := Ideal) d z (ix2 k l)
    = ∑ n : Fin 4096, dz d n.val l * uz z (k.val + n.val + 2) l := by
  pointwise [val_main_v61, val_main_cst_6, r_v60, r_v59]
  rw [Fin.sum_univ_one]

/-! ### The gradient of the gated input -/

theorem slicesP {k : ℕ} (h : k < 31) : S126976x512.Slices ![4096 * k, 0] S4096x512 := by
  refine ⟨rfl, fun a => ?_⟩
  match a with
  | ⟨0, _⟩ => show 4096 * k + 4096 ≤ 126976; omega
  | ⟨1, _⟩ => show 0 + 512 ≤ 512; omega
theorem padsP {k : ℕ} (h : k < 31) : S4096x512.Pads ![k, 0] ![30 - k, 0] ![0, 0] S4126x512 := by
  refine ⟨rfl, fun a => ?_⟩
  match a with
  | ⟨0, _⟩ => show 4126 = k + 4096 + 0 * (4096 - 1) + (30 - k); omega
  | ⟨1, _⟩ => rfl

/-- The share of tap `k`, put back at the rows it read. -/
def tapP (x : FVec Ideal S126976x512 .f32) (k : ℕ) (h : k < 31) : FVec Ideal S4126x512 .f32 :=
  pad S4126x512 ![k, 0] ![30 - k, 0] ![0, 0] (extractStridedSlice S4096x512 ![4096 * k, 0] x (slicesP h)) (val_main_cst_7 (F := Ideal)) (padsP h) h_S_
/-- The shares of the last `n + 1` taps, added from the last tap on. -/
def tapAcc (x : FVec Ideal S126976x512 .f32) : (n : ℕ) → n < 31 → FVec Ideal S4126x512 .f32
  | 0, _ => tapP x 30 (by decide)
  | n + 1, h => addf (tapAcc x n (by omega)) (tapP x (30 - (n + 1)) (by omega))

theorem v154_acc : val_main_v154 (F := Ideal) d w = tapAcc (val_main_v62 (F := Ideal) d w) 30 (by decide) := by
  sl_kernel_rfl

theorem r_prod (k : Fin 31) (n : Fin 4096) (l : Fin 512) (r : Fin 126976) (hr : r.val = 4096 * k.val + n.val) :
    val_main_v62 (F := Ideal) d w (ix2 r l) = w (ix2 k l) * d (ix2 n l) := by
  pointwise [val_main_v62, val_main_v57, val_main_v56, val_main_v55, val_main_v51]
  have e : (⟨r.val / 4096, by omega⟩ : Fin 31) = k := Fin.ext (by simp only; omega)
  have e' : (⟨r.val % 4096, by omega⟩ : Fin 4096) = n := Fin.ext (by simp only; omega)
  rw [e, e']

theorem tapP_at (k : ℕ) (h : k < 31) (n : Fin 4096) (l : Fin 512) :
    tapP (val_main_v62 (F := Ideal) d w) k h (ix2 ⟨n.val + 30, by omega⟩ l) = w (ix2 ⟨k, h⟩ l) * dz d (n.val + 30 - k) l := by
  unfold tapP dz
  by_cases hn : n.val + 30 - k < 4096
  · rw [dif_pos hn]
    refine (pad_apply_of_inside _ _ _ _ _ _ _ (ix2 ⟨n.val + 30, by omega⟩ l) (ix2 ⟨n.val + 30 - k, hn⟩ l) fun a => ?_).trans ?_
    · match a with
      | ⟨0, _⟩ => show n.val + 30 = k + (n.val + 30 - k) * (0 + 1); omega
      | ⟨1, _⟩ => show l.val = 0 + l.val * (0 + 1); omega
    · refine (extractStridedSlice_apply ![4096 * k, 0] _ (slicesP h) _ (ix2 ⟨4096 * k + (n.val + 30 - k), by omega⟩ l) fun a => ?_).trans
        (r_prod d w ⟨k, h⟩ ⟨n.val + 30 - k, hn⟩ l _ rfl)
      match a with
      | ⟨0, _⟩ => rfl
      | ⟨1, _⟩ => show l.val = 0 + l.val; omega
  · rw [dif_neg hn, mul_zero]
    refine (pad_apply_of_not_inside _ _ _ _ _ _ _ (ix2 ⟨n.val + 30, by omega⟩ l) 0 fun hin => hn ?_).trans ?_
    · have := hin.2.2
      have h2 : (n.val + 30 - k) / (0 + 1) < 4096 := this
      omega
    · pointwise [val_main_cst_7]

theorem tapAcc_at (n : ℕ) (h : n < 31) (r : Fin 4096) (l : Fin 512) :
    tapAcc (val_main_v62 (F := Ideal) d w) n h (ix2 ⟨r.val + 30, by omega⟩ l)
      = ∑ j : Fin (n + 1), w (ix2 ⟨30 - j.val, by omega⟩ l) * dz d (r.val + 30 - (30 - j.val)) l := by
  induction n with
  | zero => rw [Fin.sum_univ_one]; exact tapP_at d w 30 _ r l
  | succ n ih =>
    rw [Fin.sum_univ_castSucc, tapAcc]
    pointwise [ih (by omega), tapP_at d w (30 - (n + 1)) (by omega) r l]
    rfl

theorem r_acc (n : Fin 4096) (l : Fin 512) :
    val_main_v156 (F := Ideal) d w (ix2 n l) = accRow (fun k l => w (ix2 k l)) (dz d) n.val l := by
  pointwise [val_main_v156]
  have e : (⟨30 + n.val, by omega⟩ : Fin 4126) = ⟨n.val + 30, by omega⟩ := Fin.ext (Nat.add_comm _ _)
  rw [v154_acc, e, tapAcc_at]
  refine Eq.trans (Finset.sum_congr rfl fun j _ => ?_) (Equiv.sum_comp Fin.revPerm fun j : Fin 31 => w (ix2 j l) * dz d (n.val + 30 - j.val) l)
  have e : (⟨30 - j.val, by omega⟩ : Fin 31) = Fin.revPerm j := Fin.ext (by simp only [Fin.revPerm_apply, Fin.val_rev]; omega)
  rw [← e]

theorem r_dz (n : Fin 4096) (q : Fin 1024) : val_main_v163 (F := Ideal) d z w (ix2 n q)
    = dzOf (fun k l => w (ix2 k l)) (dz d) (fun l => z (ix2 n ⟨l.val, by omega⟩)) (fun l => z (ix2 n ⟨512 + l.val, by omega⟩)) n.val q := by
  pointwise [val_main_v163, val_main_v162, val_main_v161, val_main_v160, val_main_v159, val_main_v158, val_main_v157, r_acc, r_sig, r_der, r_a]
  unfold dzOf
  by_cases h : q.val < 512
  · rw [dif_pos h, dif_pos h]
  · rw [dif_neg h, dif_neg h, mul_comm (z _), mul_assoc _ (Ideal.logistic _)]

end Reference

end Cert.Conv

end
-- ==== Proof.ConvAlgebra.lean ====
/- The backward of the gated depthwise convolution: what the kernel's program returns is the reference's gradient. -/
module

public import proofs.«01_k».proof.Proof.ConvRef
public import proofs.«01_k».proof.Proof.Sums

@[expose] public section

set_option maxRecDepth 16384

noncomputable section

namespace Cert.Conv

open Idealize.ShloMosaic Idealize.ShloMosaic.TcCoe Idealize.SL.Sem

/-! ### The results of the kernel's program -/

section Kernel
open Cert.Kernel9Ideal Cert.Kernel9Ideal.Gen

variable (m : (ℓ : Loc nD τ sig) → Buf (Elt Ideal) ℓ)

/-- The weight gradient's eight partial rows of a tap, which the host lines sum. -/
theorem host3 (c : Dev nD) (k : Fin 31) (l : Fin 512) :
    (Pipeline.afterTail₀ cfgs (dats m) 0 (V0 m) [hostOps1] c main_v3 : FVec Ideal S31x512 .f32) (ix2 k l)
      = ∑ r : Fin 8, sumW m c (ix2 ⟨k.val * 8 + r.val, by omega⟩ l) := by
  unfold Pipeline.afterTail₀
  after_reads_at
  erw [(dats m 0 c).withArrays_arrAt sharedIn0 (V0 m c) (fun w => A_eq m c w) 8]
  rw [final8]

/-- The block of a point, as one sum over the rows that share a remainder. -/
theorem ptW_at (c : Dev nD) (t : Fin cfg0.N) (k : Fin 31) (r : Fin 8) (l : Fin 512) :
    ptW m c t ⟨k.val * 8 + r.val, by omega⟩ l
      = ∑ p : Fin 16, dz (D m c) (t.val * 128 + (p.val * 8 + r.val)) l
          * uz (Z m c) (k.val + (t.val * 128 + (p.val * 8 + r.val)) + 2) l := by
  have e : (⟨(k.val * 8 + r.val) % 8, Nat.mod_lt _ (by decide)⟩ : Fin 8) = r := Fin.ext (by simp only; omega)
  unfold ptW strip
  simp only [e, show (k.val * 8 + r.val) / 8 = k.val by omega]
  refine Eq.trans ?_ (Fin.sum_mul_add_fin 4 4 (fun p : Fin 16 => dz (D m c) (t.val * 128 + (p.val * 8 + r.val)) l
          * uz (Z m c) (k.val + (t.val * 128 + (p.val * 8 + r.val)) + 2) l) rfl)
  refine Finset.sum_congr rfl fun b _ => Finset.sum_congr rfl fun q _ => ?_
  refine congrArg₂ (· * ·) (congrArg (fun n => dz (D m c) n l) ?_) (congrArg (fun n => uz (Z m c) n l) ?_)
  · simp only; omega
  · simp only; omega

/-- The eight partial rows of a tap add up to the sum over all rows. -/
theorem sumW_rows (c : Dev nD) (k : Fin 31) (l : Fin 512) : ∑ r : Fin 8, sumW m c (ix2 ⟨k.val * 8 + r.val, by omega⟩ l)
    = ∑ n : Fin 4096, dz (D m c) n.val l * uz (Z m c) (k.val + n.val + 2) l := by
  refine Eq.trans ?_ (Sums.sum_rows (N := cfg0.N) (P := 16) (L := 128)
    (fun n : Fin 4096 => dz (D m c) n.val l * uz (Z m c) (k.val + n.val + 2) l) rfl rfl)
  refine Finset.sum_congr rfl fun r _ => Finset.sum_congr rfl fun t _ => ?_
  exact ptW_at m c t k r l

end Kernel

/-! ### The results agree -/

section Agree
open Cert.Reference9Ideal.Read

variable (m : (ℓ : Loc Cert.Kernel9Ideal.nD Cert.Kernel9Ideal.τ Cert.Kernel9Ideal.sig) → Buf (Elt Ideal) ℓ)
  (c : Dev Cert.Kernel9Ideal.nD)

/-- The gradient of the gated input. -/
theorem res_dz : (fun i : Cert.Kernel9Ideal.S4096x1024.Idx => dzAt m c (i 0) (i 1))
    = val_main_v163 (F := Ideal) (D m c) (Z m c) (W m c) := by
  funext y
  obtain ⟨p, q, rfl⟩ : ∃ (p : Fin 4096) (q : Fin 1024), y = ix2 p q := ⟨y 0, y 1, eq_ix2 y⟩
  exact (r_dz _ _ _ p q).symm

/-- The gradient of the taps. -/
theorem res_dw (k : Fin 31) (l : Fin 512) : ∑ r : Fin 8, sumW m c (ix2 ⟨k.val * 8 + r.val, by omega⟩ l)
    = val_main_v61 (F := Ideal) (D m c) (Z m c) (ix2 k l) :=
  (sumW_rows m c k l).trans (r_dw _ _ k l).symm

end Agree

end Cert.Conv

end
-- ==== Proof.ConvClaim.lean ====
/- The claims of the backward of the gated depthwise convolution: the two runs joined to the values. -/
module

public import proofs.«01_k».proof.Proof.ConvAlgebra
public import proofs.«01_k».proof.Proof.Gen.Reference9Ideal.Run
public import proofs.«01_k».proof.Defs
public import Idealize.ShloMosaic.Adequacy

@[expose] public section

set_option maxRecDepth 16384

noncomputable section

namespace Cert.Conv

open Idealize.ShloMosaic Idealize.ShloMosaic.TcCoe Idealize.SL.Sem
open Cert.Reference9Ideal.Read

section Kernel
open Cert.Kernel9Ideal Cert.Kernel9Ideal.Gen

variable (m : (ℓ : Loc nD τ sig) → Buf (Elt Ideal) ℓ) (ρ : Dev nD → PrngReg)

/-- The kernel's program ends with the reference's values and its arguments unchanged. -/
theorem run :
    θ_run defs (onTc (τ := τ) (main (F := Ideal))) ⟨m, fun _ => 0, ρ⟩ (fun r => ∀ c : Dev nD,
      r.2.mem (c.tc.loc main_v1_0) = val_main_v163 (F := Ideal) (D m c) (Z m c) (W m c)
      ∧ r.2.mem (c.tc.loc main_v3) = val_main_v61 (F := Ideal) (D m c) (Z m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) := by
  refine (θ_run defs _ _).mono (fun r h c => ⟨?_, ?_, ?_, ?_, ?_⟩) (run_main m ρ)
  · exact ((h c).1 7).trans ((final7 m c).trans (res_dz m c))
  · refine ((h c).2 main_v3 (Pipeline.mem_restRefs_of main_v3 (by decide) (by decide))).trans (funext fun (y : S31x512.Idx) => ?_)
    obtain ⟨k, l, rfl⟩ : ∃ (k : Fin 31) (l : Fin 512), y = ix2 k l := ⟨y 0, y 1, eq_ix2 y⟩
    exact (host3 m c k l).trans (res_dw m c k l)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).1 6).trans (((dats m 0 c).arrAt_in 6 rfl _).trans ((A_eq m c 6).trans (V_main_arg2 m c)))

end Kernel

/-- The reference runs, changes no argument, and has no semaphore to leave raised. -/
theorem ref_frame : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩)
    (Cert.Reference9Ideal.Value.run m ρ)

/-- The program and the reference return the same gradients, at any arguments. -/
theorem algebraic : Cert.algebraic_Kernel9Ideal_Reference9Ideal (hKernel9Ideal := Cert.Kernel9Ideal.Gen.facts)
    (hReference9Ideal := Cert.Reference9Ideal.Gen.facts) := fun m ρ m' ρ' _ hag =>
  ⟨_, _, run m ρ,
    (θ_run Cert.Reference9Ideal.defs _ _).mono (fun _ h c => by
      obtain ⟨e0, e1, e2⟩ := hag c
      obtain ⟨r0, r1, rest⟩ := h c
      refine ⟨r0.trans ?_, r1.trans ?_, rest⟩
      · refine (val_main_v163_eq _).trans ?_
        exact (congrArg₂ (val_main_v163 (F := Ideal) · · _) e0 e1).trans (congrArg _ e2)
      · refine (val_main_v61_eq _).trans ?_
        exact congrArg₂ (val_main_v61 (F := Ideal)) e0 e1) (Cert.Reference9Ideal.Value.run m' ρ')⟩

end Cert.Conv

end
-- ==== Proof.lean ====
module

public import proofs.«01_k».proof.Defs
public import proofs.«01_k».proof.Proof.Gen.Kernel.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.FfnClaim
public import proofs.«01_k».proof.Proof.FinalClaim
public import proofs.«01_k».proof.Proof.NormClaim
public import proofs.«01_k».proof.Proof.ConvNormClaim
public import proofs.«01_k».proof.Proof.MixClaim
public import proofs.«01_k».proof.Proof.Norm3Claim
public import proofs.«01_k».proof.Proof.AdaClaim
public import proofs.«01_k».proof.Proof.ConvClaim

@[expose] public section

noncomputable section

namespace Cert.Proof

open Idealize.ShloMosaic Idealize.SL.Sem

/-- Every frame and every value claim holds. -/
theorem claim : Cert.Claim :=
  ⟨Cert.Kernel.Gen.facts,
    Cert.KernelIdeal.Gen.facts,
    Cert.ReferenceIdeal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Pre_finite.Gen.facts,
    Cert.Pre_finite3.Gen.facts,
    Cert.Pre_finite4.Gen.facts,
    Cert.Pre_finite5.Gen.facts,
    Cert.Pre_finite7.Gen.facts,
    fun m ρ _ => Cert.Kernel.Gen.frame m ρ,
    fun m ρ _ => Cert.KernelIdeal.Gen.frame m ρ,
    fun m ρ _ => Cert.KernelIdeal.Gen.frame m ρ,
    Cert.Ffn.ref_frame,
    fun m ρ _ => Cert.Ffn.ref_frame m ρ trivial,
    fun m ρ _ => Cert.Kernel3.Gen.frame m ρ,
    fun m ρ _ => Cert.Kernel3Ideal.Gen.frame m ρ,
    fun m ρ _ => Cert.Kernel3Ideal.Gen.frame m ρ,
    Cert.Final.ref_frame,
    fun m ρ _ => Cert.Final.ref_frame m ρ trivial,
    fun m ρ _ => Cert.Kernel4.Gen.frame m ρ,
    fun m ρ _ => Cert.Kernel4Ideal.Gen.frame m ρ,
    fun m ρ _ => Cert.Kernel4Ideal.Gen.frame m ρ,
    Cert.Norm.ref_frame,
    fun m ρ _ => Cert.Norm.ref_frame m ρ trivial,
    fun m ρ _ => Cert.Kernel5.Gen.frame m ρ,
    fun m ρ _ => Cert.Kernel5Ideal.Gen.frame m ρ,
    fun m ρ _ => Cert.Kernel5Ideal.Gen.frame m ρ,
    Cert.ConvNorm.ref_frame,
    fun m ρ _ => Cert.ConvNorm.ref_frame m ρ trivial,
    fun m ρ _ => Cert.Kernel6.Gen.frame m ρ,
    fun m ρ _ => Cert.Kernel6Ideal.Gen.frame m ρ,
    Cert.Mix.ref_frame,
    fun m ρ _ => Cert.Kernel7.Gen.frame m ρ,
    fun m ρ _ => Cert.Kernel7Ideal.Gen.frame m ρ,
    fun m ρ _ => Cert.Kernel7Ideal.Gen.frame m ρ,
    Cert.Norm3.ref_frame,
    fun m ρ _ => Cert.Norm3.ref_frame m ρ trivial,
    fun m ρ _ => Cert.Kernel8.Gen.frame m ρ,
    fun m ρ _ => Cert.Kernel8Ideal.Gen.frame m ρ,
    Cert.Ada.ref_frame,
    fun m ρ _ => Cert.Kernel9.Gen.frame m ρ,
    fun m ρ _ => Cert.Kernel9Ideal.Gen.frame m ρ,
    Cert.Conv.ref_frame,
    trivial,
    Cert.Ffn.algebraic,
    trivial,
    Cert.Final.algebraic,
    trivial,
    Cert.Norm.algebraic,
    trivial,
    Cert.ConvNorm.algebraic,
    trivial,
    Cert.Mix.algebraic,
    trivial,
    Cert.Norm3.algebraic,
    trivial,
    Cert.Ada.algebraic,
    trivial,
    Cert.Conv.algebraic⟩

end Cert.Proof

end
